-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_directions_decided [hPre_directions_decided : Cert.Pre_directions_decided.Facts] (m : (ℓ : Loc Cert.KernelIdeal.nD Cert.KernelIdeal.τ Cert.KernelIdeal.sig) → Buf (Elt Ideal) ℓ) : Prop :=
  ∀ c : Dev Cert.KernelIdeal.nD,
    (Cert.Pre_directions_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_directions_decided [hPre_directions_decided : Cert.Pre_directions_decided.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_directions_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_directions_decided [hKernelIdeal : Cert.KernelIdeal.Facts] [hPre_directions_decided : Cert.Pre_directions_decided.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_directions_decided m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_directions_decided [hReferenceIdeal : Cert.ReferenceIdeal.Facts] [hPre_directions_decided : Cert.Pre_directions_decided.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_directions_decided m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "g0" .f32 0x3ECE2434#32 ((3626478085609723 / 9007199254740992 : ℝ) : EReal)
  ∧ IdealRules.named_const.Statement Cert.KernelIdeal.κ "g1" .f32 0x3E7A0FEB#32 ((8798280582793093 / 36028797018963968 : ℝ) : EReal)
  ∧ IdealRules.named_const.Statement Cert.KernelIdeal.κ "g2" .f32 0x3D5F2F87#32 ((3926323510938887 / 72057594037927936 : ℝ) : EReal)
  ∧ IdealRules.sign_bit.Statement Cert.KernelIdeal.S528x512 .f32

def algebraic_KernelIdeal_ReferenceIdeal_pre_directions_decided [hKernelIdeal : Cert.KernelIdeal.Facts] [hReferenceIdeal : Cert.ReferenceIdeal.Facts] [hPre_directions_decided : Cert.Pre_directions_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_directions_decided m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v684) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_directions_decided : Cert.Pre_directions_decided.Facts),
    quiescent_Kernel (hKernel := hKernel)
    ∧ quiescent_KernelIdeal (hKernelIdeal := hKernelIdeal)
    ∧ quiescent_KernelIdeal_pre_directions_decided (hKernelIdeal := hKernelIdeal) (hPre_directions_decided := hPre_directions_decided)
    ∧ quiescent_ReferenceIdeal (hReferenceIdeal := hReferenceIdeal)
    ∧ quiescent_ReferenceIdeal_pre_directions_decided (hReferenceIdeal := hReferenceIdeal) (hPre_directions_decided := hPre_directions_decided)
    ∧ preserves_Kernel_KernelIdeal
    ∧ algebraic_KernelIdeal_ReferenceIdeal_pre_directions_decided (hKernelIdeal := hKernelIdeal) (hReferenceIdeal := hReferenceIdeal) (hPre_directions_decided := hPre_directions_decided)
-- ==== Pre_directions_decided.lean ====
abbrev S16x1x512x512 : Shape := ⟨4, ![16, 1, 512, 512]⟩
abbrev S_ : Shape := ⟨0, ![]⟩
abbrev S16x1x516x516 : Shape := ⟨4, ![16, 1, 516, 516]⟩
abbrev S16x1x514x514 : Shape := ⟨4, ![16, 1, 514, 514]⟩

class Facts : Prop where
  pads_S16x1x512x512_S16x1x516x516_000_000_220_220 : S16x1x512x512.Pads (![0, 0, 2, 2] : Fin 4 → Nat) ![0, 0, 2, 2] ![0, 0, 0, 0] S16x1x516x516
  h_S_ : 0 < S_.numel
  slices_S16x1x516x516_S16x1x512x512_0_0_0_0 : S16x1x516x516.Slices ![0, 0, 0, 0] S16x1x512x512
  bcast_S_S16x1x512x512 : S_.BroadcastsInDim S16x1x512x512 (![] : Fin 0 → Fin S16x1x512x512.rank)
  slices_S16x1x516x516_S16x1x512x512_0_0_0_1 : S16x1x516x516.Slices ![0, 0, 0, 1] S16x1x512x512
  slices_S16x1x516x516_S16x1x512x512_0_0_0_2 : S16x1x516x516.Slices ![0, 0, 0, 2] S16x1x512x512
  slices_S16x1x516x516_S16x1x512x512_0_0_0_3 : S16x1x516x516.Slices ![0, 0, 0, 3] S16x1x512x512
  slices_S16x1x516x516_S16x1x512x512_0_0_0_4 : S16x1x516x516.Slices ![0, 0, 0, 4] S16x1x512x512
  slices_S16x1x516x516_S16x1x512x512_0_0_1_0 : S16x1x516x516.Slices ![0, 0, 1, 0] S16x1x512x512
  slices_S16x1x516x516_S16x1x512x512_0_0_1_1 : S16x1x516x516.Slices ![0, 0, 1, 1] S16x1x512x512
  slices_S16x1x516x516_S16x1x512x512_0_0_1_2 : S16x1x516x516.Slices ![0, 0, 1, 2] S16x1x512x512
  slices_S16x1x516x516_S16x1x512x512_0_0_1_3 : S16x1x516x516.Slices ![0, 0, 1, 3] S16x1x512x512
  slices_S16x1x516x516_S16x1x512x512_0_0_1_4 : S16x1x516x516.Slices ![0, 0, 1, 4] S16x1x512x512
  slices_S16x1x516x516_S16x1x512x512_0_0_2_0 : S16x1x516x516.Slices ![0, 0, 2, 0] S16x1x512x512
  slices_S16x1x516x516_S16x1x512x512_0_0_2_1 : S16x1x516x516.Slices ![0, 0, 2, 1] S16x1x512x512
  slices_S16x1x516x516_S16x1x512x512_0_0_2_2 : S16x1x516x516.Slices ![0, 0, 2, 2] S16x1x512x512
  slices_S16x1x516x516_S16x1x512x512_0_0_2_3 : S16x1x516x516.Slices ![0, 0, 2, 3] S16x1x512x512
  slices_S16x1x516x516_S16x1x512x512_0_0_2_4 : S16x1x516x516.Slices ![0, 0, 2, 4] S16x1x512x512
  slices_S16x1x516x516_S16x1x512x512_0_0_3_0 : S16x1x516x516.Slices ![0, 0, 3, 0] S16x1x512x512
  slices_S16x1x516x516_S16x1x512x512_0_0_3_1 : S16x1x516x516.Slices ![0, 0, 3, 1] S16x1x512x512
  slices_S16x1x516x516_S16x1x512x512_0_0_3_2 : S16x1x516x516.Slices ![0, 0, 3, 2] S16x1x512x512
  slices_S16x1x516x516_S16x1x512x512_0_0_3_3 : S16x1x516x516.Slices ![0, 0, 3, 3] S16x1x512x512
  slices_S16x1x516x516_S16x1x512x512_0_0_3_4 : S16x1x516x516.Slices ![0, 0, 3, 4] S16x1x512x512
  slices_S16x1x516x516_S16x1x512x512_0_0_4_0 : S16x1x516x516.Slices ![0, 0, 4, 0] S16x1x512x512
  slices_S16x1x516x516_S16x1x512x512_0_0_4_1 : S16x1x516x516.Slices ![0, 0, 4, 1] S16x1x512x512
  slices_S16x1x516x516_S16x1x512x512_0_0_4_2 : S16x1x516x516.Slices ![0, 0, 4, 2] S16x1x512x512
  slices_S16x1x516x516_S16x1x512x512_0_0_4_3 : S16x1x516x516.Slices ![0, 0, 4, 3] S16x1x512x512
  slices_S16x1x516x516_S16x1x512x512_0_0_4_4 : S16x1x516x516.Slices ![0, 0, 4, 4] S16x1x512x512
  pads_S16x1x512x512_S16x1x514x514_000_000_110_110 : S16x1x512x512.Pads (![0, 0, 1, 1] : Fin 4 → Nat) ![0, 0, 1, 1] ![0, 0, 0, 0] S16x1x514x514
  slices_S16x1x514x514_S16x1x512x512_0_0_0_0 : S16x1x514x514.Slices ![0, 0, 0, 0] S16x1x512x512
  slices_S16x1x514x514_S16x1x512x512_0_0_0_2 : S16x1x514x514.Slices ![0, 0, 0, 2] S16x1x512x512
  slices_S16x1x514x514_S16x1x512x512_0_0_1_0 : S16x1x514x514.Slices ![0, 0, 1, 0] S16x1x512x512
  slices_S16x1x514x514_S16x1x512x512_0_0_1_2 : S16x1x514x514.Slices ![0, 0, 1, 2] S16x1x512x512
  slices_S16x1x514x514_S16x1x512x512_0_0_2_0 : S16x1x514x514.Slices ![0, 0, 2, 0] S16x1x512x512
  slices_S16x1x514x514_S16x1x512x512_0_0_2_2 : S16x1x514x514.Slices ![0, 0, 2, 2] S16x1x512x512
  slices_S16x1x514x514_S16x1x512x512_0_0_0_1 : S16x1x514x514.Slices ![0, 0, 0, 1] S16x1x512x512
  slices_S16x1x514x514_S16x1x512x512_0_0_2_1 : S16x1x514x514.Slices ![0, 0, 2, 1] S16x1x512x512

variable [Facts]

def fn_part37 {F : FTy → Type} [FloatOps F] (main_v292 : IVec S16x1x512x512 1) (main_v556 : IVec S16x1x512x512 1) (main_v579 : IVec S16x1x512x512 1) (main_v583 : IVec S16x1x512x512 1) : IVec S16x1x512x512 1 :=
  let main_v584 : IVec S16x1x512x512 1 := andi main_v583 main_v556
  let main_v585 : IVec S16x1x512x512 1 := andi main_v584 main_v579
  let main_v586 : IVec S16x1x512x512 1 := andi main_v292 main_v585
  main_v586

def fn_part36 {F : FTy → Type} [FloatOps F] (main_arg1 : FVec F S16x1x512x512 .f32) (main_v292 : IVec S16x1x512x512 1) (main_v516 : FVec F S16x1x512x512 .f32) (main_v540 : FVec F S16x1x512x512 .f32) (main_v549 : IVec S16x1x512x512 1) (main_v556 : IVec S16x1x512x512 1) (main_v557 : IVec S16x1x512x512 32) (main_v558 : IVec S16x1x512x512 32) (main_v563 : IVec S16x1x512x512 1) (main_v564 : IVec S16x1x512x512 32) : IVec S16x1x512x512 1 :=
  let main_v565 : IVec S16x1x512x512 1 := cmpi .eq main_v557 main_v564
  let main_c_297 : IVec S_ 32 := constantI S_ 32 0#32
  let main_v566 : IVec S16x1x512x512 32 := broadcastInDim S16x1x512x512 ![] bcast_S_S16x1x512x512 main_c_297
  let main_v567 : IVec S16x1x512x512 1 := cmpi .eq main_v558 main_v566
  let main_v568 : IVec S16x1x512x512 1 := andi main_v565 main_v567
  let main_v569 : IVec S16x1x512x512 1 := ori main_v563 main_v568
  let main_cst_298 : FVec F S_ .f32 := constant S_ .f32 0x00000000#32
  let main_v570 : FVec F S16x1x512x512 .f32 := broadcastInDim S16x1x512x512 ![] bcast_S_S16x1x512x512 main_cst_298
  let main_v571 : IVec S16x1x512x512 1 := cmpf .une main_v540 main_v570
  let main_cst_299 : FVec F S_ .f32 := constant S_ .f32 0x00000000#32
  let main_v572 : FVec F S16x1x512x512 .f32 := broadcastInDim S16x1x512x512 ![] bcast_S_S16x1x512x512 main_cst_299
  let main_v573 : IVec S16x1x512x512 1 := cmpf .ogt main_v516 main_v572
  let main_v574 : IVec S16x1x512x512 1 := ori main_v571 main_v573
  let main_cst_300 : FVec F S_ .f32 := constant S_ .f32 0x00000000#32
  let main_v575 : FVec F S16x1x512x512 .f32 := broadcastInDim S16x1x512x512 ![] bcast_S_S16x1x512x512 main_cst_300
  let main_v576 : IVec S16x1x512x512 1 := cmpf .oeq main_v516 main_v575
  let main_v577 : IVec S16x1x512x512 1 := noti main_v569
  let main_v578 : IVec S16x1x512x512 1 := andi main_v576 main_v577
  let main_v579 : IVec S16x1x512x512 1 := ori main_v574 main_v578
  let main_v580 : FVec F S16x1x512x512 .f32 := Host.absf main_arg1
  let main_cst_301 : FVec F S_ .f32 := constant S_ .f32 0x7F800000#32
  let main_v581 : FVec F S16x1x512x512 .f32 := broadcastInDim S16x1x512x512 ![] bcast_S_S16x1x512x512 main_cst_301
  let main_v582 : IVec S16x1x512x512 1 := cmpf .olt main_v580 main_v581
  let main_v583 : IVec S16x1x512x512 1 := andi main_v582 main_v549
  fn_part37 (F := F) main_v292 main_v556 main_v579 main_v583

def fn_part35 {F : FTy → Type} [FloatOps F] (main_arg1 : FVec F S16x1x512x512 .f32) (main_v292 : IVec S16x1x512x512 1) (main_v516 : FVec F S16x1x512x512 .f32) (main_v540 : FVec F S16x1x512x512 .f32) (main_v541 : FVec F S16x1x512x512 .f32) (main_v542 : FVec F S16x1x512x512 .f32) (main_v545 : IVec S16x1x512x512 1) (main_cst_291 : FVec F S_ .f32) : IVec S16x1x512x512 1 :=
  let main_v546 : FVec F S16x1x512x512 .f32 := broadcastInDim S16x1x512x512 ![] bcast_S_S16x1x512x512 main_cst_291
  let main_v547 : FVec F S16x1x512x512 .f32 := mulf main_v546 main_v541
  let main_v548 : IVec S16x1x512x512 1 := cmpf .oge main_v542 main_v547
  let main_v549 : IVec S16x1x512x512 1 := ori main_v545 main_v548
  let main_cst_292 : FVec F S_ .f32 := constant S_ .f32 0x401A8279#32
  let main_v550 : FVec F S16x1x512x512 .f32 := broadcastInDim S16x1x512x512 ![] bcast_S_S16x1x512x512 main_cst_292
  let main_v551 : FVec F S16x1x512x512 .f32 := mulf main_v550 main_v541
  let main_v552 : IVec S16x1x512x512 1 := cmpf .ole main_v542 main_v551
  let main_cst_293 : FVec F S_ .f32 := constant S_ .f32 0x401A827B#32
  let main_v553 : FVec F S16x1x512x512 .f32 := broadcastInDim S16x1x512x512 ![] bcast_S_S16x1x512x512 main_cst_293
  let main_v554 : FVec F S16x1x512x512 .f32 := mulf main_v553 main_v541
  let main_v555 : IVec S16x1x512x512 1 := cmpf .oge main_v542 main_v554
  let main_v556 : IVec S16x1x512x512 1 := ori main_v552 main_v555
  let main_v557 : IVec S16x1x512x512 32 := iotaInDim S16x1x512x512 32 2
  let main_v558 : IVec S16x1x512x512 32 := iotaInDim S16x1x512x512 32 3
  let main_c_294 : IVec S_ 32 := constantI S_ 32 0#32
  let main_v559 : IVec S16x1x512x512 32 := broadcastInDim S16x1x512x512 ![] bcast_S_S16x1x512x512 main_c_294
  let main_v560 : IVec S16x1x512x512 1 := cmpi .eq main_v557 main_v559
  let main_c_295 : IVec S_ 32 := constantI S_ 32 511#32
  let main_v561 : IVec S16x1x512x512 32 := broadcastInDim S16x1x512x512 ![] bcast_S_S16x1x512x512 main_c_295
  let main_v562 : IVec S16x1x512x512 1 := cmpi .eq main_v558 main_v561
  let main_v563 : IVec S16x1x512x512 1 := andi main_v560 main_v562
  let main_c_296 : IVec S_ 32 := constantI S_ 32 511#32
  let main_v564 : IVec S16x1x512x512 32 := broadcastInDim S16x1x512x512 ![] bcast_S_S16x1x512x512 main_c_296
  fn_part36 (F := F) main_arg1 main_v292 main_v516 main_v540 main_v549 main_v556 main_v557 main_v558 main_v563 main_v564

def fn_part34 {F : FTy → Type} [FloatOps F] (main_arg1 : FVec F S16x1x512x512 .f32) (main_v292 : IVec S16x1x512x512 1) (main_v516 : FVec F S16x1x512x512 .f32) (main_v517 : FVec F S16x1x514x514 .f32) (main_v524 : FVec F S16x1x512x512 .f32) (main_v525 : FVec F S16x1x512x512 .f32) (main_v526 : FVec F S16x1x512x512 .f32) : IVec S16x1x512x512 1 :=
  let main_v527 : FVec F S16x1x512x512 .f32 := mulf main_v526 main_v525
  let main_v528 : FVec F S16x1x512x512 .f32 := addf main_v524 main_v527
  let main_v529 : FVec F S16x1x512x512 .f32 := (extractStridedSlice S16x1x512x512 ![0, 0, 2, 0] · slices_S16x1x514x514_S16x1x512x512_0_0_2_0) main_v517
  let main_cst_287 : FVec F S_ .f32 := constant S_ .f32 0x3F800000#32
  let main_v530 : FVec F S16x1x512x512 .f32 := broadcastInDim S16x1x512x512 ![] bcast_S_S16x1x512x512 main_cst_287
  let main_v531 : FVec F S16x1x512x512 .f32 := mulf main_v530 main_v529
  let main_v532 : FVec F S16x1x512x512 .f32 := addf main_v528 main_v531
  let main_v533 : FVec F S16x1x512x512 .f32 := (extractStridedSlice S16x1x512x512 ![0, 0, 2, 1] · slices_S16x1x514x514_S16x1x512x512_0_0_2_1) main_v517
  let main_cst_288 : FVec F S_ .f32 := constant S_ .f32 0x40000000#32
  let main_v534 : FVec F S16x1x512x512 .f32 := broadcastInDim S16x1x512x512 ![] bcast_S_S16x1x512x512 main_cst_288
  let main_v535 : FVec F S16x1x512x512 .f32 := mulf main_v534 main_v533
  let main_v536 : FVec F S16x1x512x512 .f32 := addf main_v532 main_v535
  let main_v537 : FVec F S16x1x512x512 .f32 := (extractStridedSlice S16x1x512x512 ![0, 0, 2, 2] · slices_S16x1x514x514_S16x1x512x512_0_0_2_2) main_v517
  let main_cst_289 : FVec F S_ .f32 := constant S_ .f32 0x3F800000#32
  let main_v538 : FVec F S16x1x512x512 .f32 := broadcastInDim S16x1x512x512 ![] bcast_S_S16x1x512x512 main_cst_289
  let main_v539 : FVec F S16x1x512x512 .f32 := mulf main_v538 main_v537
  let main_v540 : FVec F S16x1x512x512 .f32 := addf main_v536 main_v539
  let main_v541 : FVec F S16x1x512x512 .f32 := Host.absf main_v516
  let main_v542 : FVec F S16x1x512x512 .f32 := Host.absf main_v540
  let main_cst_290 : FVec F S_ .f32 := constant S_ .f32 0x3ED413CC#32
  let main_v543 : FVec F S16x1x512x512 .f32 := broadcastInDim S16x1x512x512 ![] bcast_S_S16x1x512x512 main_cst_290
  let main_v544 : FVec F S16x1x512x512 .f32 := mulf main_v543 main_v541
  let main_v545 : IVec S16x1x512x512 1 := cmpf .ole main_v542 main_v544
  let main_cst_291 : FVec F S_ .f32 := constant S_ .f32 0x3ED413CF#32
  fn_part35 (F := F) main_arg1 main_v292 main_v516 main_v540 main_v541 main_v542 main_v545 main_cst_291

def fn_part33 {F : FTy → Type} [FloatOps F] (main_arg1 : FVec F S16x1x512x512 .f32) (main_v292 : IVec S16x1x512x512 1) (main_v492 : FVec F S16x1x512x512 .f32) (main_v493 : FVec F S16x1x514x514 .f32) (main_v508 : FVec F S16x1x512x512 .f32) : IVec S16x1x512x512 1 :=
  let main_v509 : FVec F S16x1x512x512 .f32 := (extractStridedSlice S16x1x512x512 ![0, 0, 2, 0] · slices_S16x1x514x514_S16x1x512x512_0_0_2_0) main_v493
  let main_cst_281 : FVec F S_ .f32 := constant S_ .f32 0xBF800000#32
  let main_v510 : FVec F S16x1x512x512 .f32 := broadcastInDim S16x1x512x512 ![] bcast_S_S16x1x512x512 main_cst_281
  let main_v511 : FVec F S16x1x512x512 .f32 := mulf main_v510 main_v509
  let main_v512 : FVec F S16x1x512x512 .f32 := addf main_v508 main_v511
  let main_v513 : FVec F S16x1x512x512 .f32 := (extractStridedSlice S16x1x512x512 ![0, 0, 2, 2] · slices_S16x1x514x514_S16x1x512x512_0_0_2_2) main_v493
  let main_cst_282 : FVec F S_ .f32 := constant S_ .f32 0x3F800000#32
  let main_v514 : FVec F S16x1x512x512 .f32 := broadcastInDim S16x1x512x512 ![] bcast_S_S16x1x512x512 main_cst_282
  let main_v515 : FVec F S16x1x512x512 .f32 := mulf main_v514 main_v513
  let main_v516 : FVec F S16x1x512x512 .f32 := addf main_v512 main_v515
  let main_cst_283 : FVec F S_ .f32 := constant S_ .f32 0x00000000#32
  let main_v517 : FVec F S16x1x514x514 .f32 := (fun x v => pad S16x1x514x514 ![0, 0, 1, 1] ![0, 0, 1, 1] ![0, 0, 0, 0] x v pads_S16x1x512x512_S16x1x514x514_000_000_110_110 h_S_) main_v492 main_cst_283
  let main_v518 : FVec F S16x1x512x512 .f32 := (extractStridedSlice S16x1x512x512 ![0, 0, 0, 0] · slices_S16x1x514x514_S16x1x512x512_0_0_0_0) main_v517
  let main_cst_284 : FVec F S_ .f32 := constant S_ .f32 0xBF800000#32
  let main_v519 : FVec F S16x1x512x512 .f32 := broadcastInDim S16x1x512x512 ![] bcast_S_S16x1x512x512 main_cst_284
  let main_v520 : FVec F S16x1x512x512 .f32 := mulf main_v519 main_v518
  let main_v521 : FVec F S16x1x512x512 .f32 := (extractStridedSlice S16x1x512x512 ![0, 0, 0, 1] · slices_S16x1x514x514_S16x1x512x512_0_0_0_1) main_v517
  let main_cst_285 : FVec F S_ .f32 := constant S_ .f32 0xC0000000#32
  let main_v522 : FVec F S16x1x512x512 .f32 := broadcastInDim S16x1x512x512 ![] bcast_S_S16x1x512x512 main_cst_285
  let main_v523 : FVec F S16x1x512x512 .f32 := mulf main_v522 main_v521
  let main_v524 : FVec F S16x1x512x512 .f32 := addf main_v520 main_v523
  let main_v525 : FVec F S16x1x512x512 .f32 := (extractStridedSlice S16x1x512x512 ![0, 0, 0, 2] · slices_S16x1x514x514_S16x1x512x512_0_0_0_2) main_v517
  let main_cst_286 : FVec F S_ .f32 := constant S_ .f32 0xBF800000#32
  let main_v526 : FVec F S16x1x512x512 .f32 := broadcastInDim S16x1x512x512 ![] bcast_S_S16x1x512x512 main_cst_286
  fn_part34 (F := F) main_arg1 main_v292 main_v516 main_v517 main_v524 main_v525 main_v526

def fn_part32 {F : FTy → Type} [FloatOps F] (main_arg1 : FVec F S16x1x512x512 .f32) (main_v292 : IVec S16x1x512x512 1) (main_v392 : FVec F S_ .f32) (main_v488 : FVec F S16x1x512x512 .f32) (main_v489 : FVec F S16x1x512x512 .f32) : IVec S16x1x512x512 1 :=
  let main_v490 : FVec F S16x1x512x512 .f32 := broadcastInDim S16x1x512x512 ![] bcast_S_S16x1x512x512 main_v392
  let main_v491 : FVec F S16x1x512x512 .f32 := mulf main_v490 main_v489
  let main_v492 : FVec F S16x1x512x512 .f32 := addf main_v488 main_v491
  let main_cst_276 : FVec F S_ .f32 := constant S_ .f32 0x00000000#32
  let main_v493 : FVec F S16x1x514x514 .f32 := (fun x v => pad S16x1x514x514 ![0, 0, 1, 1] ![0, 0, 1, 1] ![0, 0, 0, 0] x v pads_S16x1x512x512_S16x1x514x514_000_000_110_110 h_S_) main_v492 main_cst_276
  let main_v494 : FVec F S16x1x512x512 .f32 := (extractStridedSlice S16x1x512x512 ![0, 0, 0, 0] · slices_S16x1x514x514_S16x1x512x512_0_0_0_0) main_v493
  let main_cst_277 : FVec F S_ .f32 := constant S_ .f32 0xBF800000#32
  let main_v495 : FVec F S16x1x512x512 .f32 := broadcastInDim S16x1x512x512 ![] bcast_S_S16x1x512x512 main_cst_277
  let main_v496 : FVec F S16x1x512x512 .f32 := mulf main_v495 main_v494
  let main_v497 : FVec F S16x1x512x512 .f32 := (extractStridedSlice S16x1x512x512 ![0, 0, 0, 2] · slices_S16x1x514x514_S16x1x512x512_0_0_0_2) main_v493
  let main_cst_278 : FVec F S_ .f32 := constant S_ .f32 0x3F800000#32
  let main_v498 : FVec F S16x1x512x512 .f32 := broadcastInDim S16x1x512x512 ![] bcast_S_S16x1x512x512 main_cst_278
  let main_v499 : FVec F S16x1x512x512 .f32 := mulf main_v498 main_v497
  let main_v500 : FVec F S16x1x512x512 .f32 := addf main_v496 main_v499
  let main_v501 : FVec F S16x1x512x512 .f32 := (extractStridedSlice S16x1x512x512 ![0, 0, 1, 0] · slices_S16x1x514x514_S16x1x512x512_0_0_1_0) main_v493
  let main_cst_279 : FVec F S_ .f32 := constant S_ .f32 0xC0000000#32
  let main_v502 : FVec F S16x1x512x512 .f32 := broadcastInDim S16x1x512x512 ![] bcast_S_S16x1x512x512 main_cst_279
  let main_v503 : FVec F S16x1x512x512 .f32 := mulf main_v502 main_v501
  let main_v504 : FVec F S16x1x512x512 .f32 := addf main_v500 main_v503
  let main_v505 : FVec F S16x1x512x512 .f32 := (extractStridedSlice S16x1x512x512 ![0, 0, 1, 2] · slices_S16x1x514x514_S16x1x512x512_0_0_1_2) main_v493
  let main_cst_280 : FVec F S_ .f32 := constant S_ .f32 0x40000000#32
  let main_v506 : FVec F S16x1x512x512 .f32 := broadcastInDim S16x1x512x512 ![] bcast_S_S16x1x512x512 main_cst_280
  let main_v507 : FVec F S16x1x512x512 .f32 := mulf main_v506 main_v505
  let main_v508 : FVec F S16x1x512x512 .f32 := addf main_v504 main_v507
  fn_part33 (F := F) main_arg1 main_v292 main_v492 main_v493 main_v508

def fn_part31 {F : FTy → Type} [FloatOps F] (main_arg1 : FVec F S16x1x512x512 .f32) (main_v292 : IVec S16x1x512x512 1) (main_v368 : FVec F S_ .f32) (main_v384 : FVec F S_ .f32) (main_v388 : FVec F S_ .f32) (main_v392 : FVec F S_ .f32) (main_v393 : FVec F S16x1x516x516 .f32) (main_v464 : FVec F S16x1x512x512 .f32) (main_v465 : FVec F S16x1x512x512 .f32) : IVec S16x1x512x512 1 :=
  let main_v466 : FVec F S16x1x512x512 .f32 := broadcastInDim S16x1x512x512 ![] bcast_S_S16x1x512x512 main_v368
  let main_v467 : FVec F S16x1x512x512 .f32 := mulf main_v466 main_v465
  let main_v468 : FVec F S16x1x512x512 .f32 := addf main_v464 main_v467
  let main_v469 : FVec F S16x1x512x512 .f32 := (extractStridedSlice S16x1x512x512 ![0, 0, 3, 4] · slices_S16x1x516x516_S16x1x512x512_0_0_3_4) main_v393
  let main_v470 : FVec F S16x1x512x512 .f32 := broadcastInDim S16x1x512x512 ![] bcast_S_S16x1x512x512 main_v388
  let main_v471 : FVec F S16x1x512x512 .f32 := mulf main_v470 main_v469
  let main_v472 : FVec F S16x1x512x512 .f32 := addf main_v468 main_v471
  let main_v473 : FVec F S16x1x512x512 .f32 := (extractStridedSlice S16x1x512x512 ![0, 0, 4, 0] · slices_S16x1x516x516_S16x1x512x512_0_0_4_0) main_v393
  let main_v474 : FVec F S16x1x512x512 .f32 := broadcastInDim S16x1x512x512 ![] bcast_S_S16x1x512x512 main_v392
  let main_v475 : FVec F S16x1x512x512 .f32 := mulf main_v474 main_v473
  let main_v476 : FVec F S16x1x512x512 .f32 := addf main_v472 main_v475
  let main_v477 : FVec F S16x1x512x512 .f32 := (extractStridedSlice S16x1x512x512 ![0, 0, 4, 1] · slices_S16x1x516x516_S16x1x512x512_0_0_4_1) main_v393
  let main_v478 : FVec F S16x1x512x512 .f32 := broadcastInDim S16x1x512x512 ![] bcast_S_S16x1x512x512 main_v388
  let main_v479 : FVec F S16x1x512x512 .f32 := mulf main_v478 main_v477
  let main_v480 : FVec F S16x1x512x512 .f32 := addf main_v476 main_v479
  let main_v481 : FVec F S16x1x512x512 .f32 := (extractStridedSlice S16x1x512x512 ![0, 0, 4, 2] · slices_S16x1x516x516_S16x1x512x512_0_0_4_2) main_v393
  let main_v482 : FVec F S16x1x512x512 .f32 := broadcastInDim S16x1x512x512 ![] bcast_S_S16x1x512x512 main_v384
  let main_v483 : FVec F S16x1x512x512 .f32 := mulf main_v482 main_v481
  let main_v484 : FVec F S16x1x512x512 .f32 := addf main_v480 main_v483
  let main_v485 : FVec F S16x1x512x512 .f32 := (extractStridedSlice S16x1x512x512 ![0, 0, 4, 3] · slices_S16x1x516x516_S16x1x512x512_0_0_4_3) main_v393
  let main_v486 : FVec F S16x1x512x512 .f32 := broadcastInDim S16x1x512x512 ![] bcast_S_S16x1x512x512 main_v388
  let main_v487 : FVec F S16x1x512x512 .f32 := mulf main_v486 main_v485
  let main_v488 : FVec F S16x1x512x512 .f32 := addf main_v484 main_v487
  let main_v489 : FVec F S16x1x512x512 .f32 := (extractStridedSlice S16x1x512x512 ![0, 0, 4, 4] · slices_S16x1x516x516_S16x1x512x512_0_0_4_4) main_v393
  fn_part32 (F := F) main_arg1 main_v292 main_v392 main_v488 main_v489

def fn_part30 {F : FTy → Type} [FloatOps F] (main_arg1 : FVec F S16x1x512x512 .f32) (main_v292 : IVec S16x1x512x512 1) (main_v344 : FVec F S_ .f32) (main_v364 : FVec F S_ .f32) (main_v368 : FVec F S_ .f32) (main_v384 : FVec F S_ .f32) (main_v388 : FVec F S_ .f32) (main_v392 : FVec F S_ .f32) (main_v393 : FVec F S16x1x516x516 .f32) (main_v440 : FVec F S16x1x512x512 .f32) (main_v441 : FVec F S16x1x512x512 .f32) : IVec S16x1x512x512 1 :=
  let main_v442 : FVec F S16x1x512x512 .f32 := broadcastInDim S16x1x512x512 ![] bcast_S_S16x1x512x512 main_v344
  let main_v443 : FVec F S16x1x512x512 .f32 := mulf main_v442 main_v441
  let main_v444 : FVec F S16x1x512x512 .f32 := addf main_v440 main_v443
  let main_v445 : FVec F S16x1x512x512 .f32 := (extractStridedSlice S16x1x512x512 ![0, 0, 2, 3] · slices_S16x1x516x516_S16x1x512x512_0_0_2_3) main_v393
  let main_v446 : FVec F S16x1x512x512 .f32 := broadcastInDim S16x1x512x512 ![] bcast_S_S16x1x512x512 main_v364
  let main_v447 : FVec F S16x1x512x512 .f32 := mulf main_v446 main_v445
  let main_v448 : FVec F S16x1x512x512 .f32 := addf main_v444 main_v447
  let main_v449 : FVec F S16x1x512x512 .f32 := (extractStridedSlice S16x1x512x512 ![0, 0, 2, 4] · slices_S16x1x516x516_S16x1x512x512_0_0_2_4) main_v393
  let main_v450 : FVec F S16x1x512x512 .f32 := broadcastInDim S16x1x512x512 ![] bcast_S_S16x1x512x512 main_v384
  let main_v451 : FVec F S16x1x512x512 .f32 := mulf main_v450 main_v449
  let main_v452 : FVec F S16x1x512x512 .f32 := addf main_v448 main_v451
  let main_v453 : FVec F S16x1x512x512 .f32 := (extractStridedSlice S16x1x512x512 ![0, 0, 3, 0] · slices_S16x1x516x516_S16x1x512x512_0_0_3_0) main_v393
  let main_v454 : FVec F S16x1x512x512 .f32 := broadcastInDim S16x1x512x512 ![] bcast_S_S16x1x512x512 main_v388
  let main_v455 : FVec F S16x1x512x512 .f32 := mulf main_v454 main_v453
  let main_v456 : FVec F S16x1x512x512 .f32 := addf main_v452 main_v455
  let main_v457 : FVec F S16x1x512x512 .f32 := (extractStridedSlice S16x1x512x512 ![0, 0, 3, 1] · slices_S16x1x516x516_S16x1x512x512_0_0_3_1) main_v393
  let main_v458 : FVec F S16x1x512x512 .f32 := broadcastInDim S16x1x512x512 ![] bcast_S_S16x1x512x512 main_v368
  let main_v459 : FVec F S16x1x512x512 .f32 := mulf main_v458 main_v457
  let main_v460 : FVec F S16x1x512x512 .f32 := addf main_v456 main_v459
  let main_v461 : FVec F S16x1x512x512 .f32 := (extractStridedSlice S16x1x512x512 ![0, 0, 3, 2] · slices_S16x1x516x516_S16x1x512x512_0_0_3_2) main_v393
  let main_v462 : FVec F S16x1x512x512 .f32 := broadcastInDim S16x1x512x512 ![] bcast_S_S16x1x512x512 main_v364
  let main_v463 : FVec F S16x1x512x512 .f32 := mulf main_v462 main_v461
  let main_v464 : FVec F S16x1x512x512 .f32 := addf main_v460 main_v463
  let main_v465 : FVec F S16x1x512x512 .f32 := (extractStridedSlice S16x1x512x512 ![0, 0, 3, 3] · slices_S16x1x516x516_S16x1x512x512_0_0_3_3) main_v393
  fn_part31 (F := F) main_arg1 main_v292 main_v368 main_v384 main_v388 main_v392 main_v393 main_v464 main_v465

def fn_part29 {F : FTy → Type} [FloatOps F] (main_arg1 : FVec F S16x1x512x512 .f32) (main_v292 : IVec S16x1x512x512 1) (main_v344 : FVec F S_ .f32) (main_v364 : FVec F S_ .f32) (main_v368 : FVec F S_ .f32) (main_v384 : FVec F S_ .f32) (main_v388 : FVec F S_ .f32) (main_v392 : FVec F S_ .f32) (main_v393 : FVec F S16x1x516x516 .f32) (main_v416 : FVec F S16x1x512x512 .f32) (main_v417 : FVec F S16x1x512x512 .f32) : IVec S16x1x512x512 1 :=
  let main_v418 : FVec F S16x1x512x512 .f32 := broadcastInDim S16x1x512x512 ![] bcast_S_S16x1x512x512 main_v368
  let main_v419 : FVec F S16x1x512x512 .f32 := mulf main_v418 main_v417
  let main_v420 : FVec F S16x1x512x512 .f32 := addf main_v416 main_v419
  let main_v421 : FVec F S16x1x512x512 .f32 := (extractStridedSlice S16x1x512x512 ![0, 0, 1, 2] · slices_S16x1x516x516_S16x1x512x512_0_0_1_2) main_v393
  let main_v422 : FVec F S16x1x512x512 .f32 := broadcastInDim S16x1x512x512 ![] bcast_S_S16x1x512x512 main_v364
  let main_v423 : FVec F S16x1x512x512 .f32 := mulf main_v422 main_v421
  let main_v424 : FVec F S16x1x512x512 .f32 := addf main_v420 main_v423
  let main_v425 : FVec F S16x1x512x512 .f32 := (extractStridedSlice S16x1x512x512 ![0, 0, 1, 3] · slices_S16x1x516x516_S16x1x512x512_0_0_1_3) main_v393
  let main_v426 : FVec F S16x1x512x512 .f32 := broadcastInDim S16x1x512x512 ![] bcast_S_S16x1x512x512 main_v368
  let main_v427 : FVec F S16x1x512x512 .f32 := mulf main_v426 main_v425
  let main_v428 : FVec F S16x1x512x512 .f32 := addf main_v424 main_v427
  let main_v429 : FVec F S16x1x512x512 .f32 := (extractStridedSlice S16x1x512x512 ![0, 0, 1, 4] · slices_S16x1x516x516_S16x1x512x512_0_0_1_4) main_v393
  let main_v430 : FVec F S16x1x512x512 .f32 := broadcastInDim S16x1x512x512 ![] bcast_S_S16x1x512x512 main_v388
  let main_v431 : FVec F S16x1x512x512 .f32 := mulf main_v430 main_v429
  let main_v432 : FVec F S16x1x512x512 .f32 := addf main_v428 main_v431
  let main_v433 : FVec F S16x1x512x512 .f32 := (extractStridedSlice S16x1x512x512 ![0, 0, 2, 0] · slices_S16x1x516x516_S16x1x512x512_0_0_2_0) main_v393
  let main_v434 : FVec F S16x1x512x512 .f32 := broadcastInDim S16x1x512x512 ![] bcast_S_S16x1x512x512 main_v384
  let main_v435 : FVec F S16x1x512x512 .f32 := mulf main_v434 main_v433
  let main_v436 : FVec F S16x1x512x512 .f32 := addf main_v432 main_v435
  let main_v437 : FVec F S16x1x512x512 .f32 := (extractStridedSlice S16x1x512x512 ![0, 0, 2, 1] · slices_S16x1x516x516_S16x1x512x512_0_0_2_1) main_v393
  let main_v438 : FVec F S16x1x512x512 .f32 := broadcastInDim S16x1x512x512 ![] bcast_S_S16x1x512x512 main_v364
  let main_v439 : FVec F S16x1x512x512 .f32 := mulf main_v438 main_v437
  let main_v440 : FVec F S16x1x512x512 .f32 := addf main_v436 main_v439
  let main_v441 : FVec F S16x1x512x512 .f32 := (extractStridedSlice S16x1x512x512 ![0, 0, 2, 2] · slices_S16x1x516x516_S16x1x512x512_0_0_2_2) main_v393
  fn_part30 (F := F) main_arg1 main_v292 main_v344 main_v364 main_v368 main_v384 main_v388 main_v392 main_v393 main_v440 main_v441

def fn_part28 {F : FTy → Type} [FloatOps F] (main_arg1 : FVec F S16x1x512x512 .f32) (main_v292 : IVec S16x1x512x512 1) (main_v344 : FVec F S_ .f32) (main_v364 : FVec F S_ .f32) (main_v368 : FVec F S_ .f32) (main_v384 : FVec F S_ .f32) (main_v388 : FVec F S_ .f32) (main_v392 : FVec F S_ .f32) (main_v393 : FVec F S16x1x516x516 .f32) : IVec S16x1x512x512 1 :=
  let main_v394 : FVec F S16x1x512x512 .f32 := (extractStridedSlice S16x1x512x512 ![0, 0, 0, 0] · slices_S16x1x516x516_S16x1x512x512_0_0_0_0) main_v393
  let main_v395 : FVec F S16x1x512x512 .f32 := broadcastInDim S16x1x512x512 ![] bcast_S_S16x1x512x512 main_v392
  let main_v396 : FVec F S16x1x512x512 .f32 := mulf main_v395 main_v394
  let main_v397 : FVec F S16x1x512x512 .f32 := (extractStridedSlice S16x1x512x512 ![0, 0, 0, 1] · slices_S16x1x516x516_S16x1x512x512_0_0_0_1) main_v393
  let main_v398 : FVec F S16x1x512x512 .f32 := broadcastInDim S16x1x512x512 ![] bcast_S_S16x1x512x512 main_v388
  let main_v399 : FVec F S16x1x512x512 .f32 := mulf main_v398 main_v397
  let main_v400 : FVec F S16x1x512x512 .f32 := addf main_v396 main_v399
  let main_v401 : FVec F S16x1x512x512 .f32 := (extractStridedSlice S16x1x512x512 ![0, 0, 0, 2] · slices_S16x1x516x516_S16x1x512x512_0_0_0_2) main_v393
  let main_v402 : FVec F S16x1x512x512 .f32 := broadcastInDim S16x1x512x512 ![] bcast_S_S16x1x512x512 main_v384
  let main_v403 : FVec F S16x1x512x512 .f32 := mulf main_v402 main_v401
  let main_v404 : FVec F S16x1x512x512 .f32 := addf main_v400 main_v403
  let main_v405 : FVec F S16x1x512x512 .f32 := (extractStridedSlice S16x1x512x512 ![0, 0, 0, 3] · slices_S16x1x516x516_S16x1x512x512_0_0_0_3) main_v393
  let main_v406 : FVec F S16x1x512x512 .f32 := broadcastInDim S16x1x512x512 ![] bcast_S_S16x1x512x512 main_v388
  let main_v407 : FVec F S16x1x512x512 .f32 := mulf main_v406 main_v405
  let main_v408 : FVec F S16x1x512x512 .f32 := addf main_v404 main_v407
  let main_v409 : FVec F S16x1x512x512 .f32 := (extractStridedSlice S16x1x512x512 ![0, 0, 0, 4] · slices_S16x1x516x516_S16x1x512x512_0_0_0_4) main_v393
  let main_v410 : FVec F S16x1x512x512 .f32 := broadcastInDim S16x1x512x512 ![] bcast_S_S16x1x512x512 main_v392
  let main_v411 : FVec F S16x1x512x512 .f32 := mulf main_v410 main_v409
  let main_v412 : FVec F S16x1x512x512 .f32 := addf main_v408 main_v411
  let main_v413 : FVec F S16x1x512x512 .f32 := (extractStridedSlice S16x1x512x512 ![0, 0, 1, 0] · slices_S16x1x516x516_S16x1x512x512_0_0_1_0) main_v393
  let main_v414 : FVec F S16x1x512x512 .f32 := broadcastInDim S16x1x512x512 ![] bcast_S_S16x1x512x512 main_v388
  let main_v415 : FVec F S16x1x512x512 .f32 := mulf main_v414 main_v413
  let main_v416 : FVec F S16x1x512x512 .f32 := addf main_v412 main_v415
  let main_v417 : FVec F S16x1x512x512 .f32 := (extractStridedSlice S16x1x512x512 ![0, 0, 1, 1] · slices_S16x1x516x516_S16x1x512x512_0_0_1_1) main_v393
  fn_part29 (F := F) main_arg1 main_v292 main_v344 main_v364 main_v368 main_v384 main_v388 main_v392 main_v393 main_v416 main_v417

def fn_part27 {F : FTy → Type} [FloatOps F] (main_arg1 : FVec F S16x1x512x512 .f32) (main_v292 : IVec S16x1x512x512 1) (main_v344 : FVec F S_ .f32) (main_v364 : FVec F S_ .f32) (main_v368 : FVec F S_ .f32) (main_v382 : FVec F S_ .f32) : IVec S16x1x512x512 1 :=
  let main_cst_263 : FVec F S_ .f32 := constant S_ .f32 0x16335DBC#32
  let main_v383 : FVec F S_ .f32 := addf main_v382 main_cst_263
  let main_cst_264 : FVec F S_ .f32 := constant S_ .f32 0x89C00000#32
  let main_v384 : FVec F S_ .f32 := addf main_v383 main_cst_264
  let main_cst_265 : FVec F S_ .f32 := constant S_ .f32 0x3C5A024A#32
  let main_cst_266 : FVec F S_ .f32 := constant S_ .f32 0x2EA19856#32
  let main_v385 : FVec F S_ .f32 := addf main_cst_265 main_cst_266
  let main_cst_267 : FVec F S_ .f32 := constant S_ .f32 0xA17B70F6#32
  let main_v386 : FVec F S_ .f32 := addf main_v385 main_cst_267
  let main_cst_268 : FVec F S_ .f32 := constant S_ .f32 0x145F7AD2#32
  let main_v387 : FVec F S_ .f32 := addf main_v386 main_cst_268
  let main_cst_269 : FVec F S_ .f32 := constant S_ .f32 0x88000000#32
  let main_v388 : FVec F S_ .f32 := addf main_v387 main_cst_269
  let main_cst_270 : FVec F S_ .f32 := constant S_ .f32 0x3B4293D6#32
  let main_cst_271 : FVec F S_ .f32 := constant S_ .f32 0xAE3BDBF2#32
  let main_v389 : FVec F S_ .f32 := addf main_cst_270 main_cst_271
  let main_cst_272 : FVec F S_ .f32 := constant S_ .f32 0x213E7FA0#32
  let main_v390 : FVec F S_ .f32 := addf main_v389 main_cst_272
  let main_cst_273 : FVec F S_ .f32 := constant S_ .f32 0x948AE93A#32
  let main_v391 : FVec F S_ .f32 := addf main_v390 main_cst_273
  let main_cst_274 : FVec F S_ .f32 := constant S_ .f32 0x07800000#32
  let main_v392 : FVec F S_ .f32 := addf main_v391 main_cst_274
  let main_cst_275 : FVec F S_ .f32 := constant S_ .f32 0x00000000#32
  let main_v393 : FVec F S16x1x516x516 .f32 := (fun x v => pad S16x1x516x516 ![0, 0, 2, 2] ![0, 0, 2, 2] ![0, 0, 0, 0] x v pads_S16x1x512x512_S16x1x516x516_000_000_220_220 h_S_) main_arg1 main_cst_275
  fn_part28 (F := F) main_arg1 main_v292 main_v344 main_v364 main_v368 main_v384 main_v388 main_v392 main_v393

def fn_part26 {F : FTy → Type} [FloatOps F] (main_arg1 : FVec F S16x1x512x512 .f32) (main_v292 : IVec S16x1x512x512 1) (main_v344 : FVec F S_ .f32) (main_v364 : FVec F S_ .f32) (main_v368 : FVec F S_ .f32) (main_v371 : FVec F S_ .f32) (main_cst_249 : FVec F S_ .f32) : IVec S16x1x512x512 1 :=
  let main_v372 : FVec F S_ .f32 := addf main_v371 main_cst_249
  let main_cst_250 : FVec F S_ .f32 := constant S_ .f32 0x3B4293D6#32
  let main_cst_251 : FVec F S_ .f32 := constant S_ .f32 0xAE3BDBF2#32
  let main_v373 : FVec F S_ .f32 := addf main_cst_250 main_cst_251
  let main_cst_252 : FVec F S_ .f32 := constant S_ .f32 0x213E7FA0#32
  let main_v374 : FVec F S_ .f32 := addf main_v373 main_cst_252
  let main_cst_253 : FVec F S_ .f32 := constant S_ .f32 0x948AE93A#32
  let main_v375 : FVec F S_ .f32 := addf main_v374 main_cst_253
  let main_cst_254 : FVec F S_ .f32 := constant S_ .f32 0x07800000#32
  let main_v376 : FVec F S_ .f32 := addf main_v375 main_cst_254
  let main_cst_255 : FVec F S_ .f32 := constant S_ .f32 0x3C5A024A#32
  let main_cst_256 : FVec F S_ .f32 := constant S_ .f32 0x2EA19856#32
  let main_v377 : FVec F S_ .f32 := addf main_cst_255 main_cst_256
  let main_cst_257 : FVec F S_ .f32 := constant S_ .f32 0xA17B70F6#32
  let main_v378 : FVec F S_ .f32 := addf main_v377 main_cst_257
  let main_cst_258 : FVec F S_ .f32 := constant S_ .f32 0x145F7AD2#32
  let main_v379 : FVec F S_ .f32 := addf main_v378 main_cst_258
  let main_cst_259 : FVec F S_ .f32 := constant S_ .f32 0x88000000#32
  let main_v380 : FVec F S_ .f32 := addf main_v379 main_cst_259
  let main_cst_260 : FVec F S_ .f32 := constant S_ .f32 0x3CB3B7CE#32
  let main_cst_261 : FVec F S_ .f32 := constant S_ .f32 0x2FF07155#32
  let main_v381 : FVec F S_ .f32 := addf main_cst_260 main_cst_261
  let main_cst_262 : FVec F S_ .f32 := constant S_ .f32 0xA2982750#32
  let main_v382 : FVec F S_ .f32 := addf main_v381 main_cst_262
  fn_part27 (F := F) main_arg1 main_v292 main_v344 main_v364 main_v368 main_v382

def fn_part25 {F : FTy → Type} [FloatOps F] (main_arg1 : FVec F S16x1x512x512 .f32) (main_v292 : IVec S16x1x512x512 1) (main_v344 : FVec F S_ .f32) (main_cst_235 : FVec F S_ .f32) (main_cst_236 : FVec F S_ .f32) : IVec S16x1x512x512 1 :=
  let main_v361 : FVec F S_ .f32 := addf main_cst_235 main_cst_236
  let main_cst_237 : FVec F S_ .f32 := constant S_ .f32 0x24CD6A8D#32
  let main_v362 : FVec F S_ .f32 := addf main_v361 main_cst_237
  let main_cst_238 : FVec F S_ .f32 := constant S_ .f32 0x9814EEA2#32
  let main_v363 : FVec F S_ .f32 := addf main_v362 main_cst_238
  let main_cst_239 : FVec F S_ .f32 := constant S_ .f32 0x8BC80000#32
  let main_v364 : FVec F S_ .f32 := addf main_v363 main_cst_239
  let main_cst_240 : FVec F S_ .f32 := constant S_ .f32 0x3D744317#32
  let main_cst_241 : FVec F S_ .f32 := constant S_ .f32 0x3093C9E6#32
  let main_v365 : FVec F S_ .f32 := addf main_cst_240 main_cst_241
  let main_cst_242 : FVec F S_ .f32 := constant S_ .f32 0xA3F0BF8A#32
  let main_v366 : FVec F S_ .f32 := addf main_v365 main_cst_242
  let main_cst_243 : FVec F S_ .f32 := constant S_ .f32 0x1709BE2C#32
  let main_v367 : FVec F S_ .f32 := addf main_v366 main_cst_243
  let main_cst_244 : FVec F S_ .f32 := constant S_ .f32 0x0AC80000#32
  let main_v368 : FVec F S_ .f32 := addf main_v367 main_cst_244
  let main_cst_245 : FVec F S_ .f32 := constant S_ .f32 0x3C5A024A#32
  let main_cst_246 : FVec F S_ .f32 := constant S_ .f32 0x2EA19856#32
  let main_v369 : FVec F S_ .f32 := addf main_cst_245 main_cst_246
  let main_cst_247 : FVec F S_ .f32 := constant S_ .f32 0xA17B70F6#32
  let main_v370 : FVec F S_ .f32 := addf main_v369 main_cst_247
  let main_cst_248 : FVec F S_ .f32 := constant S_ .f32 0x145F7AD2#32
  let main_v371 : FVec F S_ .f32 := addf main_v370 main_cst_248
  let main_cst_249 : FVec F S_ .f32 := constant S_ .f32 0x88000000#32
  fn_part26 (F := F) main_arg1 main_v292 main_v344 main_v364 main_v368 main_v371 main_cst_249

def fn_part24 {F : FTy → Type} [FloatOps F] (main_arg1 : FVec F S16x1x512x512 .f32) (main_v292 : IVec S16x1x512x512 1) (main_v344 : FVec F S_ .f32) (main_v350 : FVec F S_ .f32) : IVec S16x1x512x512 1 :=
  let main_cst_223 : FVec F S_ .f32 := constant S_ .f32 0x16335DBC#32
  let main_v351 : FVec F S_ .f32 := addf main_v350 main_cst_223
  let main_cst_224 : FVec F S_ .f32 := constant S_ .f32 0x89C00000#32
  let main_v352 : FVec F S_ .f32 := addf main_v351 main_cst_224
  let main_cst_225 : FVec F S_ .f32 := constant S_ .f32 0x3C5A024A#32
  let main_cst_226 : FVec F S_ .f32 := constant S_ .f32 0x2EA19856#32
  let main_v353 : FVec F S_ .f32 := addf main_cst_225 main_cst_226
  let main_cst_227 : FVec F S_ .f32 := constant S_ .f32 0xA17B70F6#32
  let main_v354 : FVec F S_ .f32 := addf main_v353 main_cst_227
  let main_cst_228 : FVec F S_ .f32 := constant S_ .f32 0x145F7AD2#32
  let main_v355 : FVec F S_ .f32 := addf main_v354 main_cst_228
  let main_cst_229 : FVec F S_ .f32 := constant S_ .f32 0x88000000#32
  let main_v356 : FVec F S_ .f32 := addf main_v355 main_cst_229
  let main_cst_230 : FVec F S_ .f32 := constant S_ .f32 0x3D744317#32
  let main_cst_231 : FVec F S_ .f32 := constant S_ .f32 0x3093C9E6#32
  let main_v357 : FVec F S_ .f32 := addf main_cst_230 main_cst_231
  let main_cst_232 : FVec F S_ .f32 := constant S_ .f32 0xA3F0BF8A#32
  let main_v358 : FVec F S_ .f32 := addf main_v357 main_cst_232
  let main_cst_233 : FVec F S_ .f32 := constant S_ .f32 0x1709BE2C#32
  let main_v359 : FVec F S_ .f32 := addf main_v358 main_cst_233
  let main_cst_234 : FVec F S_ .f32 := constant S_ .f32 0x0AC80000#32
  let main_v360 : FVec F S_ .f32 := addf main_v359 main_cst_234
  let main_cst_235 : FVec F S_ .f32 := constant S_ .f32 0x3DC95C2B#32
  let main_cst_236 : FVec F S_ .f32 := constant S_ .f32 0x317ACD85#32
  fn_part25 (F := F) main_arg1 main_v292 main_v344 main_cst_235 main_cst_236

def fn_part23 {F : FTy → Type} [FloatOps F] (main_arg1 : FVec F S16x1x512x512 .f32) (main_v292 : IVec S16x1x512x512 1) (main_v339 : FVec F S_ .f32) (main_cst_209 : FVec F S_ .f32) : IVec S16x1x512x512 1 :=
  let main_v340 : FVec F S_ .f32 := addf main_v339 main_cst_209
  let main_cst_210 : FVec F S_ .f32 := constant S_ .f32 0x3E25FE48#32
  let main_cst_211 : FVec F S_ .f32 := constant S_ .f32 0x3158551D#32
  let main_v341 : FVec F S_ .f32 := addf main_cst_210 main_cst_211
  let main_cst_212 : FVec F S_ .f32 := constant S_ .f32 0x24AAE23D#32
  let main_v342 : FVec F S_ .f32 := addf main_v341 main_cst_212
  let main_cst_213 : FVec F S_ .f32 := constant S_ .f32 0x17B500C3#32
  let main_v343 : FVec F S_ .f32 := addf main_v342 main_cst_213
  let main_cst_214 : FVec F S_ .f32 := constant S_ .f32 0x0A800000#32
  let main_v344 : FVec F S_ .f32 := addf main_v343 main_cst_214
  let main_cst_215 : FVec F S_ .f32 := constant S_ .f32 0x3DC95C2B#32
  let main_cst_216 : FVec F S_ .f32 := constant S_ .f32 0x317ACD85#32
  let main_v345 : FVec F S_ .f32 := addf main_cst_215 main_cst_216
  let main_cst_217 : FVec F S_ .f32 := constant S_ .f32 0x24CD6A8D#32
  let main_v346 : FVec F S_ .f32 := addf main_v345 main_cst_217
  let main_cst_218 : FVec F S_ .f32 := constant S_ .f32 0x9814EEA2#32
  let main_v347 : FVec F S_ .f32 := addf main_v346 main_cst_218
  let main_cst_219 : FVec F S_ .f32 := constant S_ .f32 0x8BC80000#32
  let main_v348 : FVec F S_ .f32 := addf main_v347 main_cst_219
  let main_cst_220 : FVec F S_ .f32 := constant S_ .f32 0x3CB3B7CE#32
  let main_cst_221 : FVec F S_ .f32 := constant S_ .f32 0x2FF07155#32
  let main_v349 : FVec F S_ .f32 := addf main_cst_220 main_cst_221
  let main_cst_222 : FVec F S_ .f32 := constant S_ .f32 0xA2982750#32
  let main_v350 : FVec F S_ .f32 := addf main_v349 main_cst_222
  fn_part24 (F := F) main_arg1 main_v292 main_v344 main_v350

def fn_part22 {F : FTy → Type} [FloatOps F] (main_arg1 : FVec F S16x1x512x512 .f32) (main_v292 : IVec S16x1x512x512 1) (main_cst_195 : FVec F S_ .f32) (main_cst_196 : FVec F S_ .f32) : IVec S16x1x512x512 1 :=
  let main_v329 : FVec F S_ .f32 := addf main_cst_195 main_cst_196
  let main_cst_197 : FVec F S_ .f32 := constant S_ .f32 0xA17B70F6#32
  let main_v330 : FVec F S_ .f32 := addf main_v329 main_cst_197
  let main_cst_198 : FVec F S_ .f32 := constant S_ .f32 0x145F7AD2#32
  let main_v331 : FVec F S_ .f32 := addf main_v330 main_cst_198
  let main_cst_199 : FVec F S_ .f32 := constant S_ .f32 0x88000000#32
  let main_v332 : FVec F S_ .f32 := addf main_v331 main_cst_199
  let main_cst_200 : FVec F S_ .f32 := constant S_ .f32 0x3CB3B7CE#32
  let main_cst_201 : FVec F S_ .f32 := constant S_ .f32 0x2FF07155#32
  let main_v333 : FVec F S_ .f32 := addf main_cst_200 main_cst_201
  let main_cst_202 : FVec F S_ .f32 := constant S_ .f32 0xA2982750#32
  let main_v334 : FVec F S_ .f32 := addf main_v333 main_cst_202
  let main_cst_203 : FVec F S_ .f32 := constant S_ .f32 0x16335DBC#32
  let main_v335 : FVec F S_ .f32 := addf main_v334 main_cst_203
  let main_cst_204 : FVec F S_ .f32 := constant S_ .f32 0x89C00000#32
  let main_v336 : FVec F S_ .f32 := addf main_v335 main_cst_204
  let main_cst_205 : FVec F S_ .f32 := constant S_ .f32 0x3DC95C2B#32
  let main_cst_206 : FVec F S_ .f32 := constant S_ .f32 0x317ACD85#32
  let main_v337 : FVec F S_ .f32 := addf main_cst_205 main_cst_206
  let main_cst_207 : FVec F S_ .f32 := constant S_ .f32 0x24CD6A8D#32
  let main_v338 : FVec F S_ .f32 := addf main_v337 main_cst_207
  let main_cst_208 : FVec F S_ .f32 := constant S_ .f32 0x9814EEA2#32
  let main_v339 : FVec F S_ .f32 := addf main_v338 main_cst_208
  let main_cst_209 : FVec F S_ .f32 := constant S_ .f32 0x8BC80000#32
  fn_part23 (F := F) main_arg1 main_v292 main_v339 main_cst_209

def fn_part21 {F : FTy → Type} [FloatOps F] (main_arg1 : FVec F S16x1x512x512 .f32) (main_v292 : IVec S16x1x512x512 1) (main_v318 : FVec F S_ .f32) : IVec S16x1x512x512 1 :=
  let main_cst_183 : FVec F S_ .f32 := constant S_ .f32 0x1709BE2C#32
  let main_v319 : FVec F S_ .f32 := addf main_v318 main_cst_183
  let main_cst_184 : FVec F S_ .f32 := constant S_ .f32 0x0AC80000#32
  let main_v320 : FVec F S_ .f32 := addf main_v319 main_cst_184
  let main_cst_185 : FVec F S_ .f32 := constant S_ .f32 0x3DC95C2B#32
  let main_cst_186 : FVec F S_ .f32 := constant S_ .f32 0x317ACD85#32
  let main_v321 : FVec F S_ .f32 := addf main_cst_185 main_cst_186
  let main_cst_187 : FVec F S_ .f32 := constant S_ .f32 0x24CD6A8D#32
  let main_v322 : FVec F S_ .f32 := addf main_v321 main_cst_187
  let main_cst_188 : FVec F S_ .f32 := constant S_ .f32 0x9814EEA2#32
  let main_v323 : FVec F S_ .f32 := addf main_v322 main_cst_188
  let main_cst_189 : FVec F S_ .f32 := constant S_ .f32 0x8BC80000#32
  let main_v324 : FVec F S_ .f32 := addf main_v323 main_cst_189
  let main_cst_190 : FVec F S_ .f32 := constant S_ .f32 0x3D744317#32
  let main_cst_191 : FVec F S_ .f32 := constant S_ .f32 0x3093C9E6#32
  let main_v325 : FVec F S_ .f32 := addf main_cst_190 main_cst_191
  let main_cst_192 : FVec F S_ .f32 := constant S_ .f32 0xA3F0BF8A#32
  let main_v326 : FVec F S_ .f32 := addf main_v325 main_cst_192
  let main_cst_193 : FVec F S_ .f32 := constant S_ .f32 0x1709BE2C#32
  let main_v327 : FVec F S_ .f32 := addf main_v326 main_cst_193
  let main_cst_194 : FVec F S_ .f32 := constant S_ .f32 0x0AC80000#32
  let main_v328 : FVec F S_ .f32 := addf main_v327 main_cst_194
  let main_cst_195 : FVec F S_ .f32 := constant S_ .f32 0x3C5A024A#32
  let main_cst_196 : FVec F S_ .f32 := constant S_ .f32 0x2EA19856#32
  fn_part22 (F := F) main_arg1 main_v292 main_cst_195 main_cst_196

def fn_part20 {F : FTy → Type} [FloatOps F] (main_arg1 : FVec F S16x1x512x512 .f32) (main_v292 : IVec S16x1x512x512 1) (main_v307 : FVec F S_ .f32) (main_cst_169 : FVec F S_ .f32) : IVec S16x1x512x512 1 :=
  let main_v308 : FVec F S_ .f32 := addf main_v307 main_cst_169
  let main_cst_170 : FVec F S_ .f32 := constant S_ .f32 0x3B4293D6#32
  let main_cst_171 : FVec F S_ .f32 := constant S_ .f32 0xAE3BDBF2#32
  let main_v309 : FVec F S_ .f32 := addf main_cst_170 main_cst_171
  let main_cst_172 : FVec F S_ .f32 := constant S_ .f32 0x213E7FA0#32
  let main_v310 : FVec F S_ .f32 := addf main_v309 main_cst_172
  let main_cst_173 : FVec F S_ .f32 := constant S_ .f32 0x948AE93A#32
  let main_v311 : FVec F S_ .f32 := addf main_v310 main_cst_173
  let main_cst_174 : FVec F S_ .f32 := constant S_ .f32 0x07800000#32
  let main_v312 : FVec F S_ .f32 := addf main_v311 main_cst_174
  let main_cst_175 : FVec F S_ .f32 := constant S_ .f32 0x3C5A024A#32
  let main_cst_176 : FVec F S_ .f32 := constant S_ .f32 0x2EA19856#32
  let main_v313 : FVec F S_ .f32 := addf main_cst_175 main_cst_176
  let main_cst_177 : FVec F S_ .f32 := constant S_ .f32 0xA17B70F6#32
  let main_v314 : FVec F S_ .f32 := addf main_v313 main_cst_177
  let main_cst_178 : FVec F S_ .f32 := constant S_ .f32 0x145F7AD2#32
  let main_v315 : FVec F S_ .f32 := addf main_v314 main_cst_178
  let main_cst_179 : FVec F S_ .f32 := constant S_ .f32 0x88000000#32
  let main_v316 : FVec F S_ .f32 := addf main_v315 main_cst_179
  let main_cst_180 : FVec F S_ .f32 := constant S_ .f32 0x3D744317#32
  let main_cst_181 : FVec F S_ .f32 := constant S_ .f32 0x3093C9E6#32
  let main_v317 : FVec F S_ .f32 := addf main_cst_180 main_cst_181
  let main_cst_182 : FVec F S_ .f32 := constant S_ .f32 0xA3F0BF8A#32
  let main_v318 : FVec F S_ .f32 := addf main_v317 main_cst_182
  fn_part21 (F := F) main_arg1 main_v292 main_v318

def fn_part19 {F : FTy → Type} [FloatOps F] (main_arg1 : FVec F S16x1x512x512 .f32) (main_v292 : IVec S16x1x512x512 1) (main_cst_155 : FVec F S_ .f32) (main_cst_156 : FVec F S_ .f32) : IVec S16x1x512x512 1 :=
  let main_v297 : FVec F S_ .f32 := addf main_cst_155 main_cst_156
  let main_cst_157 : FVec F S_ .f32 := constant S_ .f32 0xA17B70F6#32
  let main_v298 : FVec F S_ .f32 := addf main_v297 main_cst_157
  let main_cst_158 : FVec F S_ .f32 := constant S_ .f32 0x145F7AD2#32
  let main_v299 : FVec F S_ .f32 := addf main_v298 main_cst_158
  let main_cst_159 : FVec F S_ .f32 := constant S_ .f32 0x88000000#32
  let main_v300 : FVec F S_ .f32 := addf main_v299 main_cst_159
  let main_cst_160 : FVec F S_ .f32 := constant S_ .f32 0x3CB3B7CE#32
  let main_cst_161 : FVec F S_ .f32 := constant S_ .f32 0x2FF07155#32
  let main_v301 : FVec F S_ .f32 := addf main_cst_160 main_cst_161
  let main_cst_162 : FVec F S_ .f32 := constant S_ .f32 0xA2982750#32
  let main_v302 : FVec F S_ .f32 := addf main_v301 main_cst_162
  let main_cst_163 : FVec F S_ .f32 := constant S_ .f32 0x16335DBC#32
  let main_v303 : FVec F S_ .f32 := addf main_v302 main_cst_163
  let main_cst_164 : FVec F S_ .f32 := constant S_ .f32 0x89C00000#32
  let main_v304 : FVec F S_ .f32 := addf main_v303 main_cst_164
  let main_cst_165 : FVec F S_ .f32 := constant S_ .f32 0x3C5A024A#32
  let main_cst_166 : FVec F S_ .f32 := constant S_ .f32 0x2EA19856#32
  let main_v305 : FVec F S_ .f32 := addf main_cst_165 main_cst_166
  let main_cst_167 : FVec F S_ .f32 := constant S_ .f32 0xA17B70F6#32
  let main_v306 : FVec F S_ .f32 := addf main_v305 main_cst_167
  let main_cst_168 : FVec F S_ .f32 := constant S_ .f32 0x145F7AD2#32
  let main_v307 : FVec F S_ .f32 := addf main_v306 main_cst_168
  let main_cst_169 : FVec F S_ .f32 := constant S_ .f32 0x88000000#32
  fn_part20 (F := F) main_arg1 main_v292 main_v307 main_cst_169

def fn_part18 {F : FTy → Type} [FloatOps F] (main_arg0 : FVec F S16x1x512x512 .f32) (main_arg1 : FVec F S16x1x512x512 .f32) (main_v223 : FVec F S16x1x512x512 .f32) (main_v256 : IVec S16x1x512x512 1) (main_v263 : IVec S16x1x512x512 1) (main_v276 : IVec S16x1x512x512 1) (main_v281 : IVec S16x1x512x512 1) : IVec S16x1x512x512 1 :=
  let main_cst_148 : FVec F S_ .f32 := constant S_ .f32 0x00000000#32
  let main_v282 : FVec F S16x1x512x512 .f32 := broadcastInDim S16x1x512x512 ![] bcast_S_S16x1x512x512 main_cst_148
  let main_v283 : IVec S16x1x512x512 1 := cmpf .oeq main_v223 main_v282
  let main_v284 : IVec S16x1x512x512 1 := noti main_v276
  let main_v285 : IVec S16x1x512x512 1 := andi main_v283 main_v284
  let main_v286 : IVec S16x1x512x512 1 := ori main_v281 main_v285
  let main_v287 : FVec F S16x1x512x512 .f32 := Host.absf main_arg0
  let main_cst_149 : FVec F S_ .f32 := constant S_ .f32 0x7F800000#32
  let main_v288 : FVec F S16x1x512x512 .f32 := broadcastInDim S16x1x512x512 ![] bcast_S_S16x1x512x512 main_cst_149
  let main_v289 : IVec S16x1x512x512 1 := cmpf .olt main_v287 main_v288
  let main_v290 : IVec S16x1x512x512 1 := andi main_v289 main_v256
  let main_v291 : IVec S16x1x512x512 1 := andi main_v290 main_v263
  let main_v292 : IVec S16x1x512x512 1 := andi main_v291 main_v286
  let main_cst_150 : FVec F S_ .f32 := constant S_ .f32 0x3B4293D6#32
  let main_cst_151 : FVec F S_ .f32 := constant S_ .f32 0xAE3BDBF2#32
  let main_v293 : FVec F S_ .f32 := addf main_cst_150 main_cst_151
  let main_cst_152 : FVec F S_ .f32 := constant S_ .f32 0x213E7FA0#32
  let main_v294 : FVec F S_ .f32 := addf main_v293 main_cst_152
  let main_cst_153 : FVec F S_ .f32 := constant S_ .f32 0x948AE93A#32
  let main_v295 : FVec F S_ .f32 := addf main_v294 main_cst_153
  let main_cst_154 : FVec F S_ .f32 := constant S_ .f32 0x07800000#32
  let main_v296 : FVec F S_ .f32 := addf main_v295 main_cst_154
  let main_cst_155 : FVec F S_ .f32 := constant S_ .f32 0x3C5A024A#32
  let main_cst_156 : FVec F S_ .f32 := constant S_ .f32 0x2EA19856#32
  fn_part19 (F := F) main_arg1 main_v292 main_cst_155 main_cst_156

def fn_part17 {F : FTy → Type} [FloatOps F] (main_arg0 : FVec F S16x1x512x512 .f32) (main_arg1 : FVec F S16x1x512x512 .f32) (main_v223 : FVec F S16x1x512x512 .f32) (main_v247 : FVec F S16x1x512x512 .f32) (main_v256 : IVec S16x1x512x512 1) (main_v263 : IVec S16x1x512x512 1) : IVec S16x1x512x512 1 :=
  let main_v264 : IVec S16x1x512x512 32 := iotaInDim S16x1x512x512 32 2
  let main_v265 : IVec S16x1x512x512 32 := iotaInDim S16x1x512x512 32 3
  let main_c : IVec S_ 32 := constantI S_ 32 0#32
  let main_v266 : IVec S16x1x512x512 32 := broadcastInDim S16x1x512x512 ![] bcast_S_S16x1x512x512 main_c
  let main_v267 : IVec S16x1x512x512 1 := cmpi .eq main_v264 main_v266
  let main_c_143 : IVec S_ 32 := constantI S_ 32 511#32
  let main_v268 : IVec S16x1x512x512 32 := broadcastInDim S16x1x512x512 ![] bcast_S_S16x1x512x512 main_c_143
  let main_v269 : IVec S16x1x512x512 1 := cmpi .eq main_v265 main_v268
  let main_v270 : IVec S16x1x512x512 1 := andi main_v267 main_v269
  let main_c_144 : IVec S_ 32 := constantI S_ 32 511#32
  let main_v271 : IVec S16x1x512x512 32 := broadcastInDim S16x1x512x512 ![] bcast_S_S16x1x512x512 main_c_144
  let main_v272 : IVec S16x1x512x512 1 := cmpi .eq main_v264 main_v271
  let main_c_145 : IVec S_ 32 := constantI S_ 32 0#32
  let main_v273 : IVec S16x1x512x512 32 := broadcastInDim S16x1x512x512 ![] bcast_S_S16x1x512x512 main_c_145
  let main_v274 : IVec S16x1x512x512 1 := cmpi .eq main_v265 main_v273
  let main_v275 : IVec S16x1x512x512 1 := andi main_v272 main_v274
  let main_v276 : IVec S16x1x512x512 1 := ori main_v270 main_v275
  let main_cst_146 : FVec F S_ .f32 := constant S_ .f32 0x00000000#32
  let main_v277 : FVec F S16x1x512x512 .f32 := broadcastInDim S16x1x512x512 ![] bcast_S_S16x1x512x512 main_cst_146
  let main_v278 : IVec S16x1x512x512 1 := cmpf .une main_v247 main_v277
  let main_cst_147 : FVec F S_ .f32 := constant S_ .f32 0x00000000#32
  let main_v279 : FVec F S16x1x512x512 .f32 := broadcastInDim S16x1x512x512 ![] bcast_S_S16x1x512x512 main_cst_147
  let main_v280 : IVec S16x1x512x512 1 := cmpf .ogt main_v223 main_v279
  let main_v281 : IVec S16x1x512x512 1 := ori main_v278 main_v280
  fn_part18 (F := F) main_arg0 main_arg1 main_v223 main_v256 main_v263 main_v276 main_v281

def fn_part16 {F : FTy → Type} [FloatOps F] (main_arg0 : FVec F S16x1x512x512 .f32) (main_arg1 : FVec F S16x1x512x512 .f32) (main_v223 : FVec F S16x1x512x512 .f32) (main_v243 : FVec F S16x1x512x512 .f32) (main_v244 : FVec F S16x1x512x512 .f32) : IVec S16x1x512x512 1 :=
  let main_cst_138 : FVec F S_ .f32 := constant S_ .f32 0x3F800000#32
  let main_v245 : FVec F S16x1x512x512 .f32 := broadcastInDim S16x1x512x512 ![] bcast_S_S16x1x512x512 main_cst_138
  let main_v246 : FVec F S16x1x512x512 .f32 := mulf main_v245 main_v244
  let main_v247 : FVec F S16x1x512x512 .f32 := addf main_v243 main_v246
  let main_v248 : FVec F S16x1x512x512 .f32 := Host.absf main_v223
  let main_v249 : FVec F S16x1x512x512 .f32 := Host.absf main_v247
  let main_cst_139 : FVec F S_ .f32 := constant S_ .f32 0x3ED413CC#32
  let main_v250 : FVec F S16x1x512x512 .f32 := broadcastInDim S16x1x512x512 ![] bcast_S_S16x1x512x512 main_cst_139
  let main_v251 : FVec F S16x1x512x512 .f32 := mulf main_v250 main_v248
  let main_v252 : IVec S16x1x512x512 1 := cmpf .ole main_v249 main_v251
  let main_cst_140 : FVec F S_ .f32 := constant S_ .f32 0x3ED413CF#32
  let main_v253 : FVec F S16x1x512x512 .f32 := broadcastInDim S16x1x512x512 ![] bcast_S_S16x1x512x512 main_cst_140
  let main_v254 : FVec F S16x1x512x512 .f32 := mulf main_v253 main_v248
  let main_v255 : IVec S16x1x512x512 1 := cmpf .oge main_v249 main_v254
  let main_v256 : IVec S16x1x512x512 1 := ori main_v252 main_v255
  let main_cst_141 : FVec F S_ .f32 := constant S_ .f32 0x401A8279#32
  let main_v257 : FVec F S16x1x512x512 .f32 := broadcastInDim S16x1x512x512 ![] bcast_S_S16x1x512x512 main_cst_141
  let main_v258 : FVec F S16x1x512x512 .f32 := mulf main_v257 main_v248
  let main_v259 : IVec S16x1x512x512 1 := cmpf .ole main_v249 main_v258
  let main_cst_142 : FVec F S_ .f32 := constant S_ .f32 0x401A827B#32
  let main_v260 : FVec F S16x1x512x512 .f32 := broadcastInDim S16x1x512x512 ![] bcast_S_S16x1x512x512 main_cst_142
  let main_v261 : FVec F S16x1x512x512 .f32 := mulf main_v260 main_v248
  let main_v262 : IVec S16x1x512x512 1 := cmpf .oge main_v249 main_v261
  let main_v263 : IVec S16x1x512x512 1 := ori main_v259 main_v262
  fn_part17 (F := F) main_arg0 main_arg1 main_v223 main_v247 main_v256 main_v263

def fn_part15 {F : FTy → Type} [FloatOps F] (main_arg0 : FVec F S16x1x512x512 .f32) (main_arg1 : FVec F S16x1x512x512 .f32) (main_v223 : FVec F S16x1x512x512 .f32) (main_v224 : FVec F S16x1x514x514 .f32) (main_v225 : FVec F S16x1x512x512 .f32) : IVec S16x1x512x512 1 :=
  let main_cst_133 : FVec F S_ .f32 := constant S_ .f32 0xBF800000#32
  let main_v226 : FVec F S16x1x512x512 .f32 := broadcastInDim S16x1x512x512 ![] bcast_S_S16x1x512x512 main_cst_133
  let main_v227 : FVec F S16x1x512x512 .f32 := mulf main_v226 main_v225
  let main_v228 : FVec F S16x1x512x512 .f32 := (extractStridedSlice S16x1x512x512 ![0, 0, 0, 1] · slices_S16x1x514x514_S16x1x512x512_0_0_0_1) main_v224
  let main_cst_134 : FVec F S_ .f32 := constant S_ .f32 0xC0000000#32
  let main_v229 : FVec F S16x1x512x512 .f32 := broadcastInDim S16x1x512x512 ![] bcast_S_S16x1x512x512 main_cst_134
  let main_v230 : FVec F S16x1x512x512 .f32 := mulf main_v229 main_v228
  let main_v231 : FVec F S16x1x512x512 .f32 := addf main_v227 main_v230
  let main_v232 : FVec F S16x1x512x512 .f32 := (extractStridedSlice S16x1x512x512 ![0, 0, 0, 2] · slices_S16x1x514x514_S16x1x512x512_0_0_0_2) main_v224
  let main_cst_135 : FVec F S_ .f32 := constant S_ .f32 0xBF800000#32
  let main_v233 : FVec F S16x1x512x512 .f32 := broadcastInDim S16x1x512x512 ![] bcast_S_S16x1x512x512 main_cst_135
  let main_v234 : FVec F S16x1x512x512 .f32 := mulf main_v233 main_v232
  let main_v235 : FVec F S16x1x512x512 .f32 := addf main_v231 main_v234
  let main_v236 : FVec F S16x1x512x512 .f32 := (extractStridedSlice S16x1x512x512 ![0, 0, 2, 0] · slices_S16x1x514x514_S16x1x512x512_0_0_2_0) main_v224
  let main_cst_136 : FVec F S_ .f32 := constant S_ .f32 0x3F800000#32
  let main_v237 : FVec F S16x1x512x512 .f32 := broadcastInDim S16x1x512x512 ![] bcast_S_S16x1x512x512 main_cst_136
  let main_v238 : FVec F S16x1x512x512 .f32 := mulf main_v237 main_v236
  let main_v239 : FVec F S16x1x512x512 .f32 := addf main_v235 main_v238
  let main_v240 : FVec F S16x1x512x512 .f32 := (extractStridedSlice S16x1x512x512 ![0, 0, 2, 1] · slices_S16x1x514x514_S16x1x512x512_0_0_2_1) main_v224
  let main_cst_137 : FVec F S_ .f32 := constant S_ .f32 0x40000000#32
  let main_v241 : FVec F S16x1x512x512 .f32 := broadcastInDim S16x1x512x512 ![] bcast_S_S16x1x512x512 main_cst_137
  let main_v242 : FVec F S16x1x512x512 .f32 := mulf main_v241 main_v240
  let main_v243 : FVec F S16x1x512x512 .f32 := addf main_v239 main_v242
  let main_v244 : FVec F S16x1x512x512 .f32 := (extractStridedSlice S16x1x512x512 ![0, 0, 2, 2] · slices_S16x1x514x514_S16x1x512x512_0_0_2_2) main_v224
  fn_part16 (F := F) main_arg0 main_arg1 main_v223 main_v243 main_v244

def fn_part14 {F : FTy → Type} [FloatOps F] (main_arg0 : FVec F S16x1x512x512 .f32) (main_arg1 : FVec F S16x1x512x512 .f32) (main_v199 : FVec F S16x1x512x512 .f32) (main_v200 : FVec F S16x1x514x514 .f32) (main_v203 : FVec F S16x1x512x512 .f32) (main_v206 : FVec F S16x1x512x512 .f32) : IVec S16x1x512x512 1 :=
  let main_v207 : FVec F S16x1x512x512 .f32 := addf main_v203 main_v206
  let main_v208 : FVec F S16x1x512x512 .f32 := (extractStridedSlice S16x1x512x512 ![0, 0, 1, 0] · slices_S16x1x514x514_S16x1x512x512_0_0_1_0) main_v200
  let main_cst_128 : FVec F S_ .f32 := constant S_ .f32 0xC0000000#32
  let main_v209 : FVec F S16x1x512x512 .f32 := broadcastInDim S16x1x512x512 ![] bcast_S_S16x1x512x512 main_cst_128
  let main_v210 : FVec F S16x1x512x512 .f32 := mulf main_v209 main_v208
  let main_v211 : FVec F S16x1x512x512 .f32 := addf main_v207 main_v210
  let main_v212 : FVec F S16x1x512x512 .f32 := (extractStridedSlice S16x1x512x512 ![0, 0, 1, 2] · slices_S16x1x514x514_S16x1x512x512_0_0_1_2) main_v200
  let main_cst_129 : FVec F S_ .f32 := constant S_ .f32 0x40000000#32
  let main_v213 : FVec F S16x1x512x512 .f32 := broadcastInDim S16x1x512x512 ![] bcast_S_S16x1x512x512 main_cst_129
  let main_v214 : FVec F S16x1x512x512 .f32 := mulf main_v213 main_v212
  let main_v215 : FVec F S16x1x512x512 .f32 := addf main_v211 main_v214
  let main_v216 : FVec F S16x1x512x512 .f32 := (extractStridedSlice S16x1x512x512 ![0, 0, 2, 0] · slices_S16x1x514x514_S16x1x512x512_0_0_2_0) main_v200
  let main_cst_130 : FVec F S_ .f32 := constant S_ .f32 0xBF800000#32
  let main_v217 : FVec F S16x1x512x512 .f32 := broadcastInDim S16x1x512x512 ![] bcast_S_S16x1x512x512 main_cst_130
  let main_v218 : FVec F S16x1x512x512 .f32 := mulf main_v217 main_v216
  let main_v219 : FVec F S16x1x512x512 .f32 := addf main_v215 main_v218
  let main_v220 : FVec F S16x1x512x512 .f32 := (extractStridedSlice S16x1x512x512 ![0, 0, 2, 2] · slices_S16x1x514x514_S16x1x512x512_0_0_2_2) main_v200
  let main_cst_131 : FVec F S_ .f32 := constant S_ .f32 0x3F800000#32
  let main_v221 : FVec F S16x1x512x512 .f32 := broadcastInDim S16x1x512x512 ![] bcast_S_S16x1x512x512 main_cst_131
  let main_v222 : FVec F S16x1x512x512 .f32 := mulf main_v221 main_v220
  let main_v223 : FVec F S16x1x512x512 .f32 := addf main_v219 main_v222
  let main_cst_132 : FVec F S_ .f32 := constant S_ .f32 0x00000000#32
  let main_v224 : FVec F S16x1x514x514 .f32 := (fun x v => pad S16x1x514x514 ![0, 0, 1, 1] ![0, 0, 1, 1] ![0, 0, 0, 0] x v pads_S16x1x512x512_S16x1x514x514_000_000_110_110 h_S_) main_v199 main_cst_132
  let main_v225 : FVec F S16x1x512x512 .f32 := (extractStridedSlice S16x1x512x512 ![0, 0, 0, 0] · slices_S16x1x514x514_S16x1x512x512_0_0_0_0) main_v224
  fn_part15 (F := F) main_arg0 main_arg1 main_v223 main_v224 main_v225

def fn_part13 {F : FTy → Type} [FloatOps F] (main_arg0 : FVec F S16x1x512x512 .f32) (main_arg1 : FVec F S16x1x512x512 .f32) (main_v91 : FVec F S_ .f32) (main_v95 : FVec F S_ .f32) (main_v99 : FVec F S_ .f32) (main_v100 : FVec F S16x1x516x516 .f32) (main_v183 : FVec F S16x1x512x512 .f32) (main_v184 : FVec F S16x1x512x512 .f32) (main_v185 : FVec F S16x1x512x512 .f32) : IVec S16x1x512x512 1 :=
  let main_v186 : FVec F S16x1x512x512 .f32 := mulf main_v185 main_v184
  let main_v187 : FVec F S16x1x512x512 .f32 := addf main_v183 main_v186
  let main_v188 : FVec F S16x1x512x512 .f32 := (extractStridedSlice S16x1x512x512 ![0, 0, 4, 2] · slices_S16x1x516x516_S16x1x512x512_0_0_4_2) main_v100
  let main_v189 : FVec F S16x1x512x512 .f32 := broadcastInDim S16x1x512x512 ![] bcast_S_S16x1x512x512 main_v91
  let main_v190 : FVec F S16x1x512x512 .f32 := mulf main_v189 main_v188
  let main_v191 : FVec F S16x1x512x512 .f32 := addf main_v187 main_v190
  let main_v192 : FVec F S16x1x512x512 .f32 := (extractStridedSlice S16x1x512x512 ![0, 0, 4, 3] · slices_S16x1x516x516_S16x1x512x512_0_0_4_3) main_v100
  let main_v193 : FVec F S16x1x512x512 .f32 := broadcastInDim S16x1x512x512 ![] bcast_S_S16x1x512x512 main_v95
  let main_v194 : FVec F S16x1x512x512 .f32 := mulf main_v193 main_v192
  let main_v195 : FVec F S16x1x512x512 .f32 := addf main_v191 main_v194
  let main_v196 : FVec F S16x1x512x512 .f32 := (extractStridedSlice S16x1x512x512 ![0, 0, 4, 4] · slices_S16x1x516x516_S16x1x512x512_0_0_4_4) main_v100
  let main_v197 : FVec F S16x1x512x512 .f32 := broadcastInDim S16x1x512x512 ![] bcast_S_S16x1x512x512 main_v99
  let main_v198 : FVec F S16x1x512x512 .f32 := mulf main_v197 main_v196
  let main_v199 : FVec F S16x1x512x512 .f32 := addf main_v195 main_v198
  let main_cst_125 : FVec F S_ .f32 := constant S_ .f32 0x00000000#32
  let main_v200 : FVec F S16x1x514x514 .f32 := (fun x v => pad S16x1x514x514 ![0, 0, 1, 1] ![0, 0, 1, 1] ![0, 0, 0, 0] x v pads_S16x1x512x512_S16x1x514x514_000_000_110_110 h_S_) main_v199 main_cst_125
  let main_v201 : FVec F S16x1x512x512 .f32 := (extractStridedSlice S16x1x512x512 ![0, 0, 0, 0] · slices_S16x1x514x514_S16x1x512x512_0_0_0_0) main_v200
  let main_cst_126 : FVec F S_ .f32 := constant S_ .f32 0xBF800000#32
  let main_v202 : FVec F S16x1x512x512 .f32 := broadcastInDim S16x1x512x512 ![] bcast_S_S16x1x512x512 main_cst_126
  let main_v203 : FVec F S16x1x512x512 .f32 := mulf main_v202 main_v201
  let main_v204 : FVec F S16x1x512x512 .f32 := (extractStridedSlice S16x1x512x512 ![0, 0, 0, 2] · slices_S16x1x514x514_S16x1x512x512_0_0_0_2) main_v200
  let main_cst_127 : FVec F S_ .f32 := constant S_ .f32 0x3F800000#32
  let main_v205 : FVec F S16x1x512x512 .f32 := broadcastInDim S16x1x512x512 ![] bcast_S_S16x1x512x512 main_cst_127
  let main_v206 : FVec F S16x1x512x512 .f32 := mulf main_v205 main_v204
  fn_part14 (F := F) main_arg0 main_arg1 main_v199 main_v200 main_v203 main_v206

def fn_part12 {F : FTy → Type} [FloatOps F] (main_arg0 : FVec F S16x1x512x512 .f32) (main_arg1 : FVec F S16x1x512x512 .f32) (main_v71 : FVec F S_ .f32) (main_v75 : FVec F S_ .f32) (main_v91 : FVec F S_ .f32) (main_v95 : FVec F S_ .f32) (main_v99 : FVec F S_ .f32) (main_v100 : FVec F S16x1x516x516 .f32) (main_v159 : FVec F S16x1x512x512 .f32) (main_v160 : FVec F S16x1x512x512 .f32) (main_v161 : FVec F S16x1x512x512 .f32) : IVec S16x1x512x512 1 :=
  let main_v162 : FVec F S16x1x512x512 .f32 := mulf main_v161 main_v160
  let main_v163 : FVec F S16x1x512x512 .f32 := addf main_v159 main_v162
  let main_v164 : FVec F S16x1x512x512 .f32 := (extractStridedSlice S16x1x512x512 ![0, 0, 3, 1] · slices_S16x1x516x516_S16x1x512x512_0_0_3_1) main_v100
  let main_v165 : FVec F S16x1x512x512 .f32 := broadcastInDim S16x1x512x512 ![] bcast_S_S16x1x512x512 main_v75
  let main_v166 : FVec F S16x1x512x512 .f32 := mulf main_v165 main_v164
  let main_v167 : FVec F S16x1x512x512 .f32 := addf main_v163 main_v166
  let main_v168 : FVec F S16x1x512x512 .f32 := (extractStridedSlice S16x1x512x512 ![0, 0, 3, 2] · slices_S16x1x516x516_S16x1x512x512_0_0_3_2) main_v100
  let main_v169 : FVec F S16x1x512x512 .f32 := broadcastInDim S16x1x512x512 ![] bcast_S_S16x1x512x512 main_v71
  let main_v170 : FVec F S16x1x512x512 .f32 := mulf main_v169 main_v168
  let main_v171 : FVec F S16x1x512x512 .f32 := addf main_v167 main_v170
  let main_v172 : FVec F S16x1x512x512 .f32 := (extractStridedSlice S16x1x512x512 ![0, 0, 3, 3] · slices_S16x1x516x516_S16x1x512x512_0_0_3_3) main_v100
  let main_v173 : FVec F S16x1x512x512 .f32 := broadcastInDim S16x1x512x512 ![] bcast_S_S16x1x512x512 main_v75
  let main_v174 : FVec F S16x1x512x512 .f32 := mulf main_v173 main_v172
  let main_v175 : FVec F S16x1x512x512 .f32 := addf main_v171 main_v174
  let main_v176 : FVec F S16x1x512x512 .f32 := (extractStridedSlice S16x1x512x512 ![0, 0, 3, 4] · slices_S16x1x516x516_S16x1x512x512_0_0_3_4) main_v100
  let main_v177 : FVec F S16x1x512x512 .f32 := broadcastInDim S16x1x512x512 ![] bcast_S_S16x1x512x512 main_v95
  let main_v178 : FVec F S16x1x512x512 .f32 := mulf main_v177 main_v176
  let main_v179 : FVec F S16x1x512x512 .f32 := addf main_v175 main_v178
  let main_v180 : FVec F S16x1x512x512 .f32 := (extractStridedSlice S16x1x512x512 ![0, 0, 4, 0] · slices_S16x1x516x516_S16x1x512x512_0_0_4_0) main_v100
  let main_v181 : FVec F S16x1x512x512 .f32 := broadcastInDim S16x1x512x512 ![] bcast_S_S16x1x512x512 main_v99
  let main_v182 : FVec F S16x1x512x512 .f32 := mulf main_v181 main_v180
  let main_v183 : FVec F S16x1x512x512 .f32 := addf main_v179 main_v182
  let main_v184 : FVec F S16x1x512x512 .f32 := (extractStridedSlice S16x1x512x512 ![0, 0, 4, 1] · slices_S16x1x516x516_S16x1x512x512_0_0_4_1) main_v100
  let main_v185 : FVec F S16x1x512x512 .f32 := broadcastInDim S16x1x512x512 ![] bcast_S_S16x1x512x512 main_v95
  fn_part13 (F := F) main_arg0 main_arg1 main_v91 main_v95 main_v99 main_v100 main_v183 main_v184 main_v185

def fn_part11 {F : FTy → Type} [FloatOps F] (main_arg0 : FVec F S16x1x512x512 .f32) (main_arg1 : FVec F S16x1x512x512 .f32) (main_v51 : FVec F S_ .f32) (main_v71 : FVec F S_ .f32) (main_v75 : FVec F S_ .f32) (main_v91 : FVec F S_ .f32) (main_v95 : FVec F S_ .f32) (main_v99 : FVec F S_ .f32) (main_v100 : FVec F S16x1x516x516 .f32) (main_v135 : FVec F S16x1x512x512 .f32) (main_v136 : FVec F S16x1x512x512 .f32) (main_v137 : FVec F S16x1x512x512 .f32) : IVec S16x1x512x512 1 :=
  let main_v138 : FVec F S16x1x512x512 .f32 := mulf main_v137 main_v136
  let main_v139 : FVec F S16x1x512x512 .f32 := addf main_v135 main_v138
  let main_v140 : FVec F S16x1x512x512 .f32 := (extractStridedSlice S16x1x512x512 ![0, 0, 2, 0] · slices_S16x1x516x516_S16x1x512x512_0_0_2_0) main_v100
  let main_v141 : FVec F S16x1x512x512 .f32 := broadcastInDim S16x1x512x512 ![] bcast_S_S16x1x512x512 main_v91
  let main_v142 : FVec F S16x1x512x512 .f32 := mulf main_v141 main_v140
  let main_v143 : FVec F S16x1x512x512 .f32 := addf main_v139 main_v142
  let main_v144 : FVec F S16x1x512x512 .f32 := (extractStridedSlice S16x1x512x512 ![0, 0, 2, 1] · slices_S16x1x516x516_S16x1x512x512_0_0_2_1) main_v100
  let main_v145 : FVec F S16x1x512x512 .f32 := broadcastInDim S16x1x512x512 ![] bcast_S_S16x1x512x512 main_v71
  let main_v146 : FVec F S16x1x512x512 .f32 := mulf main_v145 main_v144
  let main_v147 : FVec F S16x1x512x512 .f32 := addf main_v143 main_v146
  let main_v148 : FVec F S16x1x512x512 .f32 := (extractStridedSlice S16x1x512x512 ![0, 0, 2, 2] · slices_S16x1x516x516_S16x1x512x512_0_0_2_2) main_v100
  let main_v149 : FVec F S16x1x512x512 .f32 := broadcastInDim S16x1x512x512 ![] bcast_S_S16x1x512x512 main_v51
  let main_v150 : FVec F S16x1x512x512 .f32 := mulf main_v149 main_v148
  let main_v151 : FVec F S16x1x512x512 .f32 := addf main_v147 main_v150
  let main_v152 : FVec F S16x1x512x512 .f32 := (extractStridedSlice S16x1x512x512 ![0, 0, 2, 3] · slices_S16x1x516x516_S16x1x512x512_0_0_2_3) main_v100
  let main_v153 : FVec F S16x1x512x512 .f32 := broadcastInDim S16x1x512x512 ![] bcast_S_S16x1x512x512 main_v71
  let main_v154 : FVec F S16x1x512x512 .f32 := mulf main_v153 main_v152
  let main_v155 : FVec F S16x1x512x512 .f32 := addf main_v151 main_v154
  let main_v156 : FVec F S16x1x512x512 .f32 := (extractStridedSlice S16x1x512x512 ![0, 0, 2, 4] · slices_S16x1x516x516_S16x1x512x512_0_0_2_4) main_v100
  let main_v157 : FVec F S16x1x512x512 .f32 := broadcastInDim S16x1x512x512 ![] bcast_S_S16x1x512x512 main_v91
  let main_v158 : FVec F S16x1x512x512 .f32 := mulf main_v157 main_v156
  let main_v159 : FVec F S16x1x512x512 .f32 := addf main_v155 main_v158
  let main_v160 : FVec F S16x1x512x512 .f32 := (extractStridedSlice S16x1x512x512 ![0, 0, 3, 0] · slices_S16x1x516x516_S16x1x512x512_0_0_3_0) main_v100
  let main_v161 : FVec F S16x1x512x512 .f32 := broadcastInDim S16x1x512x512 ![] bcast_S_S16x1x512x512 main_v95
  fn_part12 (F := F) main_arg0 main_arg1 main_v71 main_v75 main_v91 main_v95 main_v99 main_v100 main_v159 main_v160 main_v161

def fn_part10 {F : FTy → Type} [FloatOps F] (main_arg0 : FVec F S16x1x512x512 .f32) (main_arg1 : FVec F S16x1x512x512 .f32) (main_v51 : FVec F S_ .f32) (main_v71 : FVec F S_ .f32) (main_v75 : FVec F S_ .f32) (main_v91 : FVec F S_ .f32) (main_v95 : FVec F S_ .f32) (main_v99 : FVec F S_ .f32) (main_v100 : FVec F S16x1x516x516 .f32) (main_v111 : FVec F S16x1x512x512 .f32) (main_v112 : FVec F S16x1x512x512 .f32) (main_v113 : FVec F S16x1x512x512 .f32) : IVec S16x1x512x512 1 :=
  let main_v114 : FVec F S16x1x512x512 .f32 := mulf main_v113 main_v112
  let main_v115 : FVec F S16x1x512x512 .f32 := addf main_v111 main_v114
  let main_v116 : FVec F S16x1x512x512 .f32 := (extractStridedSlice S16x1x512x512 ![0, 0, 0, 4] · slices_S16x1x516x516_S16x1x512x512_0_0_0_4) main_v100
  let main_v117 : FVec F S16x1x512x512 .f32 := broadcastInDim S16x1x512x512 ![] bcast_S_S16x1x512x512 main_v99
  let main_v118 : FVec F S16x1x512x512 .f32 := mulf main_v117 main_v116
  let main_v119 : FVec F S16x1x512x512 .f32 := addf main_v115 main_v118
  let main_v120 : FVec F S16x1x512x512 .f32 := (extractStridedSlice S16x1x512x512 ![0, 0, 1, 0] · slices_S16x1x516x516_S16x1x512x512_0_0_1_0) main_v100
  let main_v121 : FVec F S16x1x512x512 .f32 := broadcastInDim S16x1x512x512 ![] bcast_S_S16x1x512x512 main_v95
  let main_v122 : FVec F S16x1x512x512 .f32 := mulf main_v121 main_v120
  let main_v123 : FVec F S16x1x512x512 .f32 := addf main_v119 main_v122
  let main_v124 : FVec F S16x1x512x512 .f32 := (extractStridedSlice S16x1x512x512 ![0, 0, 1, 1] · slices_S16x1x516x516_S16x1x512x512_0_0_1_1) main_v100
  let main_v125 : FVec F S16x1x512x512 .f32 := broadcastInDim S16x1x512x512 ![] bcast_S_S16x1x512x512 main_v75
  let main_v126 : FVec F S16x1x512x512 .f32 := mulf main_v125 main_v124
  let main_v127 : FVec F S16x1x512x512 .f32 := addf main_v123 main_v126
  let main_v128 : FVec F S16x1x512x512 .f32 := (extractStridedSlice S16x1x512x512 ![0, 0, 1, 2] · slices_S16x1x516x516_S16x1x512x512_0_0_1_2) main_v100
  let main_v129 : FVec F S16x1x512x512 .f32 := broadcastInDim S16x1x512x512 ![] bcast_S_S16x1x512x512 main_v71
  let main_v130 : FVec F S16x1x512x512 .f32 := mulf main_v129 main_v128
  let main_v131 : FVec F S16x1x512x512 .f32 := addf main_v127 main_v130
  let main_v132 : FVec F S16x1x512x512 .f32 := (extractStridedSlice S16x1x512x512 ![0, 0, 1, 3] · slices_S16x1x516x516_S16x1x512x512_0_0_1_3) main_v100
  let main_v133 : FVec F S16x1x512x512 .f32 := broadcastInDim S16x1x512x512 ![] bcast_S_S16x1x512x512 main_v75
  let main_v134 : FVec F S16x1x512x512 .f32 := mulf main_v133 main_v132
  let main_v135 : FVec F S16x1x512x512 .f32 := addf main_v131 main_v134
  let main_v136 : FVec F S16x1x512x512 .f32 := (extractStridedSlice S16x1x512x512 ![0, 0, 1, 4] · slices_S16x1x516x516_S16x1x512x512_0_0_1_4) main_v100
  let main_v137 : FVec F S16x1x512x512 .f32 := broadcastInDim S16x1x512x512 ![] bcast_S_S16x1x512x512 main_v95
  fn_part11 (F := F) main_arg0 main_arg1 main_v51 main_v71 main_v75 main_v91 main_v95 main_v99 main_v100 main_v135 main_v136 main_v137

def fn_part9 {F : FTy → Type} [FloatOps F] (main_arg0 : FVec F S16x1x512x512 .f32) (main_arg1 : FVec F S16x1x512x512 .f32) (main_v51 : FVec F S_ .f32) (main_v71 : FVec F S_ .f32) (main_v75 : FVec F S_ .f32) (main_v91 : FVec F S_ .f32) (main_v95 : FVec F S_ .f32) : IVec S16x1x512x512 1 :=
  let main_cst_119 : FVec F S_ .f32 := constant S_ .f32 0x3B4293D6#32
  let main_cst_120 : FVec F S_ .f32 := constant S_ .f32 0xAE3BDBF2#32
  let main_v96 : FVec F S_ .f32 := addf main_cst_119 main_cst_120
  let main_cst_121 : FVec F S_ .f32 := constant S_ .f32 0x213E7FA0#32
  let main_v97 : FVec F S_ .f32 := addf main_v96 main_cst_121
  let main_cst_122 : FVec F S_ .f32 := constant S_ .f32 0x948AE93A#32
  let main_v98 : FVec F S_ .f32 := addf main_v97 main_cst_122
  let main_cst_123 : FVec F S_ .f32 := constant S_ .f32 0x07800000#32
  let main_v99 : FVec F S_ .f32 := addf main_v98 main_cst_123
  let main_cst_124 : FVec F S_ .f32 := constant S_ .f32 0x00000000#32
  let main_v100 : FVec F S16x1x516x516 .f32 := (fun x v => pad S16x1x516x516 ![0, 0, 2, 2] ![0, 0, 2, 2] ![0, 0, 0, 0] x v pads_S16x1x512x512_S16x1x516x516_000_000_220_220 h_S_) main_arg0 main_cst_124
  let main_v101 : FVec F S16x1x512x512 .f32 := (extractStridedSlice S16x1x512x512 ![0, 0, 0, 0] · slices_S16x1x516x516_S16x1x512x512_0_0_0_0) main_v100
  let main_v102 : FVec F S16x1x512x512 .f32 := broadcastInDim S16x1x512x512 ![] bcast_S_S16x1x512x512 main_v99
  let main_v103 : FVec F S16x1x512x512 .f32 := mulf main_v102 main_v101
  let main_v104 : FVec F S16x1x512x512 .f32 := (extractStridedSlice S16x1x512x512 ![0, 0, 0, 1] · slices_S16x1x516x516_S16x1x512x512_0_0_0_1) main_v100
  let main_v105 : FVec F S16x1x512x512 .f32 := broadcastInDim S16x1x512x512 ![] bcast_S_S16x1x512x512 main_v95
  let main_v106 : FVec F S16x1x512x512 .f32 := mulf main_v105 main_v104
  let main_v107 : FVec F S16x1x512x512 .f32 := addf main_v103 main_v106
  let main_v108 : FVec F S16x1x512x512 .f32 := (extractStridedSlice S16x1x512x512 ![0, 0, 0, 2] · slices_S16x1x516x516_S16x1x512x512_0_0_0_2) main_v100
  let main_v109 : FVec F S16x1x512x512 .f32 := broadcastInDim S16x1x512x512 ![] bcast_S_S16x1x512x512 main_v91
  let main_v110 : FVec F S16x1x512x512 .f32 := mulf main_v109 main_v108
  let main_v111 : FVec F S16x1x512x512 .f32 := addf main_v107 main_v110
  let main_v112 : FVec F S16x1x512x512 .f32 := (extractStridedSlice S16x1x512x512 ![0, 0, 0, 3] · slices_S16x1x516x516_S16x1x512x512_0_0_0_3) main_v100
  let main_v113 : FVec F S16x1x512x512 .f32 := broadcastInDim S16x1x512x512 ![] bcast_S_S16x1x512x512 main_v95
  fn_part10 (F := F) main_arg0 main_arg1 main_v51 main_v71 main_v75 main_v91 main_v95 main_v99 main_v100 main_v111 main_v112 main_v113

def fn_part8 {F : FTy → Type} [FloatOps F] (main_arg0 : FVec F S16x1x512x512 .f32) (main_arg1 : FVec F S16x1x512x512 .f32) (main_v51 : FVec F S_ .f32) (main_v71 : FVec F S_ .f32) (main_v75 : FVec F S_ .f32) (main_v84 : FVec F S_ .f32) : IVec S16x1x512x512 1 :=
  let main_cst_106 : FVec F S_ .f32 := constant S_ .f32 0xA17B70F6#32
  let main_v85 : FVec F S_ .f32 := addf main_v84 main_cst_106
  let main_cst_107 : FVec F S_ .f32 := constant S_ .f32 0x145F7AD2#32
  let main_v86 : FVec F S_ .f32 := addf main_v85 main_cst_107
  let main_cst_108 : FVec F S_ .f32 := constant S_ .f32 0x88000000#32
  let main_v87 : FVec F S_ .f32 := addf main_v86 main_cst_108
  let main_cst_109 : FVec F S_ .f32 := constant S_ .f32 0x3CB3B7CE#32
  let main_cst_110 : FVec F S_ .f32 := constant S_ .f32 0x2FF07155#32
  let main_v88 : FVec F S_ .f32 := addf main_cst_109 main_cst_110
  let main_cst_111 : FVec F S_ .f32 := constant S_ .f32 0xA2982750#32
  let main_v89 : FVec F S_ .f32 := addf main_v88 main_cst_111
  let main_cst_112 : FVec F S_ .f32 := constant S_ .f32 0x16335DBC#32
  let main_v90 : FVec F S_ .f32 := addf main_v89 main_cst_112
  let main_cst_113 : FVec F S_ .f32 := constant S_ .f32 0x89C00000#32
  let main_v91 : FVec F S_ .f32 := addf main_v90 main_cst_113
  let main_cst_114 : FVec F S_ .f32 := constant S_ .f32 0x3C5A024A#32
  let main_cst_115 : FVec F S_ .f32 := constant S_ .f32 0x2EA19856#32
  let main_v92 : FVec F S_ .f32 := addf main_cst_114 main_cst_115
  let main_cst_116 : FVec F S_ .f32 := constant S_ .f32 0xA17B70F6#32
  let main_v93 : FVec F S_ .f32 := addf main_v92 main_cst_116
  let main_cst_117 : FVec F S_ .f32 := constant S_ .f32 0x145F7AD2#32
  let main_v94 : FVec F S_ .f32 := addf main_v93 main_cst_117
  let main_cst_118 : FVec F S_ .f32 := constant S_ .f32 0x88000000#32
  let main_v95 : FVec F S_ .f32 := addf main_v94 main_cst_118
  fn_part9 (F := F) main_arg0 main_arg1 main_v51 main_v71 main_v75 main_v91 main_v95

def fn_part7 {F : FTy → Type} [FloatOps F] (main_arg0 : FVec F S16x1x512x512 .f32) (main_arg1 : FVec F S16x1x512x512 .f32) (main_v51 : FVec F S_ .f32) (main_v71 : FVec F S_ .f32) (main_v73 : FVec F S_ .f32) (main_cst_92 : FVec F S_ .f32) : IVec S16x1x512x512 1 :=
  let main_v74 : FVec F S_ .f32 := addf main_v73 main_cst_92
  let main_cst_93 : FVec F S_ .f32 := constant S_ .f32 0x0AC80000#32
  let main_v75 : FVec F S_ .f32 := addf main_v74 main_cst_93
  let main_cst_94 : FVec F S_ .f32 := constant S_ .f32 0x3C5A024A#32
  let main_cst_95 : FVec F S_ .f32 := constant S_ .f32 0x2EA19856#32
  let main_v76 : FVec F S_ .f32 := addf main_cst_94 main_cst_95
  let main_cst_96 : FVec F S_ .f32 := constant S_ .f32 0xA17B70F6#32
  let main_v77 : FVec F S_ .f32 := addf main_v76 main_cst_96
  let main_cst_97 : FVec F S_ .f32 := constant S_ .f32 0x145F7AD2#32
  let main_v78 : FVec F S_ .f32 := addf main_v77 main_cst_97
  let main_cst_98 : FVec F S_ .f32 := constant S_ .f32 0x88000000#32
  let main_v79 : FVec F S_ .f32 := addf main_v78 main_cst_98
  let main_cst_99 : FVec F S_ .f32 := constant S_ .f32 0x3B4293D6#32
  let main_cst_100 : FVec F S_ .f32 := constant S_ .f32 0xAE3BDBF2#32
  let main_v80 : FVec F S_ .f32 := addf main_cst_99 main_cst_100
  let main_cst_101 : FVec F S_ .f32 := constant S_ .f32 0x213E7FA0#32
  let main_v81 : FVec F S_ .f32 := addf main_v80 main_cst_101
  let main_cst_102 : FVec F S_ .f32 := constant S_ .f32 0x948AE93A#32
  let main_v82 : FVec F S_ .f32 := addf main_v81 main_cst_102
  let main_cst_103 : FVec F S_ .f32 := constant S_ .f32 0x07800000#32
  let main_v83 : FVec F S_ .f32 := addf main_v82 main_cst_103
  let main_cst_104 : FVec F S_ .f32 := constant S_ .f32 0x3C5A024A#32
  let main_cst_105 : FVec F S_ .f32 := constant S_ .f32 0x2EA19856#32
  let main_v84 : FVec F S_ .f32 := addf main_cst_104 main_cst_105
  fn_part8 (F := F) main_arg0 main_arg1 main_v51 main_v71 main_v75 main_v84

def fn_part6 {F : FTy → Type} [FloatOps F] (main_arg0 : FVec F S16x1x512x512 .f32) (main_arg1 : FVec F S16x1x512x512 .f32) (main_v51 : FVec F S_ .f32) : IVec S16x1x512x512 1 :=
  let main_cst_79 : FVec F S_ .f32 := constant S_ .f32 0x3D744317#32
  let main_cst_80 : FVec F S_ .f32 := constant S_ .f32 0x3093C9E6#32
  let main_v64 : FVec F S_ .f32 := addf main_cst_79 main_cst_80
  let main_cst_81 : FVec F S_ .f32 := constant S_ .f32 0xA3F0BF8A#32
  let main_v65 : FVec F S_ .f32 := addf main_v64 main_cst_81
  let main_cst_82 : FVec F S_ .f32 := constant S_ .f32 0x1709BE2C#32
  let main_v66 : FVec F S_ .f32 := addf main_v65 main_cst_82
  let main_cst_83 : FVec F S_ .f32 := constant S_ .f32 0x0AC80000#32
  let main_v67 : FVec F S_ .f32 := addf main_v66 main_cst_83
  let main_cst_84 : FVec F S_ .f32 := constant S_ .f32 0x3DC95C2B#32
  let main_cst_85 : FVec F S_ .f32 := constant S_ .f32 0x317ACD85#32
  let main_v68 : FVec F S_ .f32 := addf main_cst_84 main_cst_85
  let main_cst_86 : FVec F S_ .f32 := constant S_ .f32 0x24CD6A8D#32
  let main_v69 : FVec F S_ .f32 := addf main_v68 main_cst_86
  let main_cst_87 : FVec F S_ .f32 := constant S_ .f32 0x9814EEA2#32
  let main_v70 : FVec F S_ .f32 := addf main_v69 main_cst_87
  let main_cst_88 : FVec F S_ .f32 := constant S_ .f32 0x8BC80000#32
  let main_v71 : FVec F S_ .f32 := addf main_v70 main_cst_88
  let main_cst_89 : FVec F S_ .f32 := constant S_ .f32 0x3D744317#32
  let main_cst_90 : FVec F S_ .f32 := constant S_ .f32 0x3093C9E6#32
  let main_v72 : FVec F S_ .f32 := addf main_cst_89 main_cst_90
  let main_cst_91 : FVec F S_ .f32 := constant S_ .f32 0xA3F0BF8A#32
  let main_v73 : FVec F S_ .f32 := addf main_v72 main_cst_91
  let main_cst_92 : FVec F S_ .f32 := constant S_ .f32 0x1709BE2C#32
  fn_part7 (F := F) main_arg0 main_arg1 main_v51 main_v71 main_v73 main_cst_92

def fn_part5 {F : FTy → Type} [FloatOps F] (main_arg0 : FVec F S16x1x512x512 .f32) (main_arg1 : FVec F S16x1x512x512 .f32) (main_v51 : FVec F S_ .f32) (main_v52 : FVec F S_ .f32) : IVec S16x1x512x512 1 :=
  let main_cst_66 : FVec F S_ .f32 := constant S_ .f32 0x24CD6A8D#32
  let main_v53 : FVec F S_ .f32 := addf main_v52 main_cst_66
  let main_cst_67 : FVec F S_ .f32 := constant S_ .f32 0x9814EEA2#32
  let main_v54 : FVec F S_ .f32 := addf main_v53 main_cst_67
  let main_cst_68 : FVec F S_ .f32 := constant S_ .f32 0x8BC80000#32
  let main_v55 : FVec F S_ .f32 := addf main_v54 main_cst_68
  let main_cst_69 : FVec F S_ .f32 := constant S_ .f32 0x3CB3B7CE#32
  let main_cst_70 : FVec F S_ .f32 := constant S_ .f32 0x2FF07155#32
  let main_v56 : FVec F S_ .f32 := addf main_cst_69 main_cst_70
  let main_cst_71 : FVec F S_ .f32 := constant S_ .f32 0xA2982750#32
  let main_v57 : FVec F S_ .f32 := addf main_v56 main_cst_71
  let main_cst_72 : FVec F S_ .f32 := constant S_ .f32 0x16335DBC#32
  let main_v58 : FVec F S_ .f32 := addf main_v57 main_cst_72
  let main_cst_73 : FVec F S_ .f32 := constant S_ .f32 0x89C00000#32
  let main_v59 : FVec F S_ .f32 := addf main_v58 main_cst_73
  let main_cst_74 : FVec F S_ .f32 := constant S_ .f32 0x3C5A024A#32
  let main_cst_75 : FVec F S_ .f32 := constant S_ .f32 0x2EA19856#32
  let main_v60 : FVec F S_ .f32 := addf main_cst_74 main_cst_75
  let main_cst_76 : FVec F S_ .f32 := constant S_ .f32 0xA17B70F6#32
  let main_v61 : FVec F S_ .f32 := addf main_v60 main_cst_76
  let main_cst_77 : FVec F S_ .f32 := constant S_ .f32 0x145F7AD2#32
  let main_v62 : FVec F S_ .f32 := addf main_v61 main_cst_77
  let main_cst_78 : FVec F S_ .f32 := constant S_ .f32 0x88000000#32
  let main_v63 : FVec F S_ .f32 := addf main_v62 main_cst_78
  fn_part6 (F := F) main_arg0 main_arg1 main_v51

def fn_part4 {F : FTy → Type} [FloatOps F] (main_arg0 : FVec F S16x1x512x512 .f32) (main_arg1 : FVec F S16x1x512x512 .f32) (main_v41 : FVec F S_ .f32) (main_cst_52 : FVec F S_ .f32) : IVec S16x1x512x512 1 :=
  let main_v42 : FVec F S_ .f32 := addf main_v41 main_cst_52
  let main_cst_53 : FVec F S_ .f32 := constant S_ .f32 0x89C00000#32
  let main_v43 : FVec F S_ .f32 := addf main_v42 main_cst_53
  let main_cst_54 : FVec F S_ .f32 := constant S_ .f32 0x3DC95C2B#32
  let main_cst_55 : FVec F S_ .f32 := constant S_ .f32 0x317ACD85#32
  let main_v44 : FVec F S_ .f32 := addf main_cst_54 main_cst_55
  let main_cst_56 : FVec F S_ .f32 := constant S_ .f32 0x24CD6A8D#32
  let main_v45 : FVec F S_ .f32 := addf main_v44 main_cst_56
  let main_cst_57 : FVec F S_ .f32 := constant S_ .f32 0x9814EEA2#32
  let main_v46 : FVec F S_ .f32 := addf main_v45 main_cst_57
  let main_cst_58 : FVec F S_ .f32 := constant S_ .f32 0x8BC80000#32
  let main_v47 : FVec F S_ .f32 := addf main_v46 main_cst_58
  let main_cst_59 : FVec F S_ .f32 := constant S_ .f32 0x3E25FE48#32
  let main_cst_60 : FVec F S_ .f32 := constant S_ .f32 0x3158551D#32
  let main_v48 : FVec F S_ .f32 := addf main_cst_59 main_cst_60
  let main_cst_61 : FVec F S_ .f32 := constant S_ .f32 0x24AAE23D#32
  let main_v49 : FVec F S_ .f32 := addf main_v48 main_cst_61
  let main_cst_62 : FVec F S_ .f32 := constant S_ .f32 0x17B500C3#32
  let main_v50 : FVec F S_ .f32 := addf main_v49 main_cst_62
  let main_cst_63 : FVec F S_ .f32 := constant S_ .f32 0x0A800000#32
  let main_v51 : FVec F S_ .f32 := addf main_v50 main_cst_63
  let main_cst_64 : FVec F S_ .f32 := constant S_ .f32 0x3DC95C2B#32
  let main_cst_65 : FVec F S_ .f32 := constant S_ .f32 0x317ACD85#32
  let main_v52 : FVec F S_ .f32 := addf main_cst_64 main_cst_65
  fn_part5 (F := F) main_arg0 main_arg1 main_v51 main_v52

def fn_part3 {F : FTy → Type} [FloatOps F] (main_arg0 : FVec F S16x1x512x512 .f32) (main_arg1 : FVec F S16x1x512x512 .f32) : IVec S16x1x512x512 1 :=
  let main_cst_39 : FVec F S_ .f32 := constant S_ .f32 0x3D744317#32
  let main_cst_40 : FVec F S_ .f32 := constant S_ .f32 0x3093C9E6#32
  let main_v32 : FVec F S_ .f32 := addf main_cst_39 main_cst_40
  let main_cst_41 : FVec F S_ .f32 := constant S_ .f32 0xA3F0BF8A#32
  let main_v33 : FVec F S_ .f32 := addf main_v32 main_cst_41
  let main_cst_42 : FVec F S_ .f32 := constant S_ .f32 0x1709BE2C#32
  let main_v34 : FVec F S_ .f32 := addf main_v33 main_cst_42
  let main_cst_43 : FVec F S_ .f32 := constant S_ .f32 0x0AC80000#32
  let main_v35 : FVec F S_ .f32 := addf main_v34 main_cst_43
  let main_cst_44 : FVec F S_ .f32 := constant S_ .f32 0x3C5A024A#32
  let main_cst_45 : FVec F S_ .f32 := constant S_ .f32 0x2EA19856#32
  let main_v36 : FVec F S_ .f32 := addf main_cst_44 main_cst_45
  let main_cst_46 : FVec F S_ .f32 := constant S_ .f32 0xA17B70F6#32
  let main_v37 : FVec F S_ .f32 := addf main_v36 main_cst_46
  let main_cst_47 : FVec F S_ .f32 := constant S_ .f32 0x145F7AD2#32
  let main_v38 : FVec F S_ .f32 := addf main_v37 main_cst_47
  let main_cst_48 : FVec F S_ .f32 := constant S_ .f32 0x88000000#32
  let main_v39 : FVec F S_ .f32 := addf main_v38 main_cst_48
  let main_cst_49 : FVec F S_ .f32 := constant S_ .f32 0x3CB3B7CE#32
  let main_cst_50 : FVec F S_ .f32 := constant S_ .f32 0x2FF07155#32
  let main_v40 : FVec F S_ .f32 := addf main_cst_49 main_cst_50
  let main_cst_51 : FVec F S_ .f32 := constant S_ .f32 0xA2982750#32
  let main_v41 : FVec F S_ .f32 := addf main_v40 main_cst_51
  let main_cst_52 : FVec F S_ .f32 := constant S_ .f32 0x16335DBC#32
  fn_part4 (F := F) main_arg0 main_arg1 main_v41 main_cst_52

def fn_part2 {F : FTy → Type} [FloatOps F] (main_arg0 : FVec F S16x1x512x512 .f32) (main_arg1 : FVec F S16x1x512x512 .f32) (main_v20 : FVec F S_ .f32) : IVec S16x1x512x512 1 :=
  let main_cst_26 : FVec F S_ .f32 := constant S_ .f32 0xA17B70F6#32
  let main_v21 : FVec F S_ .f32 := addf main_v20 main_cst_26
  let main_cst_27 : FVec F S_ .f32 := constant S_ .f32 0x145F7AD2#32
  let main_v22 : FVec F S_ .f32 := addf main_v21 main_cst_27
  let main_cst_28 : FVec F S_ .f32 := constant S_ .f32 0x88000000#32
  let main_v23 : FVec F S_ .f32 := addf main_v22 main_cst_28
  let main_cst_29 : FVec F S_ .f32 := constant S_ .f32 0x3D744317#32
  let main_cst_30 : FVec F S_ .f32 := constant S_ .f32 0x3093C9E6#32
  let main_v24 : FVec F S_ .f32 := addf main_cst_29 main_cst_30
  let main_cst_31 : FVec F S_ .f32 := constant S_ .f32 0xA3F0BF8A#32
  let main_v25 : FVec F S_ .f32 := addf main_v24 main_cst_31
  let main_cst_32 : FVec F S_ .f32 := constant S_ .f32 0x1709BE2C#32
  let main_v26 : FVec F S_ .f32 := addf main_v25 main_cst_32
  let main_cst_33 : FVec F S_ .f32 := constant S_ .f32 0x0AC80000#32
  let main_v27 : FVec F S_ .f32 := addf main_v26 main_cst_33
  let main_cst_34 : FVec F S_ .f32 := constant S_ .f32 0x3DC95C2B#32
  let main_cst_35 : FVec F S_ .f32 := constant S_ .f32 0x317ACD85#32
  let main_v28 : FVec F S_ .f32 := addf main_cst_34 main_cst_35
  let main_cst_36 : FVec F S_ .f32 := constant S_ .f32 0x24CD6A8D#32
  let main_v29 : FVec F S_ .f32 := addf main_v28 main_cst_36
  let main_cst_37 : FVec F S_ .f32 := constant S_ .f32 0x9814EEA2#32
  let main_v30 : FVec F S_ .f32 := addf main_v29 main_cst_37
  let main_cst_38 : FVec F S_ .f32 := constant S_ .f32 0x8BC80000#32
  let main_v31 : FVec F S_ .f32 := addf main_v30 main_cst_38
  fn_part3 (F := F) main_arg0 main_arg1

def fn_part1 {F : FTy → Type} [FloatOps F] (main_arg0 : FVec F S16x1x512x512 .f32) (main_arg1 : FVec F S16x1x512x512 .f32) (main_v9 : FVec F S_ .f32) (main_cst_12 : FVec F S_ .f32) : IVec S16x1x512x512 1 :=
  let main_v10 : FVec F S_ .f32 := addf main_v9 main_cst_12
  let main_cst_13 : FVec F S_ .f32 := constant S_ .f32 0x89C00000#32
  let main_v11 : FVec F S_ .f32 := addf main_v10 main_cst_13
  let main_cst_14 : FVec F S_ .f32 := constant S_ .f32 0x3C5A024A#32
  let main_cst_15 : FVec F S_ .f32 := constant S_ .f32 0x2EA19856#32
  let main_v12 : FVec F S_ .f32 := addf main_cst_14 main_cst_15
  let main_cst_16 : FVec F S_ .f32 := constant S_ .f32 0xA17B70F6#32
  let main_v13 : FVec F S_ .f32 := addf main_v12 main_cst_16
  let main_cst_17 : FVec F S_ .f32 := constant S_ .f32 0x145F7AD2#32
  let main_v14 : FVec F S_ .f32 := addf main_v13 main_cst_17
  let main_cst_18 : FVec F S_ .f32 := constant S_ .f32 0x88000000#32
  let main_v15 : FVec F S_ .f32 := addf main_v14 main_cst_18
  let main_cst_19 : FVec F S_ .f32 := constant S_ .f32 0x3B4293D6#32
  let main_cst_20 : FVec F S_ .f32 := constant S_ .f32 0xAE3BDBF2#32
  let main_v16 : FVec F S_ .f32 := addf main_cst_19 main_cst_20
  let main_cst_21 : FVec F S_ .f32 := constant S_ .f32 0x213E7FA0#32
  let main_v17 : FVec F S_ .f32 := addf main_v16 main_cst_21
  let main_cst_22 : FVec F S_ .f32 := constant S_ .f32 0x948AE93A#32
  let main_v18 : FVec F S_ .f32 := addf main_v17 main_cst_22
  let main_cst_23 : FVec F S_ .f32 := constant S_ .f32 0x07800000#32
  let main_v19 : FVec F S_ .f32 := addf main_v18 main_cst_23
  let main_cst_24 : FVec F S_ .f32 := constant S_ .f32 0x3C5A024A#32
  let main_cst_25 : FVec F S_ .f32 := constant S_ .f32 0x2EA19856#32
  let main_v20 : FVec F S_ .f32 := addf main_cst_24 main_cst_25
  fn_part2 (F := F) main_arg0 main_arg1 main_v20

def fn {F : FTy → Type} [FloatOps F] (main_arg0 : FVec F S16x1x512x512 .f32) (main_arg1 : FVec F S16x1x512x512 .f32) : IVec S16x1x512x512 1 :=
  let main_cst : FVec F S_ .f32 := constant S_ .f32 0x3B4293D6#32
  let main_cst_0 : FVec F S_ .f32 := constant S_ .f32 0xAE3BDBF2#32
  let main_v0 : FVec F S_ .f32 := addf main_cst main_cst_0
  let main_cst_1 : FVec F S_ .f32 := constant S_ .f32 0x213E7FA0#32
  let main_v1 : FVec F S_ .f32 := addf main_v0 main_cst_1
  let main_cst_2 : FVec F S_ .f32 := constant S_ .f32 0x948AE93A#32
  let main_v2 : FVec F S_ .f32 := addf main_v1 main_cst_2
  let main_cst_3 : FVec F S_ .f32 := constant S_ .f32 0x07800000#32
  let main_v3 : FVec F S_ .f32 := addf main_v2 main_cst_3
  let main_cst_4 : FVec F S_ .f32 := constant S_ .f32 0x3C5A024A#32
  let main_cst_5 : FVec F S_ .f32 := constant S_ .f32 0x2EA19856#32
  let main_v4 : FVec F S_ .f32 := addf main_cst_4 main_cst_5
  let main_cst_6 : FVec F S_ .f32 := constant S_ .f32 0xA17B70F6#32
  let main_v5 : FVec F S_ .f32 := addf main_v4 main_cst_6
  let main_cst_7 : FVec F S_ .f32 := constant S_ .f32 0x145F7AD2#32
  let main_v6 : FVec F S_ .f32 := addf main_v5 main_cst_7
  let main_cst_8 : FVec F S_ .f32 := constant S_ .f32 0x88000000#32
  let main_v7 : FVec F S_ .f32 := addf main_v6 main_cst_8
  let main_cst_9 : FVec F S_ .f32 := constant S_ .f32 0x3CB3B7CE#32
  let main_cst_10 : FVec F S_ .f32 := constant S_ .f32 0x2FF07155#32
  let main_v8 : FVec F S_ .f32 := addf main_cst_9 main_cst_10
  let main_cst_11 : FVec F S_ .f32 := constant S_ .f32 0xA2982750#32
  let main_v9 : FVec F S_ .f32 := addf main_v8 main_cst_11
  let main_cst_12 : FVec F S_ .f32 := constant S_ .f32 0x16335DBC#32
  fn_part1 (F := F) main_arg0 main_arg1 main_v9 main_cst_12
-- ==== Kernel.lean ====
abbrev S16x1x512x512 : Shape := ⟨4, ![16, 1, 512, 512]⟩
abbrev S1x2x512 : Shape := ⟨3, ![1, 2, 512]⟩
abbrev S_ : Shape := ⟨0, ![]⟩
abbrev S1x1x512x512 : Shape := ⟨4, ![1, 1, 512, 512]⟩
abbrev S528x512 : Shape := ⟨2, ![528, 512]⟩
abbrev S8x512 : Shape := ⟨2, ![8, 512]⟩
abbrev S512x512 : Shape := ⟨2, ![512, 512]⟩
abbrev S528x511 : Shape := ⟨2, ![528, 511]⟩
abbrev S528x1 : Shape := ⟨2, ![528, 1]⟩
abbrev S527x512 : Shape := ⟨2, ![527, 512]⟩
abbrev S1x512 : Shape := ⟨2, ![1, 512]⟩
abbrev S512 : Shape := ⟨1, ![512]⟩
abbrev S2x512 : Shape := ⟨2, ![2, 512]⟩

abbrev nBuf : Space → Nat
  | .hbm => 7
  | .vmem => 5
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S1x2x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x2x512, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_cst_0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [BitOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v365 : BitVec 1 := Scalar.cmpi .eq arg0 c0_i32
  let v366 : BitVec 32 := Scalar.extui v365
  let c0_i32_73 : BitVec 32 := 0#32
  let v367 : BitVec 1 := Scalar.cmpi .ne v366 c0_i32_73
  v367

def k0_cond2 (i : grid0.Coords) : BitVec 1 :=
  let arg0 : BitVec 32 := BitVec.ofNat 32 (i 0).val
  let c0_i32_74 : BitVec 32 := 0#32
  let v368 : BitVec 1 := Scalar.cmpi .sgt arg0 c0_i32_74
  let v369 : BitVec 32 := Scalar.extui v368
  let c0_i32_75 : BitVec 32 := 0#32
  let v370 : BitVec 1 := Scalar.cmpi .ne v369 c0_i32_75
  v370

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "g0" => some ((3626478085609723 / 9007199254740992 : ℝ) : EReal)
  | "g1" => some ((8798280582793093 / 36028797018963968 : ℝ) : EReal)
  | "g2" => some ((3926323510938887 / 72057594037927936 : ℝ) : EReal)
  | _ => none
-- ==== ReferenceIdeal.lean ====
abbrev S16x1x512x512 : Shape := ⟨4, ![16, 1, 512, 512]⟩
abbrev S_ : Shape := ⟨0, ![]⟩
abbrev S16x1x516x516 : Shape := ⟨4, ![16, 1, 516, 516]⟩
abbrev S16x1x514x514 : Shape := ⟨4, ![16, 1, 514, 514]⟩
abbrev S16x8x512x512 : Shape := ⟨4, ![16, 8, 512, 512]⟩
abbrev S16x1x512x512x1 : Shape := ⟨5, ![16, 1, 512, 512, 1]⟩
abbrev S1 : Shape := ⟨1, ![1]⟩
abbrev S1x1x1x1x1 : Shape := ⟨5, ![1, 1, 1, 1, 1]⟩
abbrev S16 : Shape := ⟨1, ![16]⟩

abbrev nBuf : Space → Nat
  | .hbm => 1191
  | .vmem => 0
  | .smem => 0
  | _ => 0

abbrev hbmTy0_0 (i : Nat) : BufTy := match i % 128 with
  | 0 => ⟨S16x1x512x512, .f32⟩
  | 1 => ⟨S16x1x512x512, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x1x512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S16x1x516x516, .f32⟩
  | 101 => ⟨S16x1x512x512, .f32⟩
  | 102 => ⟨S16x1x512x512, .f32⟩
  | 103 => ⟨S16x1x512x512, .f32⟩
  | 104 => ⟨S16x1x512x512, .f32⟩
  | 105 => ⟨S16x1x512x512, .f32⟩
  | 106 => ⟨S16x1x512x512, .f32⟩
  | 107 => ⟨S16x1x512x512, .f32⟩
  | 108 => ⟨S16x1x512x512, .f32⟩
  | 109 => ⟨S16x1x512x512, .f32⟩
  | 110 => ⟨S16x1x512x512, .f32⟩
  | 111 => ⟨S16x1x512x512, .f32⟩
  | 112 => ⟨S16x1x512x512, .f32⟩
  | 113 => ⟨S16x1x512x512, .f32⟩
  | 114 => ⟨S16x1x512x512, .f32⟩
  | 115 => ⟨S16x1x512x512, .f32⟩
  | 116 => ⟨S16x1x512x512, .f32⟩
  | 117 => ⟨S16x1x512x512, .f32⟩
  | 118 => ⟨S16x1x512x512, .f32⟩
  | 119 => ⟨S16x1x512x512, .f32⟩
  | 120 => ⟨S16x1x512x512, .f32⟩
  | 121 => ⟨S16x1x512x512, .f32⟩
  | 122 => ⟨S16x1x512x512, .f32⟩
  | 123 => ⟨S16x1x512x512, .f32⟩
  | 124 => ⟨S16x1x512x512, .f32⟩
  | 125 => ⟨S16x1x512x512, .f32⟩
  | 126 => ⟨S16x1x512x512, .f32⟩
  | 127 => ⟨S16x1x512x512, .f32⟩
  | _ => ⟨S16x1x512x512, .f32⟩

abbrev hbmTy0_2 (i : Nat) : BufTy := match i % 128 with
  | 0 => ⟨S16x1x512x512, .f32⟩
  | 1 => ⟨S16x1x512x512, .f32⟩
  | 2 => ⟨S16x1x512x512, .f32⟩
  | 3 => ⟨S16x1x512x512, .f32⟩
  | 4 => ⟨S16x1x512x512, .f32⟩
  | 5 => ⟨S16x1x512x512, .f32⟩
  | 6 => ⟨S16x1x512x512, .f32⟩
  | 7 => ⟨S16x1x512x512, .f32⟩
  | 8 => ⟨S16x1x512x512, .f32⟩
  | 9 => ⟨S16x1x512x512, .f32⟩
  | 10 => ⟨S16x1x512x512, .f32⟩
  | 11 => ⟨S16x1x512x512, .f32⟩
  | 12 => ⟨S16x1x512x512, .f32⟩
  | 13 => ⟨S16x1x512x512, .f32⟩
  | 14 => ⟨S16x1x512x512, .f32⟩
  | 15 => ⟨S16x1x512x512, .f32⟩
  | 16 => ⟨S16x1x512x512, .f32⟩
  | 17 => ⟨S16x1x512x512, .f32⟩
  | 18 => ⟨S16x1x512x512, .f32⟩
  | 19 => ⟨S16x1x512x512, .f32⟩
  | 20 => ⟨S16x1x512x512, .f32⟩
  | 21 => ⟨S16x1x512x512, .f32⟩
  | 22 => ⟨S16x1x512x512, .f32⟩
  | 23 => ⟨S16x1x512x512, .f32⟩
  | 24 => ⟨S16x1x512x512, .f32⟩
  | 25 => ⟨S16x1x512x512, .f32⟩
  | 26 => ⟨S16x1x512x512, .f32⟩
  | 27 => ⟨S16x1x512x512, .f32⟩
  | 28 => ⟨S16x1x512x512, .f32⟩
  | 29 => ⟨S16x1x512x512, .f32⟩
  | 30 => ⟨S16x1x512x512, .f32⟩
  | 31 => ⟨S16x1x512x512, .f32⟩
  | 32 => ⟨S16x1x512x512, .f32⟩
  | 33 => ⟨S16x1x512x512, .f32⟩
  | 34 => ⟨S16x1x512x512, .f32⟩
  | 35 => ⟨S16x1x512x512, .f32⟩
  | 36 => ⟨S16x1x512x512, .f32⟩
  | 37 => ⟨S16x1x512x512, .f32⟩
  | 38 => ⟨S16x1x512x512, .f32⟩
  | 39 => ⟨S16x1x512x512, .f32⟩
  | 40 => ⟨S16x1x512x512, .f32⟩
  | 41 => ⟨S16x1x512x512, .f32⟩
  | 42 => ⟨S16x1x512x512, .f32⟩
  | 43 => ⟨S16x1x512x512, .f32⟩
  | 44 => ⟨S16x1x512x512, .f32⟩
  | 45 => ⟨S16x1x512x512, .f32⟩
  | 46 => ⟨S16x1x512x512, .f32⟩
  | 47 => ⟨S16x1x512x512, .f32⟩
  | 48 => ⟨S16x1x512x512, .f32⟩
  | 49 => ⟨S16x1x512x512, .f32⟩
  | 50 => ⟨S16x1x512x512, .f32⟩
  | 51 => ⟨S16x1x512x512, .f32⟩
  | 52 => ⟨S16x1x512x512, .f32⟩
  | 53 => ⟨S16x1x512x512, .f32⟩
  | 54 => ⟨S16x1x512x512, .f32⟩
  | 55 => ⟨S16x1x512x512, .f32⟩
  | 56 => ⟨S16x1x512x512, .f32⟩
  | 57 => ⟨S16x1x512x512, .f32⟩
  | 58 => ⟨S16x1x512x512, .f32⟩
  | 59 => ⟨S16x1x512x512, .f32⟩
  | 60 => ⟨S16x1x512x512, .f32⟩
  | 61 => ⟨S16x1x512x512, .f32⟩
  | 62 => ⟨S16x1x512x512, .f32⟩
  | 63 => ⟨S16x1x512x512, .f32⟩
  | 64 => ⟨S16x1x512x512, .f32⟩
  | 65 => ⟨S16x1x512x512, .f32⟩
  | 66 => ⟨S16x1x512x512, .f32⟩
  | 67 => ⟨S16x1x512x512, .f32⟩
  | 68 => ⟨S16x1x512x512, .f32⟩
  | 69 => ⟨S16x1x512x512, .f32⟩
  | 70 => ⟨S16x1x512x512, .f32⟩
  | 71 => ⟨S16x1x512x512, .f32⟩
  | 72 => ⟨S_, .f32⟩
  | 73 => ⟨S16x1x514x514, .f32⟩
  | 74 => ⟨S16x1x512x512, .f32⟩
  | 75 => ⟨S_, .f32⟩
  | 76 => ⟨S16x1x512x512, .f32⟩
  | 77 => ⟨S16x1x512x512, .f32⟩
  | 78 => ⟨S16x1x512x512, .f32⟩
  | 79 => ⟨S_, .f32⟩
  | 80 => ⟨S16x1x512x512, .f32⟩
  | 81 => ⟨S16x1x512x512, .f32⟩
  | 82 => ⟨S16x1x512x512, .f32⟩
  | 83 => ⟨S16x1x512x512, .f32⟩
  | 84 => ⟨S_, .f32⟩
  | 85 => ⟨S16x1x512x512, .f32⟩
  | 86 => ⟨S16x1x512x512, .f32⟩
  | 87 => ⟨S16x1x512x512, .f32⟩
  | 88 => ⟨S16x1x512x512, .f32⟩
  | 89 => ⟨S_, .f32⟩
  | 90 => ⟨S16x1x512x512, .f32⟩
  | 91 => ⟨S16x1x512x512, .f32⟩
  | 92 => ⟨S16x1x512x512, .f32⟩
  | 93 => ⟨S16x1x512x512, .f32⟩
  | 94 => ⟨S_, .f32⟩
  | 95 => ⟨S16x1x512x512, .f32⟩
  | 96 => ⟨S16x1x512x512, .f32⟩
  | 97 => ⟨S16x1x512x512, .f32⟩
  | 98 => ⟨S16x1x512x512, .f32⟩
  | 99 => ⟨S_, .f32⟩
  | 100 => ⟨S16x1x512x512, .f32⟩
  | 101 => ⟨S16x1x512x512, .f32⟩
  | 102 => ⟨S16x1x512x512, .f32⟩
  | 103 => ⟨S_, .f32⟩
  | 104 => ⟨S16x1x514x514, .f32⟩
  | 105 => ⟨S16x1x512x512, .f32⟩
  | 106 => ⟨S_, .f32⟩
  | 107 => ⟨S16x1x512x512, .f32⟩
  | 108 => ⟨S16x1x512x512, .f32⟩
  | 109 => ⟨S16x1x512x512, .f32⟩
  | 110 => ⟨S_, .f32⟩
  | 111 => ⟨S16x1x512x512, .f32⟩
  | 112 => ⟨S16x1x512x512, .f32⟩
  | 113 => ⟨S16x1x512x512, .f32⟩
  | 114 => ⟨S16x1x512x512, .f32⟩
  | 115 => ⟨S_, .f32⟩
  | 116 => ⟨S16x1x512x512, .f32⟩
  | 117 => ⟨S16x1x512x512, .f32⟩
  | 118 => ⟨S16x1x512x512, .f32⟩
  | 119 => ⟨S16x1x512x512, .f32⟩
  | 120 => ⟨S_, .f32⟩
  | 121 => ⟨S16x1x512x512, .f32⟩
  | 122 => ⟨S16x1x512x512, .f32⟩
  | 123 => ⟨S16x1x512x512, .f32⟩
  | 124 => ⟨S16x1x512x512, .f32⟩
  | 125 => ⟨S_, .f32⟩
  | 126 => ⟨S16x1x512x512, .f32⟩
  | 127 => ⟨S16x1x512x512, .f32⟩
  | _ => ⟨S16x1x512x512, .f32⟩

abbrev hbmTy0_3 (i : Nat) : BufTy := match i % 128 with
  | 0 => ⟨S16x1x512x512, .f32⟩
  | 1 => ⟨S16x1x512x512, .f32⟩
  | 2 => ⟨S_, .f32⟩
  | 3 => ⟨S16x1x512x512, .f32⟩
  | 4 => ⟨S16x1x512x512, .f32⟩
  | 5 => ⟨S16x1x512x512, .f32⟩
  | 6 => ⟨S16x1x512x512, .f32⟩
  | 7 => ⟨S16x1x512x512, .f32⟩
  | 8 => ⟨S16x1x512x512, .f32⟩
  | 9 => ⟨S_, .f32⟩
  | 10 => ⟨S16x1x512x512, .f32⟩
  | 11 => ⟨S16x1x512x512, .f32⟩
  | 12 => ⟨S16x1x512x512, .f32⟩
  | 13 => ⟨S16x1x512x512, .f32⟩
  | 14 => ⟨S_, .f32⟩
  | 15 => ⟨S16x1x512x512, .f32⟩
  | 16 => ⟨S16x1x512x512, .f32⟩
  | 17 => ⟨S_, .f32⟩
  | 18 => ⟨S16x1x512x512, .f32⟩
  | 19 => ⟨S16x1x512x512, .f32⟩
  | 20 => ⟨S_, .f32⟩
  | 21 => ⟨S16x1x512x512, .f32⟩
  | 22 => ⟨S16x1x512x512, .f32⟩
  | 23 => ⟨S16x1x512x512, .f32⟩
  | 24 => ⟨S_, .f32⟩
  | 25 => ⟨S16x1x512x512, .f32⟩
  | 26 => ⟨S16x1x512x512, .f32⟩
  | 27 => ⟨S_, .f32⟩
  | 28 => ⟨S16x1x512x512, .f32⟩
  | 29 => ⟨S16x1x512x512, .f32⟩
  | 30 => ⟨S16x1x512x512, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S16x1x512x512, .i32⟩
  | 38 => ⟨S16x1x512x512, .i32⟩
  | 39 => ⟨S_, .i32⟩
  | 40 => ⟨S16x1x512x512, .i32⟩
  | 41 => ⟨S16x1x512x512, .i1⟩
  | 42 => ⟨S_, .i32⟩
  | 43 => ⟨S16x1x512x512, .i32⟩
  | 44 => ⟨S16x1x512x512, .i1⟩
  | 45 => ⟨S_, .i32⟩
  | 46 => ⟨S_, .i1⟩
  | 47 => ⟨S16x1x512x512, .i1⟩
  | 48 => ⟨S16x1x512x512, .i1⟩
  | 49 => ⟨S16x1x512x512, .i1⟩
  | 50 => ⟨S16x1x512x512, .i32⟩
  | 51 => ⟨S16x1x512x512, .i32⟩
  | 52 => ⟨S16x1x512x512, .i32⟩
  | 53 => ⟨S_, .i32⟩
  | 54 => ⟨S16x1x512x512, .i32⟩
  | 55 => ⟨S16x1x512x512, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S16x1x512x512, .i32⟩
  | 63 => ⟨S16x1x512x512, .i32⟩
  | 64 => ⟨S_, .i32⟩
  | 65 => ⟨S16x1x512x512, .i32⟩
  | 66 => ⟨S16x1x512x512, .i1⟩
  | 67 => ⟨S_, .i32⟩
  | 68 => ⟨S16x1x512x512, .i32⟩
  | 69 => ⟨S16x1x512x512, .i1⟩
  | 70 => ⟨S_, .i32⟩
  | 71 => ⟨S_, .i1⟩
  | 72 => ⟨S16x1x512x512, .i1⟩
  | 73 => ⟨S16x1x512x512, .i1⟩
  | 74 => ⟨S16x1x512x512, .i1⟩
  | 75 => ⟨S16x1x512x512, .i32⟩
  | 76 => ⟨S16x1x512x512, .i32⟩
  | 77 => ⟨S16x1x512x512, .i32⟩
  | 78 => ⟨S_, .f32⟩
  | 79 => ⟨S16x1x514x514, .f32⟩
  | 80 => ⟨S16x1x512x512, .f32⟩
  | 81 => ⟨S_, .f32⟩
  | 82 => ⟨S16x1x512x512, .f32⟩
  | 83 => ⟨S16x1x512x512, .f32⟩
  | 84 => ⟨S16x1x512x512, .f32⟩
  | 85 => ⟨S_, .f32⟩
  | 86 => ⟨S16x1x512x512, .f32⟩
  | 87 => ⟨S16x1x512x512, .f32⟩
  | 88 => ⟨S16x1x512x512, .f32⟩
  | 89 => ⟨S16x1x512x512, .f32⟩
  | 90 => ⟨S_, .f32⟩
  | 91 => ⟨S16x1x512x512, .f32⟩
  | 92 => ⟨S16x1x512x512, .f32⟩
  | 93 => ⟨S16x1x512x512, .f32⟩
  | 94 => ⟨S_, .f32⟩
  | 95 => ⟨S16x1x512x512, .f32⟩
  | 96 => ⟨S16x1x512x512, .f32⟩
  | 97 => ⟨S16x1x512x512, .f32⟩
  | 98 => ⟨S16x1x512x512, .f32⟩
  | 99 => ⟨S_, .f32⟩
  | 100 => ⟨S16x1x512x512, .f32⟩
  | 101 => ⟨S16x1x512x512, .f32⟩
  | 102 => ⟨S16x1x512x512, .f32⟩
  | 103 => ⟨S_, .f32⟩
  | 104 => ⟨S16x1x512x512, .f32⟩
  | 105 => ⟨S16x1x512x512, .f32⟩
  | 106 => ⟨S16x1x512x512, .f32⟩
  | 107 => ⟨S16x1x512x512, .f32⟩
  | 108 => ⟨S_, .f32⟩
  | 109 => ⟨S16x1x512x512, .f32⟩
  | 110 => ⟨S16x1x512x512, .f32⟩
  | 111 => ⟨S16x1x512x512, .f32⟩
  | 112 => ⟨S_, .f32⟩
  | 113 => ⟨S16x1x512x512, .f32⟩
  | 114 => ⟨S16x1x512x512, .f32⟩
  | 115 => ⟨S16x1x512x512, .f32⟩
  | 116 => ⟨S16x1x512x512, .f32⟩
  | 117 => ⟨S_, .f32⟩
  | 118 => ⟨S16x1x512x512, .f32⟩
  | 119 => ⟨S16x1x512x512, .f32⟩
  | 120 => ⟨S16x1x512x512, .f32⟩
  | 121 => ⟨S_, .f32⟩
  | 122 => ⟨S16x1x512x512, .f32⟩
  | 123 => ⟨S16x1x512x512, .f32⟩
  | 124 => ⟨S16x1x512x512, .f32⟩
  | 125 => ⟨S16x1x512x512, .f32⟩
  | 126 => ⟨S_, .f32⟩
  | 127 => ⟨S16x1x512x512, .f32⟩
  | _ => ⟨S16x1x512x512, .f32⟩

abbrev hbmTy0_4 (i : Nat) : BufTy := match i % 128 with
  | 0 => ⟨S16x1x512x512, .f32⟩
  | 1 => ⟨S16x1x512x512, .f32⟩
  | 2 => ⟨S_, .f32⟩
  | 3 => ⟨S16x1x512x512, .f32⟩
  | 4 => ⟨S16x1x512x512, .f32⟩
  | 5 => ⟨S16x1x512x512, .f32⟩
  | 6 => ⟨S16x1x512x512, .f32⟩
  | 7 => ⟨S_, .f32⟩
  | 8 => ⟨S16x1x512x512, .f32⟩
  | 9 => ⟨S16x1x512x512, .f32⟩
  | 10 => ⟨S16x1x512x512, .f32⟩
  | 11 => ⟨S_, .f32⟩
  | 12 => ⟨S16x1x512x512, .f32⟩
  | 13 => ⟨S16x1x512x512, .f32⟩
  | 14 => ⟨S16x1x512x512, .f32⟩
  | 15 => ⟨S16x1x512x512, .f32⟩
  | 16 => ⟨S_, .f32⟩
  | 17 => ⟨S16x1x512x512, .f32⟩
  | 18 => ⟨S16x1x512x512, .f32⟩
  | 19 => ⟨S16x1x512x512, .f32⟩
  | 20 => ⟨S_, .f32⟩
  | 21 => ⟨S16x1x512x512, .f32⟩
  | 22 => ⟨S16x1x512x512, .f32⟩
  | 23 => ⟨S16x1x512x512, .f32⟩
  | 24 => ⟨S16x8x512x512, .f32⟩
  | 25 => ⟨S_, .i32⟩
  | 26 => ⟨S16x1x512x512, .i32⟩
  | 27 => ⟨S16x1x512x512, .i1⟩
  | 28 => ⟨S_, .i32⟩
  | 29 => ⟨S16x1x512x512, .i32⟩
  | 30 => ⟨S16x1x512x512, .i32⟩
  | 31 => ⟨S16x1x512x512, .i32⟩
  | 32 => ⟨S16x1x512x512x1, .i32⟩
  | 33 => ⟨S1, .i32⟩
  | 34 => ⟨S_, .i32⟩
  | 35 => ⟨S16x1x512x512x1, .i32⟩
  | 36 => ⟨S16x1x512x512x1, .i1⟩
  | 37 => ⟨S1x1x1x1x1, .i32⟩
  | 38 => ⟨S16x1x512x512x1, .i32⟩
  | 39 => ⟨S16x1x512x512x1, .i1⟩
  | 40 => ⟨S16x1x512x512x1, .i1⟩
  | 41 => ⟨S_, .i1⟩
  | 42 => ⟨S16x1x512x512, .i1⟩
  | 43 => ⟨S16x1x512x512, .f32⟩
  | 44 => ⟨S_, .f32⟩
  | 45 => ⟨S16x1x512x512, .f32⟩
  | 46 => ⟨S16x1x512x512, .f32⟩
  | 47 => ⟨S_, .i32⟩
  | 48 => ⟨S16x1x512x512, .i32⟩
  | 49 => ⟨S16x1x512x512, .i1⟩
  | 50 => ⟨S_, .i32⟩
  | 51 => ⟨S16x1x512x512, .i32⟩
  | 52 => ⟨S16x1x512x512, .i32⟩
  | 53 => ⟨S16x1x512x512, .i32⟩
  | 54 => ⟨S16x1x512x512x1, .i32⟩
  | 55 => ⟨S1, .i32⟩
  | 56 => ⟨S_, .i32⟩
  | 57 => ⟨S16x1x512x512x1, .i32⟩
  | 58 => ⟨S16x1x512x512x1, .i1⟩
  | 59 => ⟨S1x1x1x1x1, .i32⟩
  | 60 => ⟨S16x1x512x512x1, .i32⟩
  | 61 => ⟨S16x1x512x512x1, .i1⟩
  | 62 => ⟨S16x1x512x512x1, .i1⟩
  | 63 => ⟨S_, .i1⟩
  | 64 => ⟨S16x1x512x512, .i1⟩
  | 65 => ⟨S16x1x512x512, .f32⟩
  | 66 => ⟨S_, .f32⟩
  | 67 => ⟨S16x1x512x512, .f32⟩
  | 68 => ⟨S16x1x512x512, .f32⟩
  | 69 => ⟨S16x1x512x512, .f32⟩
  | 70 => ⟨S_, .f32⟩
  | 71 => ⟨S16x1x512x512, .f32⟩
  | 72 => ⟨S16x1x512x512, .i1⟩
  | 73 => ⟨S16x1x512x512, .f32⟩
  | 74 => ⟨S16x1x512x512, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x1x512x512, .f32⟩

abbrev hbmTy0_5 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x1x512x512, .f32⟩

abbrev hbmTy0_6 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S16x1x516x516, .f32⟩
  | 46 => ⟨S16x1x512x512, .f32⟩
  | 47 => ⟨S16x1x512x512, .f32⟩
  | 48 => ⟨S16x1x512x512, .f32⟩
  | 49 => ⟨S16x1x512x512, .f32⟩
  | 50 => ⟨S16x1x512x512, .f32⟩
  | 51 => ⟨S16x1x512x512, .f32⟩
  | 52 => ⟨S16x1x512x512, .f32⟩
  | 53 => ⟨S16x1x512x512, .f32⟩
  | 54 => ⟨S16x1x512x512, .f32⟩
  | 55 => ⟨S16x1x512x512, .f32⟩
  | 56 => ⟨S16x1x512x512, .f32⟩
  | 57 => ⟨S16x1x512x512, .f32⟩
  | 58 => ⟨S16x1x512x512, .f32⟩
  | 59 => ⟨S16x1x512x512, .f32⟩
  | 60 => ⟨S16x1x512x512, .f32⟩
  | 61 => ⟨S16x1x512x512, .f32⟩
  | 62 => ⟨S16x1x512x512, .f32⟩
  | 63 => ⟨S16x1x512x512, .f32⟩
  | 64 => ⟨S16x1x512x512, .f32⟩
  | 65 => ⟨S16x1x512x512, .f32⟩
  | 66 => ⟨S16x1x512x512, .f32⟩
  | 67 => ⟨S16x1x512x512, .f32⟩
  | 68 => ⟨S16x1x512x512, .f32⟩
  | 69 => ⟨S16x1x512x512, .f32⟩
  | 70 => ⟨S16x1x512x512, .f32⟩
  | 71 => ⟨S16x1x512x512, .f32⟩
  | 72 => ⟨S16x1x512x512, .f32⟩
  | 73 => ⟨S16x1x512x512, .f32⟩
  | 74 => ⟨S16x1x512x512, .f32⟩
  | 75 => ⟨S16x1x512x512, .f32⟩
  | 76 => ⟨S16x1x512x512, .f32⟩
  | 77 => ⟨S16x1x512x512, .f32⟩
  | 78 => ⟨S16x1x512x512, .f32⟩
  | 79 => ⟨S16x1x512x512, .f32⟩
  | 80 => ⟨S16x1x512x512, .f32⟩
  | 81 => ⟨S16x1x512x512, .f32⟩
  | 82 => ⟨S16x1x512x512, .f32⟩
  | 83 => ⟨S16x1x512x512, .f32⟩
  | 84 => ⟨S16x1x512x512, .f32⟩
  | 85 => ⟨S16x1x512x512, .f32⟩
  | 86 => ⟨S16x1x512x512, .f32⟩
  | 87 => ⟨S16x1x512x512, .f32⟩
  | 88 => ⟨S16x1x512x512, .f32⟩
  | 89 => ⟨S16x1x512x512, .f32⟩
  | 90 => ⟨S16x1x512x512, .f32⟩
  | 91 => ⟨S16x1x512x512, .f32⟩
  | 92 => ⟨S16x1x512x512, .f32⟩
  | 93 => ⟨S16x1x512x512, .f32⟩
  | 94 => ⟨S16x1x512x512, .f32⟩
  | 95 => ⟨S16x1x512x512, .f32⟩
  | 96 => ⟨S16x1x512x512, .f32⟩
  | 97 => ⟨S16x1x512x512, .f32⟩
  | 98 => ⟨S16x1x512x512, .f32⟩
  | 99 => ⟨S16x1x512x512, .f32⟩
  | 100 => ⟨S16x1x512x512, .f32⟩
  | 101 => ⟨S16x1x512x512, .f32⟩
  | 102 => ⟨S16x1x512x512, .f32⟩
  | 103 => ⟨S16x1x512x512, .f32⟩
  | 104 => ⟨S16x1x512x512, .f32⟩
  | 105 => ⟨S16x1x512x512, .f32⟩
  | 106 => ⟨S16x1x512x512, .f32⟩
  | 107 => ⟨S16x1x512x512, .f32⟩
  | 108 => ⟨S16x1x512x512, .f32⟩
  | 109 => ⟨S16x1x512x512, .f32⟩
  | 110 => ⟨S16x1x512x512, .f32⟩
  | 111 => ⟨S16x1x512x512, .f32⟩
  | 112 => ⟨S16x1x512x512, .f32⟩
  | 113 => ⟨S16x1x512x512, .f32⟩
  | 114 => ⟨S16x1x512x512, .f32⟩
  | 115 => ⟨S16x1x512x512, .f32⟩
  | 116 => ⟨S16x1x512x512, .f32⟩
  | 117 => ⟨S16x1x512x512, .f32⟩
  | 118 => ⟨S16x1x512x512, .f32⟩
  | 119 => ⟨S16x1x512x512, .f32⟩
  | 120 => ⟨S16x1x512x512, .f32⟩
  | 121 => ⟨S16x1x512x512, .f32⟩
  | 122 => ⟨S16x1x512x512, .f32⟩
  | 123 => ⟨S16x1x512x512, .f32⟩
  | 124 => ⟨S16x1x512x512, .f32⟩
  | 125 => ⟨S16x1x512x512, .f32⟩
  | 126 => ⟨S16x1x512x512, .f32⟩
  | 127 => ⟨S16x1x512x512, .f32⟩
  | _ => ⟨S16x1x512x512, .f32⟩

abbrev hbmTy0_7 (i : Nat) : BufTy := match i % 128 with
  | 0 => ⟨S16x1x512x512, .f32⟩
  | 1 => ⟨S16x1x512x512, .f32⟩
  | 2 => ⟨S16x1x512x512, .f32⟩
  | 3 => ⟨S16x1x512x512, .f32⟩
  | 4 => ⟨S16x1x512x512, .f32⟩
  | 5 => ⟨S16x1x512x512, .f32⟩
  | 6 => ⟨S16x1x512x512, .f32⟩
  | 7 => ⟨S16x1x512x512, .f32⟩
  | 8 => ⟨S16x1x512x512, .f32⟩
  | 9 => ⟨S16x1x512x512, .f32⟩
  | 10 => ⟨S16x1x512x512, .f32⟩
  | 11 => ⟨S16x1x512x512, .f32⟩
  | 12 => ⟨S16x1x512x512, .f32⟩
  | 13 => ⟨S16x1x512x512, .f32⟩
  | 14 => ⟨S16x1x512x512, .f32⟩
  | 15 => ⟨S16x1x512x512, .f32⟩
  | 16 => ⟨S16x1x512x512, .f32⟩
  | 17 => ⟨S_, .f32⟩
  | 18 => ⟨S16x1x514x514, .f32⟩
  | 19 => ⟨S16x1x512x512, .f32⟩
  | 20 => ⟨S_, .f32⟩
  | 21 => ⟨S16x1x512x512, .f32⟩
  | 22 => ⟨S16x1x512x512, .f32⟩
  | 23 => ⟨S16x1x512x512, .f32⟩
  | 24 => ⟨S_, .f32⟩
  | 25 => ⟨S16x1x512x512, .f32⟩
  | 26 => ⟨S16x1x512x512, .f32⟩
  | 27 => ⟨S16x1x512x512, .f32⟩
  | 28 => ⟨S16x1x512x512, .f32⟩
  | 29 => ⟨S_, .f32⟩
  | 30 => ⟨S16x1x512x512, .f32⟩
  | 31 => ⟨S16x1x512x512, .f32⟩
  | 32 => ⟨S16x1x512x512, .f32⟩
  | 33 => ⟨S16x1x512x512, .f32⟩
  | 34 => ⟨S_, .f32⟩
  | 35 => ⟨S16x1x512x512, .f32⟩
  | 36 => ⟨S16x1x512x512, .f32⟩
  | 37 => ⟨S16x1x512x512, .f32⟩
  | 38 => ⟨S16x1x512x512, .f32⟩
  | 39 => ⟨S_, .f32⟩
  | 40 => ⟨S16x1x512x512, .f32⟩
  | 41 => ⟨S16x1x512x512, .f32⟩
  | 42 => ⟨S16x1x512x512, .f32⟩
  | 43 => ⟨S16x1x512x512, .f32⟩
  | 44 => ⟨S_, .f32⟩
  | 45 => ⟨S16x1x512x512, .f32⟩
  | 46 => ⟨S16x1x512x512, .f32⟩
  | 47 => ⟨S16x1x512x512, .f32⟩
  | 48 => ⟨S_, .f32⟩
  | 49 => ⟨S16x1x514x514, .f32⟩
  | 50 => ⟨S16x1x512x512, .f32⟩
  | 51 => ⟨S_, .f32⟩
  | 52 => ⟨S16x1x512x512, .f32⟩
  | 53 => ⟨S16x1x512x512, .f32⟩
  | 54 => ⟨S16x1x512x512, .f32⟩
  | 55 => ⟨S_, .f32⟩
  | 56 => ⟨S16x1x512x512, .f32⟩
  | 57 => ⟨S16x1x512x512, .f32⟩
  | 58 => ⟨S16x1x512x512, .f32⟩
  | 59 => ⟨S16x1x512x512, .f32⟩
  | 60 => ⟨S_, .f32⟩
  | 61 => ⟨S16x1x512x512, .f32⟩
  | 62 => ⟨S16x1x512x512, .f32⟩
  | 63 => ⟨S16x1x512x512, .f32⟩
  | 64 => ⟨S16x1x512x512, .f32⟩
  | 65 => ⟨S_, .f32⟩
  | 66 => ⟨S16x1x512x512, .f32⟩
  | 67 => ⟨S16x1x512x512, .f32⟩
  | 68 => ⟨S16x1x512x512, .f32⟩
  | 69 => ⟨S16x1x512x512, .f32⟩
  | 70 => ⟨S_, .f32⟩
  | 71 => ⟨S16x1x512x512, .f32⟩
  | 72 => ⟨S16x1x512x512, .f32⟩
  | 73 => ⟨S16x1x512x512, .f32⟩
  | 74 => ⟨S16x1x512x512, .f32⟩
  | 75 => ⟨S_, .f32⟩
  | 76 => ⟨S16x1x512x512, .f32⟩
  | 77 => ⟨S16x1x512x512, .f32⟩
  | 78 => ⟨S16x1x512x512, .f32⟩
  | 79 => ⟨S16x1x512x512, .f32⟩
  | 80 => ⟨S16x1x512x512, .f32⟩
  | 81 => ⟨S16x1x512x512, .f32⟩
  | 82 => ⟨S_, .f32⟩
  | 83 => ⟨S16x1x512x512, .f32⟩
  | 84 => ⟨S16x1x512x512, .f32⟩
  | 85 => ⟨S16x1x512x512, .f32⟩
  | 86 => ⟨S16x1x512x512, .f32⟩
  | 87 => ⟨S_, .f32⟩
  | 88 => ⟨S16x1x512x512, .f32⟩
  | 89 => ⟨S16x1x512x512, .f32⟩
  | 90 => ⟨S_, .f32⟩
  | 91 => ⟨S16x1x512x512, .f32⟩
  | 92 => ⟨S16x1x512x512, .f32⟩
  | 93 => ⟨S_, .f32⟩
  | 94 => ⟨S16x1x512x512, .f32⟩
  | 95 => ⟨S16x1x512x512, .f32⟩
  | 96 => ⟨S16x1x512x512, .f32⟩
  | 97 => ⟨S_, .f32⟩
  | 98 => ⟨S16x1x512x512, .f32⟩
  | 99 => ⟨S16x1x512x512, .f32⟩
  | 100 => ⟨S_, .f32⟩
  | 101 => ⟨S16x1x512x512, .f32⟩
  | 102 => ⟨S16x1x512x512, .f32⟩
  | 103 => ⟨S16x1x512x512, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S16x1x512x512, .i32⟩
  | 111 => ⟨S16x1x512x512, .i32⟩
  | 112 => ⟨S_, .i32⟩
  | 113 => ⟨S16x1x512x512, .i32⟩
  | 114 => ⟨S16x1x512x512, .i1⟩
  | 115 => ⟨S_, .i32⟩
  | 116 => ⟨S16x1x512x512, .i32⟩
  | 117 => ⟨S16x1x512x512, .i1⟩
  | 118 => ⟨S_, .i32⟩
  | 119 => ⟨S_, .i1⟩
  | 120 => ⟨S16x1x512x512, .i1⟩
  | 121 => ⟨S16x1x512x512, .i1⟩
  | 122 => ⟨S16x1x512x512, .i1⟩
  | 123 => ⟨S16x1x512x512, .i32⟩
  | 124 => ⟨S16x1x512x512, .i32⟩
  | 125 => ⟨S16x1x512x512, .i32⟩
  | 126 => ⟨S_, .i32⟩
  | 127 => ⟨S16x1x512x512, .i32⟩
  | _ => ⟨S16x1x512x512, .f32⟩

abbrev hbmTy0_8 (i : Nat) : BufTy := match i % 128 with
  | 0 => ⟨S16x1x512x512, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S16x1x512x512, .i32⟩
  | 8 => ⟨S16x1x512x512, .i32⟩
  | 9 => ⟨S_, .i32⟩
  | 10 => ⟨S16x1x512x512, .i32⟩
  | 11 => ⟨S16x1x512x512, .i1⟩
  | 12 => ⟨S_, .i32⟩
  | 13 => ⟨S16x1x512x512, .i32⟩
  | 14 => ⟨S16x1x512x512, .i1⟩
  | 15 => ⟨S_, .i32⟩
  | 16 => ⟨S_, .i1⟩
  | 17 => ⟨S16x1x512x512, .i1⟩
  | 18 => ⟨S16x1x512x512, .i1⟩
  | 19 => ⟨S16x1x512x512, .i1⟩
  | 20 => ⟨S16x1x512x512, .i32⟩
  | 21 => ⟨S16x1x512x512, .i32⟩
  | 22 => ⟨S16x1x512x512, .i32⟩
  | 23 => ⟨S_, .f32⟩
  | 24 => ⟨S16x1x514x514, .f32⟩
  | 25 => ⟨S16x1x512x512, .f32⟩
  | 26 => ⟨S_, .f32⟩
  | 27 => ⟨S16x1x512x512, .f32⟩
  | 28 => ⟨S16x1x512x512, .f32⟩
  | 29 => ⟨S16x1x512x512, .f32⟩
  | 30 => ⟨S_, .f32⟩
  | 31 => ⟨S16x1x512x512, .f32⟩
  | 32 => ⟨S16x1x512x512, .f32⟩
  | 33 => ⟨S16x1x512x512, .f32⟩
  | 34 => ⟨S16x1x512x512, .f32⟩
  | 35 => ⟨S_, .f32⟩
  | 36 => ⟨S16x1x512x512, .f32⟩
  | 37 => ⟨S16x1x512x512, .f32⟩
  | 38 => ⟨S16x1x512x512, .f32⟩
  | 39 => ⟨S_, .f32⟩
  | 40 => ⟨S16x1x512x512, .f32⟩
  | 41 => ⟨S16x1x512x512, .f32⟩
  | 42 => ⟨S16x1x512x512, .f32⟩
  | 43 => ⟨S16x1x512x512, .f32⟩
  | 44 => ⟨S_, .f32⟩
  | 45 => ⟨S16x1x512x512, .f32⟩
  | 46 => ⟨S16x1x512x512, .f32⟩
  | 47 => ⟨S16x1x512x512, .f32⟩
  | 48 => ⟨S_, .f32⟩
  | 49 => ⟨S16x1x512x512, .f32⟩
  | 50 => ⟨S16x1x512x512, .f32⟩
  | 51 => ⟨S16x1x512x512, .f32⟩
  | 52 => ⟨S16x1x512x512, .f32⟩
  | 53 => ⟨S_, .f32⟩
  | 54 => ⟨S16x1x512x512, .f32⟩
  | 55 => ⟨S16x1x512x512, .f32⟩
  | 56 => ⟨S16x1x512x512, .f32⟩
  | 57 => ⟨S_, .f32⟩
  | 58 => ⟨S16x1x512x512, .f32⟩
  | 59 => ⟨S16x1x512x512, .f32⟩
  | 60 => ⟨S16x1x512x512, .f32⟩
  | 61 => ⟨S16x1x512x512, .f32⟩
  | 62 => ⟨S_, .f32⟩
  | 63 => ⟨S16x1x512x512, .f32⟩
  | 64 => ⟨S16x1x512x512, .f32⟩
  | 65 => ⟨S16x1x512x512, .f32⟩
  | 66 => ⟨S_, .f32⟩
  | 67 => ⟨S16x1x512x512, .f32⟩
  | 68 => ⟨S16x1x512x512, .f32⟩
  | 69 => ⟨S16x1x512x512, .f32⟩
  | 70 => ⟨S16x1x512x512, .f32⟩
  | 71 => ⟨S_, .f32⟩
  | 72 => ⟨S16x1x512x512, .f32⟩
  | 73 => ⟨S16x1x512x512, .f32⟩
  | 74 => ⟨S16x1x512x512, .f32⟩
  | 75 => ⟨S_, .f32⟩
  | 76 => ⟨S16x1x512x512, .f32⟩
  | 77 => ⟨S16x1x512x512, .f32⟩
  | 78 => ⟨S16x1x512x512, .f32⟩
  | 79 => ⟨S16x1x512x512, .f32⟩
  | 80 => ⟨S_, .f32⟩
  | 81 => ⟨S16x1x512x512, .f32⟩
  | 82 => ⟨S16x1x512x512, .f32⟩
  | 83 => ⟨S16x1x512x512, .f32⟩
  | 84 => ⟨S_, .f32⟩
  | 85 => ⟨S16x1x512x512, .f32⟩
  | 86 => ⟨S16x1x512x512, .f32⟩
  | 87 => ⟨S16x1x512x512, .f32⟩
  | 88 => ⟨S16x1x512x512, .f32⟩
  | 89 => ⟨S_, .f32⟩
  | 90 => ⟨S16x1x512x512, .f32⟩
  | 91 => ⟨S16x1x512x512, .f32⟩
  | 92 => ⟨S16x1x512x512, .f32⟩
  | 93 => ⟨S_, .f32⟩
  | 94 => ⟨S16x1x512x512, .f32⟩
  | 95 => ⟨S16x1x512x512, .f32⟩
  | 96 => ⟨S16x1x512x512, .f32⟩
  | 97 => ⟨S16x8x512x512, .f32⟩
  | 98 => ⟨S_, .i32⟩
  | 99 => ⟨S16x1x512x512, .i32⟩
  | 100 => ⟨S16x1x512x512, .i1⟩
  | 101 => ⟨S_, .i32⟩
  | 102 => ⟨S16x1x512x512, .i32⟩
  | 103 => ⟨S16x1x512x512, .i32⟩
  | 104 => ⟨S16x1x512x512, .i32⟩
  | 105 => ⟨S16x1x512x512x1, .i32⟩
  | 106 => ⟨S1, .i32⟩
  | 107 => ⟨S_, .i32⟩
  | 108 => ⟨S16x1x512x512x1, .i32⟩
  | 109 => ⟨S16x1x512x512x1, .i1⟩
  | 110 => ⟨S1x1x1x1x1, .i32⟩
  | 111 => ⟨S16x1x512x512x1, .i32⟩
  | 112 => ⟨S16x1x512x512x1, .i1⟩
  | 113 => ⟨S16x1x512x512x1, .i1⟩
  | 114 => ⟨S_, .i1⟩
  | 115 => ⟨S16x1x512x512, .i1⟩
  | 116 => ⟨S16x1x512x512, .f32⟩
  | 117 => ⟨S_, .f32⟩
  | 118 => ⟨S16x1x512x512, .f32⟩
  | 119 => ⟨S16x1x512x512, .f32⟩
  | 120 => ⟨S_, .i32⟩
  | 121 => ⟨S16x1x512x512, .i32⟩
  | 122 => ⟨S16x1x512x512, .i1⟩
  | 123 => ⟨S_, .i32⟩
  | 124 => ⟨S16x1x512x512, .i32⟩
  | 125 => ⟨S16x1x512x512, .i32⟩
  | 126 => ⟨S16x1x512x512, .i32⟩
  | 127 => ⟨S16x1x512x512x1, .i32⟩
  | _ => ⟨S16x1x512x512, .f32⟩

abbrev hbmTy0_9 (i : Nat) : BufTy := match i % 128 with
  | 0 => ⟨S1, .i32⟩
  | 1 => ⟨S_, .i32⟩
  | 2 => ⟨S16x1x512x512x1, .i32⟩
  | 3 => ⟨S16x1x512x512x1, .i1⟩
  | 4 => ⟨S1x1x1x1x1, .i32⟩
  | 5 => ⟨S16x1x512x512x1, .i32⟩
  | 6 => ⟨S16x1x512x512x1, .i1⟩
  | 7 => ⟨S16x1x512x512x1, .i1⟩
  | 8 => ⟨S_, .i1⟩
  | 9 => ⟨S16x1x512x512, .i1⟩
  | 10 => ⟨S16x1x512x512, .f32⟩
  | 11 => ⟨S_, .f32⟩
  | 12 => ⟨S16x1x512x512, .f32⟩
  | 13 => ⟨S16x1x512x512, .f32⟩
  | 14 => ⟨S16x1x512x512, .f32⟩
  | 15 => ⟨S_, .f32⟩
  | 16 => ⟨S16x1x512x512, .f32⟩
  | 17 => ⟨S16x1x512x512, .i1⟩
  | 18 => ⟨S16x1x512x512, .f32⟩
  | 19 => ⟨S16x1x512x512, .f32⟩
  | 20 => ⟨S16x1x512x512, .f32⟩
  | 21 => ⟨S16x1x512x512, .f32⟩
  | 22 => ⟨S_, .f32⟩
  | 23 => ⟨S16, .f32⟩
  | 24 => ⟨S_, .f32⟩
  | 25 => ⟨S16, .f32⟩
  | 26 => ⟨S16, .f32⟩
  | 27 => ⟨S_, .f32⟩
  | 28 => ⟨S_, .f32⟩
  | 29 => ⟨S16x1x512x512, .f32⟩
  | 30 => ⟨S16x1x512x512, .f32⟩
  | 31 => ⟨S_, .f32⟩
  | 32 => ⟨S16, .f32⟩
  | 33 => ⟨S_, .f32⟩
  | 34 => ⟨S16, .f32⟩
  | 35 => ⟨S16, .f32⟩
  | 36 => ⟨S_, .f32⟩
  | 37 => ⟨S_, .f32⟩
  | 38 => ⟨S_, .f32⟩
  | _ => ⟨S16x1x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_cst_3 : Ref sig .tc := ⟨.hbm, 9, rfl⟩
abbrev main_v3 : Ref sig .tc := ⟨.hbm, 10, rfl⟩
abbrev main_cst_4 : Ref sig .tc := ⟨.hbm, 11, rfl⟩
abbrev main_cst_5 : Ref sig .tc := ⟨.hbm, 12, rfl⟩
abbrev main_v4 : Ref sig .tc := ⟨.hbm, 13, rfl⟩
abbrev main_cst_6 : Ref sig .tc := ⟨.hbm, 14, rfl⟩
abbrev main_v5 : Ref sig .tc := ⟨.hbm, 15, rfl⟩
abbrev main_cst_7 : Ref sig .tc := ⟨.hbm, 16, rfl⟩
abbrev main_v6 : Ref sig .tc := ⟨.hbm, 17, rfl⟩
abbrev main_cst_8 : Ref sig .tc := ⟨.hbm, 18, rfl⟩
abbrev main_v7 : Ref sig .tc := ⟨.hbm, 19, rfl⟩
abbrev main_cst_9 : Ref sig .tc := ⟨.hbm, 20, rfl⟩
abbrev main_cst_10 : Ref sig .tc := ⟨.hbm, 21, rfl⟩
abbrev main_v8 : Ref sig .tc := ⟨.hbm, 22, rfl⟩
abbrev main_cst_11 : Ref sig .tc := ⟨.hbm, 23, rfl⟩
abbrev main_v9 : Ref sig .tc := ⟨.hbm, 24, rfl⟩
abbrev main_cst_12 : Ref sig .tc := ⟨.hbm, 25, rfl⟩
abbrev main_v10 : Ref sig .tc := ⟨.hbm, 26, rfl⟩
abbrev main_cst_13 : Ref sig .tc := ⟨.hbm, 27, rfl⟩
abbrev main_v11 : Ref sig .tc := ⟨.hbm, 28, rfl⟩
abbrev main_cst_14 : Ref sig .tc := ⟨.hbm, 29, rfl⟩
abbrev main_cst_15 : Ref sig .tc := ⟨.hbm, 30, rfl⟩
abbrev main_v12 : Ref sig .tc := ⟨.hbm, 31, rfl⟩
abbrev main_cst_16 : Ref sig .tc := ⟨.hbm, 32, rfl⟩
abbrev main_v13 : Ref sig .tc := ⟨.hbm, 33, rfl⟩
abbrev main_cst_17 : Ref sig .tc := ⟨.hbm, 34, rfl⟩
abbrev main_v14 : Ref sig .tc := ⟨.hbm, 35, rfl⟩
abbrev main_cst_18 : Ref sig .tc := ⟨.hbm, 36, rfl⟩
abbrev main_v15 : Ref sig .tc := ⟨.hbm, 37, rfl⟩
abbrev main_cst_19 : Ref sig .tc := ⟨.hbm, 38, rfl⟩
abbrev main_cst_20 : Ref sig .tc := ⟨.hbm, 39, rfl⟩
abbrev main_v16 : Ref sig .tc := ⟨.hbm, 40, rfl⟩
abbrev main_cst_21 : Ref sig .tc := ⟨.hbm, 41, rfl⟩
abbrev main_v17 : Ref sig .tc := ⟨.hbm, 42, rfl⟩
abbrev main_cst_22 : Ref sig .tc := ⟨.hbm, 43, rfl⟩
abbrev main_v18 : Ref sig .tc := ⟨.hbm, 44, rfl⟩
abbrev main_cst_23 : Ref sig .tc := ⟨.hbm, 45, rfl⟩
abbrev main_v19 : Ref sig .tc := ⟨.hbm, 46, rfl⟩
abbrev main_cst_24 : Ref sig .tc := ⟨.hbm, 47, rfl⟩
abbrev main_cst_25 : Ref sig .tc := ⟨.hbm, 48, rfl⟩
abbrev main_v20 : Ref sig .tc := ⟨.hbm, 49, rfl⟩
abbrev main_cst_26 : Ref sig .tc := ⟨.hbm, 50, rfl⟩
abbrev main_v21 : Ref sig .tc := ⟨.hbm, 51, rfl⟩
abbrev main_cst_27 : Ref sig .tc := ⟨.hbm, 52, rfl⟩
abbrev main_v22 : Ref sig .tc := ⟨.hbm, 53, rfl⟩
abbrev main_cst_28 : Ref sig .tc := ⟨.hbm, 54, rfl⟩
abbrev main_v23 : Ref sig .tc := ⟨.hbm, 55, rfl⟩
abbrev main_cst_29 : Ref sig .tc := ⟨.hbm, 56, rfl⟩
abbrev main_cst_30 : Ref sig .tc := ⟨.hbm, 57, rfl⟩
abbrev main_v24 : Ref sig .tc := ⟨.hbm, 58, rfl⟩
abbrev main_cst_31 : Ref sig .tc := ⟨.hbm, 59, rfl⟩
abbrev main_v25 : Ref sig .tc := ⟨.hbm, 60, rfl⟩
abbrev main_cst_32 : Ref sig .tc := ⟨.hbm, 61, rfl⟩
abbrev main_v26 : Ref sig .tc := ⟨.hbm, 62, rfl⟩
abbrev main_cst_33 : Ref sig .tc := ⟨.hbm, 63, rfl⟩
abbrev main_v27 : Ref sig .tc := ⟨.hbm, 64, rfl⟩
abbrev main_cst_34 : Ref sig .tc := ⟨.hbm, 65, rfl⟩
abbrev main_cst_35 : Ref sig .tc := ⟨.hbm, 66, rfl⟩
abbrev main_v28 : Ref sig .tc := ⟨.hbm, 67, rfl⟩
abbrev main_cst_36 : Ref sig .tc := ⟨.hbm, 68, rfl⟩
abbrev main_v29 : Ref sig .tc := ⟨.hbm, 69, rfl⟩
abbrev main_cst_37 : Ref sig .tc := ⟨.hbm, 70, rfl⟩
abbrev main_v30 : Ref sig .tc := ⟨.hbm, 71, rfl⟩
abbrev main_cst_38 : Ref sig .tc := ⟨.hbm, 72, rfl⟩
abbrev main_v31 : Ref sig .tc := ⟨.hbm, 73, rfl⟩
abbrev main_cst_39 : Ref sig .tc := ⟨.hbm, 74, rfl⟩
abbrev main_cst_40 : Ref sig .tc := ⟨.hbm, 75, rfl⟩
abbrev main_v32 : Ref sig .tc := ⟨.hbm, 76, rfl⟩
abbrev main_cst_41 : Ref sig .tc := ⟨.hbm, 77, rfl⟩
abbrev main_v33 : Ref sig .tc := ⟨.hbm, 78, rfl⟩
abbrev main_cst_42 : Ref sig .tc := ⟨.hbm, 79, rfl⟩
abbrev main_v34 : Ref sig .tc := ⟨.hbm, 80, rfl⟩
abbrev main_cst_43 : Ref sig .tc := ⟨.hbm, 81, rfl⟩
abbrev main_v35 : Ref sig .tc := ⟨.hbm, 82, rfl⟩
abbrev main_cst_44 : Ref sig .tc := ⟨.hbm, 83, rfl⟩
abbrev main_cst_45 : Ref sig .tc := ⟨.hbm, 84, rfl⟩
abbrev main_v36 : Ref sig .tc := ⟨.hbm, 85, rfl⟩
abbrev main_cst_46 : Ref sig .tc := ⟨.hbm, 86, rfl⟩
abbrev main_v37 : Ref sig .tc := ⟨.hbm, 87, rfl⟩
abbrev main_cst_47 : Ref sig .tc := ⟨.hbm, 88, rfl⟩
abbrev main_v38 : Ref sig .tc := ⟨.hbm, 89, rfl⟩
abbrev main_cst_48 : Ref sig .tc := ⟨.hbm, 90, rfl⟩
abbrev main_v39 : Ref sig .tc := ⟨.hbm, 91, rfl⟩
abbrev main_cst_49 : Ref sig .tc := ⟨.hbm, 92, rfl⟩
abbrev main_cst_50 : Ref sig .tc := ⟨.hbm, 93, rfl⟩
abbrev main_v40 : Ref sig .tc := ⟨.hbm, 94, rfl⟩
abbrev main_cst_51 : Ref sig .tc := ⟨.hbm, 95, rfl⟩
abbrev main_v41 : Ref sig .tc := ⟨.hbm, 96, rfl⟩
abbrev main_cst_52 : Ref sig .tc := ⟨.hbm, 97, rfl⟩
abbrev main_v42 : Ref sig .tc := ⟨.hbm, 98, rfl⟩
abbrev main_cst_53 : Ref sig .tc := ⟨.hbm, 99, rfl⟩
abbrev main_v43 : Ref sig .tc := ⟨.hbm, 100, rfl⟩
abbrev main_cst_54 : Ref sig .tc := ⟨.hbm, 101, rfl⟩
abbrev main_cst_55 : Ref sig .tc := ⟨.hbm, 102, rfl⟩
abbrev main_v44 : Ref sig .tc := ⟨.hbm, 103, rfl⟩
abbrev main_cst_56 : Ref sig .tc := ⟨.hbm, 104, rfl⟩
abbrev main_v45 : Ref sig .tc := ⟨.hbm, 105, rfl⟩
abbrev main_cst_57 : Ref sig .tc := ⟨.hbm, 106, rfl⟩
abbrev main_v46 : Ref sig .tc := ⟨.hbm, 107, rfl⟩
abbrev main_cst_58 : Ref sig .tc := ⟨.hbm, 108, rfl⟩
abbrev main_v47 : Ref sig .tc := ⟨.hbm, 109, rfl⟩
abbrev main_cst_59 : Ref sig .tc := ⟨.hbm, 110, rfl⟩
abbrev main_cst_60 : Ref sig .tc := ⟨.hbm, 111, rfl⟩
abbrev main_v48 : Ref sig .tc := ⟨.hbm, 112, rfl⟩
abbrev main_cst_61 : Ref sig .tc := ⟨.hbm, 113, rfl⟩
abbrev main_v49 : Ref sig .tc := ⟨.hbm, 114, rfl⟩
abbrev main_cst_62 : Ref sig .tc := ⟨.hbm, 115, rfl⟩
abbrev main_v50 : Ref sig .tc := ⟨.hbm, 116, rfl⟩
abbrev main_cst_63 : Ref sig .tc := ⟨.hbm, 117, rfl⟩
abbrev main_v51 : Ref sig .tc := ⟨.hbm, 118, rfl⟩
abbrev main_cst_64 : Ref sig .tc := ⟨.hbm, 119, rfl⟩
abbrev main_cst_65 : Ref sig .tc := ⟨.hbm, 120, rfl⟩
abbrev main_v52 : Ref sig .tc := ⟨.hbm, 121, rfl⟩
abbrev main_cst_66 : Ref sig .tc := ⟨.hbm, 122, rfl⟩
abbrev main_v53 : Ref sig .tc := ⟨.hbm, 123, rfl⟩
abbrev main_cst_67 : Ref sig .tc := ⟨.hbm, 124, rfl⟩
abbrev main_v54 : Ref sig .tc := ⟨.hbm, 125, rfl⟩
abbrev main_cst_68 : Ref sig .tc := ⟨.hbm, 126, rfl⟩
abbrev main_v55 : Ref sig .tc := ⟨.hbm, 127, rfl⟩
abbrev main_cst_69 : Ref sig .tc := ⟨.hbm, 128, rfl⟩
abbrev main_cst_70 : Ref sig .tc := ⟨.hbm, 129, rfl⟩
abbrev main_v56 : Ref sig .tc := ⟨.hbm, 130, rfl⟩
abbrev main_cst_71 : Ref sig .tc := ⟨.hbm, 131, rfl⟩
abbrev main_v57 : Ref sig .tc := ⟨.hbm, 132, rfl⟩
abbrev main_cst_72 : Ref sig .tc := ⟨.hbm, 133, rfl⟩
abbrev main_v58 : Ref sig .tc := ⟨.hbm, 134, rfl⟩
abbrev main_cst_73 : Ref sig .tc := ⟨.hbm, 135, rfl⟩
abbrev main_v59 : Ref sig .tc := ⟨.hbm, 136, rfl⟩
abbrev main_cst_74 : Ref sig .tc := ⟨.hbm, 137, rfl⟩
abbrev main_cst_75 : Ref sig .tc := ⟨.hbm, 138, rfl⟩
abbrev main_v60 : Ref sig .tc := ⟨.hbm, 139, rfl⟩
abbrev main_cst_76 : Ref sig .tc := ⟨.hbm, 140, rfl⟩
abbrev main_v61 : Ref sig .tc := ⟨.hbm, 141, rfl⟩
abbrev main_cst_77 : Ref sig .tc := ⟨.hbm, 142, rfl⟩
abbrev main_v62 : Ref sig .tc := ⟨.hbm, 143, rfl⟩
abbrev main_cst_78 : Ref sig .tc := ⟨.hbm, 144, rfl⟩
abbrev main_v63 : Ref sig .tc := ⟨.hbm, 145, rfl⟩
abbrev main_cst_79 : Ref sig .tc := ⟨.hbm, 146, rfl⟩
abbrev main_cst_80 : Ref sig .tc := ⟨.hbm, 147, rfl⟩
abbrev main_v64 : Ref sig .tc := ⟨.hbm, 148, rfl⟩
abbrev main_cst_81 : Ref sig .tc := ⟨.hbm, 149, rfl⟩
abbrev main_v65 : Ref sig .tc := ⟨.hbm, 150, rfl⟩
abbrev main_cst_82 : Ref sig .tc := ⟨.hbm, 151, rfl⟩
abbrev main_v66 : Ref sig .tc := ⟨.hbm, 152, rfl⟩
abbrev main_cst_83 : Ref sig .tc := ⟨.hbm, 153, rfl⟩
abbrev main_v67 : Ref sig .tc := ⟨.hbm, 154, rfl⟩
abbrev main_cst_84 : Ref sig .tc := ⟨.hbm, 155, rfl⟩
abbrev main_cst_85 : Ref sig .tc := ⟨.hbm, 156, rfl⟩
abbrev main_v68 : Ref sig .tc := ⟨.hbm, 157, rfl⟩
abbrev main_cst_86 : Ref sig .tc := ⟨.hbm, 158, rfl⟩
abbrev main_v69 : Ref sig .tc := ⟨.hbm, 159, rfl⟩
abbrev main_cst_87 : Ref sig .tc := ⟨.hbm, 160, rfl⟩
abbrev main_v70 : Ref sig .tc := ⟨.hbm, 161, rfl⟩
abbrev main_cst_88 : Ref sig .tc := ⟨.hbm, 162, rfl⟩
abbrev main_v71 : Ref sig .tc := ⟨.hbm, 163, rfl⟩
abbrev main_cst_89 : Ref sig .tc := ⟨.hbm, 164, rfl⟩
abbrev main_cst_90 : Ref sig .tc := ⟨.hbm, 165, rfl⟩
abbrev main_v72 : Ref sig .tc := ⟨.hbm, 166, rfl⟩
abbrev main_cst_91 : Ref sig .tc := ⟨.hbm, 167, rfl⟩
abbrev main_v73 : Ref sig .tc := ⟨.hbm, 168, rfl⟩
abbrev main_cst_92 : Ref sig .tc := ⟨.hbm, 169, rfl⟩
abbrev main_v74 : Ref sig .tc := ⟨.hbm, 170, rfl⟩
abbrev main_cst_93 : Ref sig .tc := ⟨.hbm, 171, rfl⟩
abbrev main_v75 : Ref sig .tc := ⟨.hbm, 172, rfl⟩
abbrev main_cst_94 : Ref sig .tc := ⟨.hbm, 173, rfl⟩
abbrev main_cst_95 : Ref sig .tc := ⟨.hbm, 174, rfl⟩
abbrev main_v76 : Ref sig .tc := ⟨.hbm, 175, rfl⟩
abbrev main_cst_96 : Ref sig .tc := ⟨.hbm, 176, rfl⟩
abbrev main_v77 : Ref sig .tc := ⟨.hbm, 177, rfl⟩
abbrev main_cst_97 : Ref sig .tc := ⟨.hbm, 178, rfl⟩
abbrev main_v78 : Ref sig .tc := ⟨.hbm, 179, rfl⟩
abbrev main_cst_98 : Ref sig .tc := ⟨.hbm, 180, rfl⟩
abbrev main_v79 : Ref sig .tc := ⟨.hbm, 181, rfl⟩
abbrev main_cst_99 : Ref sig .tc := ⟨.hbm, 182, rfl⟩
abbrev main_cst_100 : Ref sig .tc := ⟨.hbm, 183, rfl⟩
abbrev main_v80 : Ref sig .tc := ⟨.hbm, 184, rfl⟩
abbrev main_cst_101 : Ref sig .tc := ⟨.hbm, 185, rfl⟩
abbrev main_v81 : Ref sig .tc := ⟨.hbm, 186, rfl⟩
abbrev main_cst_102 : Ref sig .tc := ⟨.hbm, 187, rfl⟩
abbrev main_v82 : Ref sig .tc := ⟨.hbm, 188, rfl⟩
abbrev main_cst_103 : Ref sig .tc := ⟨.hbm, 189, rfl⟩
abbrev main_v83 : Ref sig .tc := ⟨.hbm, 190, rfl⟩
abbrev main_cst_104 : Ref sig .tc := ⟨.hbm, 191, rfl⟩
abbrev main_cst_105 : Ref sig .tc := ⟨.hbm, 192, rfl⟩
abbrev main_v84 : Ref sig .tc := ⟨.hbm, 193, rfl⟩
abbrev main_cst_106 : Ref sig .tc := ⟨.hbm, 194, rfl⟩
abbrev main_v85 : Ref sig .tc := ⟨.hbm, 195, rfl⟩
abbrev main_cst_107 : Ref sig .tc := ⟨.hbm, 196, rfl⟩
abbrev main_v86 : Ref sig .tc := ⟨.hbm, 197, rfl⟩
abbrev main_cst_108 : Ref sig .tc := ⟨.hbm, 198, rfl⟩
abbrev main_v87 : Ref sig .tc := ⟨.hbm, 199, rfl⟩
abbrev main_cst_109 : Ref sig .tc := ⟨.hbm, 200, rfl⟩
abbrev main_cst_110 : Ref sig .tc := ⟨.hbm, 201, rfl⟩
abbrev main_v88 : Ref sig .tc := ⟨.hbm, 202, rfl⟩
abbrev main_cst_111 : Ref sig .tc := ⟨.hbm, 203, rfl⟩
abbrev main_v89 : Ref sig .tc := ⟨.hbm, 204, rfl⟩
abbrev main_cst_112 : Ref sig .tc := ⟨.hbm, 205, rfl⟩
abbrev main_v90 : Ref sig .tc := ⟨.hbm, 206, rfl⟩
abbrev main_cst_113 : Ref sig .tc := ⟨.hbm, 207, rfl⟩
abbrev main_v91 : Ref sig .tc := ⟨.hbm, 208, rfl⟩
abbrev main_cst_114 : Ref sig .tc := ⟨.hbm, 209, rfl⟩
abbrev main_cst_115 : Ref sig .tc := ⟨.hbm, 210, rfl⟩
abbrev main_v92 : Ref sig .tc := ⟨.hbm, 211, rfl⟩
abbrev main_cst_116 : Ref sig .tc := ⟨.hbm, 212, rfl⟩
abbrev main_v93 : Ref sig .tc := ⟨.hbm, 213, rfl⟩
abbrev main_cst_117 : Ref sig .tc := ⟨.hbm, 214, rfl⟩
abbrev main_v94 : Ref sig .tc := ⟨.hbm, 215, rfl⟩
abbrev main_cst_118 : Ref sig .tc := ⟨.hbm, 216, rfl⟩
abbrev main_v95 : Ref sig .tc := ⟨.hbm, 217, rfl⟩
abbrev main_cst_119 : Ref sig .tc := ⟨.hbm, 218, rfl⟩
abbrev main_cst_120 : Ref sig .tc := ⟨.hbm, 219, rfl⟩
abbrev main_v96 : Ref sig .tc := ⟨.hbm, 220, rfl⟩
abbrev main_cst_121 : Ref sig .tc := ⟨.hbm, 221, rfl⟩
abbrev main_v97 : Ref sig .tc := ⟨.hbm, 222, rfl⟩
abbrev main_cst_122 : Ref sig .tc := ⟨.hbm, 223, rfl⟩
abbrev main_v98 : Ref sig .tc := ⟨.hbm, 224, rfl⟩
abbrev main_cst_123 : Ref sig .tc := ⟨.hbm, 225, rfl⟩
abbrev main_v99 : Ref sig .tc := ⟨.hbm, 226, rfl⟩
abbrev main_cst_124 : Ref sig .tc := ⟨.hbm, 227, rfl⟩
abbrev main_v100 : Ref sig .tc := ⟨.hbm, 228, rfl⟩
abbrev main_v101 : Ref sig .tc := ⟨.hbm, 229, rfl⟩
abbrev main_v102 : Ref sig .tc := ⟨.hbm, 230, rfl⟩
abbrev main_v103 : Ref sig .tc := ⟨.hbm, 231, rfl⟩
abbrev main_v104 : Ref sig .tc := ⟨.hbm, 232, rfl⟩
abbrev main_v105 : Ref sig .tc := ⟨.hbm, 233, rfl⟩
abbrev main_v106 : Ref sig .tc := ⟨.hbm, 234, rfl⟩
abbrev main_v107 : Ref sig .tc := ⟨.hbm, 235, rfl⟩
abbrev main_v108 : Ref sig .tc := ⟨.hbm, 236, rfl⟩
abbrev main_v109 : Ref sig .tc := ⟨.hbm, 237, rfl⟩
abbrev main_v110 : Ref sig .tc := ⟨.hbm, 238, rfl⟩
abbrev main_v111 : Ref sig .tc := ⟨.hbm, 239, rfl⟩
abbrev main_v112 : Ref sig .tc := ⟨.hbm, 240, rfl⟩
abbrev main_v113 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_v118 : Ref sig .tc := ⟨.hbm, 246, rfl⟩
abbrev main_v119 : Ref sig .tc := ⟨.hbm, 247, rfl⟩
abbrev main_v120 : Ref sig .tc := ⟨.hbm, 248, rfl⟩
abbrev main_v121 : Ref sig .tc := ⟨.hbm, 249, rfl⟩
abbrev main_v122 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_v128 : Ref sig .tc := ⟨.hbm, 256, rfl⟩
abbrev main_v129 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_v145 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_v149 : Ref sig .tc := ⟨.hbm, 277, rfl⟩
abbrev main_v150 : Ref sig .tc := ⟨.hbm, 278, rfl⟩
abbrev main_v151 : Ref sig .tc := ⟨.hbm, 279, rfl⟩
abbrev main_v152 : Ref sig .tc := ⟨.hbm, 280, rfl⟩
abbrev main_v153 : Ref sig .tc := ⟨.hbm, 281, rfl⟩
abbrev main_v154 : Ref sig .tc := ⟨.hbm, 282, rfl⟩
abbrev main_v155 : Ref sig .tc := ⟨.hbm, 283, rfl⟩
abbrev main_v156 : Ref sig .tc := ⟨.hbm, 284, rfl⟩
abbrev main_v157 : Ref sig .tc := ⟨.hbm, 285, rfl⟩
abbrev main_v158 : Ref sig .tc := ⟨.hbm, 286, rfl⟩
abbrev main_v159 : Ref sig .tc := ⟨.hbm, 287, rfl⟩
abbrev main_v160 : Ref sig .tc := ⟨.hbm, 288, rfl⟩
abbrev main_v161 : Ref sig .tc := ⟨.hbm, 289, rfl⟩
abbrev main_v162 : Ref sig .tc := ⟨.hbm, 290, rfl⟩
abbrev main_v163 : Ref sig .tc := ⟨.hbm, 291, rfl⟩
abbrev main_v164 : Ref sig .tc := ⟨.hbm, 292, rfl⟩
abbrev main_v165 : Ref sig .tc := ⟨.hbm, 293, rfl⟩
abbrev main_v166 : Ref sig .tc := ⟨.hbm, 294, rfl⟩
abbrev main_v167 : Ref sig .tc := ⟨.hbm, 295, rfl⟩
abbrev main_v168 : Ref sig .tc := ⟨.hbm, 296, rfl⟩
abbrev main_v169 : Ref sig .tc := ⟨.hbm, 297, rfl⟩
abbrev main_v170 : Ref sig .tc := ⟨.hbm, 298, rfl⟩
abbrev main_v171 : Ref sig .tc := ⟨.hbm, 299, rfl⟩
abbrev main_v172 : Ref sig .tc := ⟨.hbm, 300, rfl⟩
abbrev main_v173 : Ref sig .tc := ⟨.hbm, 301, rfl⟩
abbrev main_v174 : Ref sig .tc := ⟨.hbm, 302, rfl⟩
abbrev main_v175 : Ref sig .tc := ⟨.hbm, 303, rfl⟩
abbrev main_v176 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_v196 : Ref sig .tc := ⟨.hbm, 324, rfl⟩
abbrev main_v197 : Ref sig .tc := ⟨.hbm, 325, rfl⟩
abbrev main_v198 : Ref sig .tc := ⟨.hbm, 326, rfl⟩
abbrev main_v199 : Ref sig .tc := ⟨.hbm, 327, rfl⟩
abbrev main_cst_125 : Ref sig .tc := ⟨.hbm, 328, rfl⟩
abbrev main_v200 : Ref sig .tc := ⟨.hbm, 329, rfl⟩
abbrev main_v201 : Ref sig .tc := ⟨.hbm, 330, rfl⟩
abbrev main_cst_126 : Ref sig .tc := ⟨.hbm, 331, rfl⟩
abbrev main_v202 : Ref sig .tc := ⟨.hbm, 332, rfl⟩
abbrev main_v203 : Ref sig .tc := ⟨.hbm, 333, rfl⟩
abbrev main_v204 : Ref sig .tc := ⟨.hbm, 334, rfl⟩
abbrev main_cst_127 : Ref sig .tc := ⟨.hbm, 335, rfl⟩
abbrev main_v205 : Ref sig .tc := ⟨.hbm, 336, rfl⟩
abbrev main_v206 : Ref sig .tc := ⟨.hbm, 337, rfl⟩
abbrev main_v207 : Ref sig .tc := ⟨.hbm, 338, rfl⟩
abbrev main_v208 : Ref sig .tc := ⟨.hbm, 339, rfl⟩
abbrev main_cst_128 : Ref sig .tc := ⟨.hbm, 340, rfl⟩
abbrev main_v209 : Ref sig .tc := ⟨.hbm, 341, rfl⟩
abbrev main_v210 : Ref sig .tc := ⟨.hbm, 342, rfl⟩
abbrev main_v211 : Ref sig .tc := ⟨.hbm, 343, rfl⟩
abbrev main_v212 : Ref sig .tc := ⟨.hbm, 344, rfl⟩
abbrev main_cst_129 : Ref sig .tc := ⟨.hbm, 345, rfl⟩
abbrev main_v213 : Ref sig .tc := ⟨.hbm, 346, rfl⟩
abbrev main_v214 : Ref sig .tc := ⟨.hbm, 347, rfl⟩
abbrev main_v215 : Ref sig .tc := ⟨.hbm, 348, rfl⟩
abbrev main_v216 : Ref sig .tc := ⟨.hbm, 349, rfl⟩
abbrev main_cst_130 : Ref sig .tc := ⟨.hbm, 350, rfl⟩
abbrev main_v217 : Ref sig .tc := ⟨.hbm, 351, rfl⟩
abbrev main_v218 : Ref sig .tc := ⟨.hbm, 352, rfl⟩
abbrev main_v219 : Ref sig .tc := ⟨.hbm, 353, rfl⟩
abbrev main_v220 : Ref sig .tc := ⟨.hbm, 354, rfl⟩
abbrev main_cst_131 : Ref sig .tc := ⟨.hbm, 355, rfl⟩
abbrev main_v221 : Ref sig .tc := ⟨.hbm, 356, rfl⟩
abbrev main_v222 : Ref sig .tc := ⟨.hbm, 357, rfl⟩
abbrev main_v223 : Ref sig .tc := ⟨.hbm, 358, rfl⟩
abbrev main_cst_132 : Ref sig .tc := ⟨.hbm, 359, rfl⟩
abbrev main_v224 : Ref sig .tc := ⟨.hbm, 360, rfl⟩
abbrev main_v225 : Ref sig .tc := ⟨.hbm, 361, rfl⟩
abbrev main_cst_133 : Ref sig .tc := ⟨.hbm, 362, rfl⟩
abbrev main_v226 : Ref sig .tc := ⟨.hbm, 363, rfl⟩
abbrev main_v227 : Ref sig .tc := ⟨.hbm, 364, rfl⟩
abbrev main_v228 : Ref sig .tc := ⟨.hbm, 365, rfl⟩
abbrev main_cst_134 : Ref sig .tc := ⟨.hbm, 366, rfl⟩
abbrev main_v229 : Ref sig .tc := ⟨.hbm, 367, rfl⟩
abbrev main_v230 : Ref sig .tc := ⟨.hbm, 368, rfl⟩
abbrev main_v231 : Ref sig .tc := ⟨.hbm, 369, rfl⟩
abbrev main_v232 : Ref sig .tc := ⟨.hbm, 370, rfl⟩
abbrev main_cst_135 : Ref sig .tc := ⟨.hbm, 371, rfl⟩
abbrev main_v233 : Ref sig .tc := ⟨.hbm, 372, rfl⟩
abbrev main_v234 : Ref sig .tc := ⟨.hbm, 373, rfl⟩
abbrev main_v235 : Ref sig .tc := ⟨.hbm, 374, rfl⟩
abbrev main_v236 : Ref sig .tc := ⟨.hbm, 375, rfl⟩
abbrev main_cst_136 : Ref sig .tc := ⟨.hbm, 376, rfl⟩
abbrev main_v237 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_cst_137 : Ref sig .tc := ⟨.hbm, 381, rfl⟩
abbrev main_v241 : Ref sig .tc := ⟨.hbm, 382, rfl⟩
abbrev main_v242 : Ref sig .tc := ⟨.hbm, 383, rfl⟩
abbrev main_v243 : Ref sig .tc := ⟨.hbm, 384, rfl⟩
abbrev main_v244 : Ref sig .tc := ⟨.hbm, 385, rfl⟩
abbrev main_cst_138 : Ref sig .tc := ⟨.hbm, 386, rfl⟩
abbrev main_v245 : Ref sig .tc := ⟨.hbm, 387, rfl⟩
abbrev main_v246 : Ref sig .tc := ⟨.hbm, 388, rfl⟩
abbrev main_v247 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_139 : Ref sig .tc := ⟨.hbm, 393, rfl⟩
abbrev main_v251 : Ref sig .tc := ⟨.hbm, 394, rfl⟩
abbrev main_v252 : Ref sig .tc := ⟨.hbm, 395, rfl⟩
abbrev main_v253 : Ref sig .tc := ⟨.hbm, 396, rfl⟩
abbrev main_v254 : Ref sig .tc := ⟨.hbm, 397, rfl⟩
abbrev main_cst_140 : Ref sig .tc := ⟨.hbm, 398, rfl⟩
abbrev main_v255 : Ref sig .tc := ⟨.hbm, 399, rfl⟩
abbrev main_v256 : Ref sig .tc := ⟨.hbm, 400, rfl⟩
abbrev main_cst_141 : Ref sig .tc := ⟨.hbm, 401, rfl⟩
abbrev main_v257 : Ref sig .tc := ⟨.hbm, 402, rfl⟩
abbrev main_v258 : Ref sig .tc := ⟨.hbm, 403, rfl⟩
abbrev main_cst_142 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_143 : Ref sig .tc := ⟨.hbm, 408, rfl⟩
abbrev main_v262 : Ref sig .tc := ⟨.hbm, 409, rfl⟩
abbrev main_v263 : Ref sig .tc := ⟨.hbm, 410, rfl⟩
abbrev main_cst_144 : Ref sig .tc := ⟨.hbm, 411, rfl⟩
abbrev main_v264 : Ref sig .tc := ⟨.hbm, 412, rfl⟩
abbrev main_v265 : Ref sig .tc := ⟨.hbm, 413, rfl⟩
abbrev main_v266 : Ref sig .tc := ⟨.hbm, 414, rfl⟩
abbrev main_c : Ref sig .tc := ⟨.hbm, 415, rfl⟩
abbrev main_call1_v0 : Ref sig .tc := ⟨.hbm, 416, rfl⟩
abbrev main_call1_c : Ref sig .tc := ⟨.hbm, 417, rfl⟩
abbrev main_call1_v1 : Ref sig .tc := ⟨.hbm, 418, rfl⟩
abbrev main_call1_c_0 : Ref sig .tc := ⟨.hbm, 419, rfl⟩
abbrev main_call1_v2 : Ref sig .tc := ⟨.hbm, 420, rfl⟩
abbrev main_call1_v3 : Ref sig .tc := ⟨.hbm, 421, rfl⟩
abbrev main_call1_v4 : Ref sig .tc := ⟨.hbm, 422, rfl⟩
abbrev main_call1_c_1 : Ref sig .tc := ⟨.hbm, 423, rfl⟩
abbrev main_call1_v5 : Ref sig .tc := ⟨.hbm, 424, rfl⟩
abbrev main_call1_v6 : Ref sig .tc := ⟨.hbm, 425, rfl⟩
abbrev main_call1_c_2 : Ref sig .tc := ⟨.hbm, 426, rfl⟩
abbrev main_call1_v7 : Ref sig .tc := ⟨.hbm, 427, rfl⟩
abbrev main_call1_v8 : Ref sig .tc := ⟨.hbm, 428, rfl⟩
abbrev main_call1_c_3 : Ref sig .tc := ⟨.hbm, 429, rfl⟩
abbrev main_call1_v9 : Ref sig .tc := ⟨.hbm, 430, rfl⟩
abbrev main_call1_v10 : Ref sig .tc := ⟨.hbm, 431, rfl⟩
abbrev main_call1_v11 : Ref sig .tc := ⟨.hbm, 432, rfl⟩
abbrev main_call1_v12 : Ref sig .tc := ⟨.hbm, 433, rfl⟩
abbrev main_call1_v13 : Ref sig .tc := ⟨.hbm, 434, rfl⟩
abbrev main_call1_v14 : Ref sig .tc := ⟨.hbm, 435, rfl⟩
abbrev main_v267 : Ref sig .tc := ⟨.hbm, 436, rfl⟩
abbrev main_c_145 : Ref sig .tc := ⟨.hbm, 437, rfl⟩
abbrev main_v268 : Ref sig .tc := ⟨.hbm, 438, rfl⟩
abbrev main_v269 : Ref sig .tc := ⟨.hbm, 439, rfl⟩
abbrev main_c_146 : Ref sig .tc := ⟨.hbm, 440, rfl⟩
abbrev main_call2_v0 : Ref sig .tc := ⟨.hbm, 441, rfl⟩
abbrev main_call2_c : Ref sig .tc := ⟨.hbm, 442, rfl⟩
abbrev main_call2_v1 : Ref sig .tc := ⟨.hbm, 443, rfl⟩
abbrev main_call2_c_0 : Ref sig .tc := ⟨.hbm, 444, rfl⟩
abbrev main_call2_v2 : Ref sig .tc := ⟨.hbm, 445, rfl⟩
abbrev main_call2_v3 : Ref sig .tc := ⟨.hbm, 446, rfl⟩
abbrev main_call2_v4 : Ref sig .tc := ⟨.hbm, 447, rfl⟩
abbrev main_call2_c_1 : Ref sig .tc := ⟨.hbm, 448, rfl⟩
abbrev main_call2_v5 : Ref sig .tc := ⟨.hbm, 449, rfl⟩
abbrev main_call2_v6 : Ref sig .tc := ⟨.hbm, 450, rfl⟩
abbrev main_call2_c_2 : Ref sig .tc := ⟨.hbm, 451, rfl⟩
abbrev main_call2_v7 : Ref sig .tc := ⟨.hbm, 452, rfl⟩
abbrev main_call2_v8 : Ref sig .tc := ⟨.hbm, 453, rfl⟩
abbrev main_call2_c_3 : Ref sig .tc := ⟨.hbm, 454, rfl⟩
abbrev main_call2_v9 : Ref sig .tc := ⟨.hbm, 455, rfl⟩
abbrev main_call2_v10 : Ref sig .tc := ⟨.hbm, 456, rfl⟩
abbrev main_call2_v11 : Ref sig .tc := ⟨.hbm, 457, rfl⟩
abbrev main_call2_v12 : Ref sig .tc := ⟨.hbm, 458, rfl⟩
abbrev main_call2_v13 : Ref sig .tc := ⟨.hbm, 459, rfl⟩
abbrev main_call2_v14 : Ref sig .tc := ⟨.hbm, 460, rfl⟩
abbrev main_v270 : Ref sig .tc := ⟨.hbm, 461, rfl⟩
abbrev main_cst_147 : Ref sig .tc := ⟨.hbm, 462, rfl⟩
abbrev main_v271 : Ref sig .tc := ⟨.hbm, 463, rfl⟩
abbrev main_v272 : Ref sig .tc := ⟨.hbm, 464, rfl⟩
abbrev main_cst_148 : Ref sig .tc := ⟨.hbm, 465, rfl⟩
abbrev main_v273 : Ref sig .tc := ⟨.hbm, 466, rfl⟩
abbrev main_v274 : Ref sig .tc := ⟨.hbm, 467, rfl⟩
abbrev main_v275 : Ref sig .tc := ⟨.hbm, 468, rfl⟩
abbrev main_cst_149 : Ref sig .tc := ⟨.hbm, 469, rfl⟩
abbrev main_v276 : Ref sig .tc := ⟨.hbm, 470, rfl⟩
abbrev main_v277 : Ref sig .tc := ⟨.hbm, 471, rfl⟩
abbrev main_v278 : Ref sig .tc := ⟨.hbm, 472, rfl⟩
abbrev main_v279 : Ref sig .tc := ⟨.hbm, 473, rfl⟩
abbrev main_cst_150 : Ref sig .tc := ⟨.hbm, 474, rfl⟩
abbrev main_v280 : Ref sig .tc := ⟨.hbm, 475, rfl⟩
abbrev main_v281 : Ref sig .tc := ⟨.hbm, 476, rfl⟩
abbrev main_v282 : Ref sig .tc := ⟨.hbm, 477, rfl⟩
abbrev main_cst_151 : Ref sig .tc := ⟨.hbm, 478, rfl⟩
abbrev main_v283 : Ref sig .tc := ⟨.hbm, 479, rfl⟩
abbrev main_v284 : Ref sig .tc := ⟨.hbm, 480, rfl⟩
abbrev main_v285 : Ref sig .tc := ⟨.hbm, 481, rfl⟩
abbrev main_v286 : Ref sig .tc := ⟨.hbm, 482, rfl⟩
abbrev main_cst_152 : Ref sig .tc := ⟨.hbm, 483, rfl⟩
abbrev main_v287 : Ref sig .tc := ⟨.hbm, 484, rfl⟩
abbrev main_v288 : Ref sig .tc := ⟨.hbm, 485, rfl⟩
abbrev main_v289 : Ref sig .tc := ⟨.hbm, 486, rfl⟩
abbrev main_cst_153 : Ref sig .tc := ⟨.hbm, 487, rfl⟩
abbrev main_v290 : Ref sig .tc := ⟨.hbm, 488, rfl⟩
abbrev main_v291 : Ref sig .tc := ⟨.hbm, 489, rfl⟩
abbrev main_v292 : Ref sig .tc := ⟨.hbm, 490, rfl⟩
abbrev main_v293 : Ref sig .tc := ⟨.hbm, 491, rfl⟩
abbrev main_cst_154 : Ref sig .tc := ⟨.hbm, 492, rfl⟩
abbrev main_v294 : Ref sig .tc := ⟨.hbm, 493, rfl⟩
abbrev main_v295 : Ref sig .tc := ⟨.hbm, 494, rfl⟩
abbrev main_v296 : Ref sig .tc := ⟨.hbm, 495, rfl⟩
abbrev main_cst_155 : Ref sig .tc := ⟨.hbm, 496, rfl⟩
abbrev main_v297 : Ref sig .tc := ⟨.hbm, 497, rfl⟩
abbrev main_v298 : Ref sig .tc := ⟨.hbm, 498, rfl⟩
abbrev main_v299 : Ref sig .tc := ⟨.hbm, 499, rfl⟩
abbrev main_v300 : Ref sig .tc := ⟨.hbm, 500, rfl⟩
abbrev main_cst_156 : Ref sig .tc := ⟨.hbm, 501, rfl⟩
abbrev main_v301 : Ref sig .tc := ⟨.hbm, 502, rfl⟩
abbrev main_v302 : Ref sig .tc := ⟨.hbm, 503, rfl⟩
abbrev main_v303 : Ref sig .tc := ⟨.hbm, 504, rfl⟩
abbrev main_cst_157 : Ref sig .tc := ⟨.hbm, 505, rfl⟩
abbrev main_v304 : Ref sig .tc := ⟨.hbm, 506, rfl⟩
abbrev main_v305 : Ref sig .tc := ⟨.hbm, 507, rfl⟩
abbrev main_v306 : Ref sig .tc := ⟨.hbm, 508, rfl⟩
abbrev main_v307 : Ref sig .tc := ⟨.hbm, 509, rfl⟩
abbrev main_cst_158 : Ref sig .tc := ⟨.hbm, 510, rfl⟩
abbrev main_v308 : Ref sig .tc := ⟨.hbm, 511, rfl⟩
abbrev main_v309 : Ref sig .tc := ⟨.hbm, 512, rfl⟩
abbrev main_v310 : Ref sig .tc := ⟨.hbm, 513, rfl⟩
abbrev main_cst_159 : Ref sig .tc := ⟨.hbm, 514, rfl⟩
abbrev main_v311 : Ref sig .tc := ⟨.hbm, 515, rfl⟩
abbrev main_v312 : Ref sig .tc := ⟨.hbm, 516, rfl⟩
abbrev main_v313 : Ref sig .tc := ⟨.hbm, 517, rfl⟩
abbrev main_v314 : Ref sig .tc := ⟨.hbm, 518, rfl⟩
abbrev main_cst_160 : Ref sig .tc := ⟨.hbm, 519, rfl⟩
abbrev main_v315 : Ref sig .tc := ⟨.hbm, 520, rfl⟩
abbrev main_v316 : Ref sig .tc := ⟨.hbm, 521, rfl⟩
abbrev main_v317 : Ref sig .tc := ⟨.hbm, 522, rfl⟩
abbrev main_cst_161 : Ref sig .tc := ⟨.hbm, 523, rfl⟩
abbrev main_v318 : Ref sig .tc := ⟨.hbm, 524, rfl⟩
abbrev main_v319 : Ref sig .tc := ⟨.hbm, 525, rfl⟩
abbrev main_v320 : Ref sig .tc := ⟨.hbm, 526, rfl⟩
abbrev main_v321 : Ref sig .tc := ⟨.hbm, 527, rfl⟩
abbrev main_cst_162 : Ref sig .tc := ⟨.hbm, 528, rfl⟩
abbrev main_v322 : Ref sig .tc := ⟨.hbm, 529, rfl⟩
abbrev main_v323 : Ref sig .tc := ⟨.hbm, 530, rfl⟩
abbrev main_v324 : Ref sig .tc := ⟨.hbm, 531, rfl⟩
abbrev main_cst_163 : Ref sig .tc := ⟨.hbm, 532, rfl⟩
abbrev main_v325 : Ref sig .tc := ⟨.hbm, 533, rfl⟩
abbrev main_v326 : Ref sig .tc := ⟨.hbm, 534, rfl⟩
abbrev main_v327 : Ref sig .tc := ⟨.hbm, 535, rfl⟩
abbrev main_v328 : Ref sig .tc := ⟨.hbm, 536, rfl⟩
abbrev main_call3_c : Ref sig .tc := ⟨.hbm, 537, rfl⟩
abbrev main_call3_v0 : Ref sig .tc := ⟨.hbm, 538, rfl⟩
abbrev main_call3_v1 : Ref sig .tc := ⟨.hbm, 539, rfl⟩
abbrev main_call3_c_0 : Ref sig .tc := ⟨.hbm, 540, rfl⟩
abbrev main_call3_v2 : Ref sig .tc := ⟨.hbm, 541, rfl⟩
abbrev main_call3_v3 : Ref sig .tc := ⟨.hbm, 542, rfl⟩
abbrev main_call3_v4 : Ref sig .tc := ⟨.hbm, 543, rfl⟩
abbrev main_call3_v5 : Ref sig .tc := ⟨.hbm, 544, rfl⟩
abbrev main_call3_c_1 : Ref sig .tc := ⟨.hbm, 545, rfl⟩
abbrev main_call3_c_2 : Ref sig .tc := ⟨.hbm, 546, rfl⟩
abbrev main_call3_v6 : Ref sig .tc := ⟨.hbm, 547, rfl⟩
abbrev main_call3_v7 : Ref sig .tc := ⟨.hbm, 548, rfl⟩
abbrev main_call3_v8 : Ref sig .tc := ⟨.hbm, 549, rfl⟩
abbrev main_call3_v9 : Ref sig .tc := ⟨.hbm, 550, rfl⟩
abbrev main_call3_v10 : Ref sig .tc := ⟨.hbm, 551, rfl⟩
abbrev main_call3_v11 : Ref sig .tc := ⟨.hbm, 552, rfl⟩
abbrev main_call3_c_3 : Ref sig .tc := ⟨.hbm, 553, rfl⟩
abbrev main_call3_v12 : Ref sig .tc := ⟨.hbm, 554, rfl⟩
abbrev main_call3_v13 : Ref sig .tc := ⟨.hbm, 555, rfl⟩
abbrev main_call3_cst : Ref sig .tc := ⟨.hbm, 556, rfl⟩
abbrev main_call3_v14 : Ref sig .tc := ⟨.hbm, 557, rfl⟩
abbrev main_v329 : Ref sig .tc := ⟨.hbm, 558, rfl⟩
abbrev main_call4_c : Ref sig .tc := ⟨.hbm, 559, rfl⟩
abbrev main_call4_v0 : Ref sig .tc := ⟨.hbm, 560, rfl⟩
abbrev main_call4_v1 : Ref sig .tc := ⟨.hbm, 561, rfl⟩
abbrev main_call4_c_0 : Ref sig .tc := ⟨.hbm, 562, rfl⟩
abbrev main_call4_v2 : Ref sig .tc := ⟨.hbm, 563, rfl⟩
abbrev main_call4_v3 : Ref sig .tc := ⟨.hbm, 564, rfl⟩
abbrev main_call4_v4 : Ref sig .tc := ⟨.hbm, 565, rfl⟩
abbrev main_call4_v5 : Ref sig .tc := ⟨.hbm, 566, rfl⟩
abbrev main_call4_c_1 : Ref sig .tc := ⟨.hbm, 567, rfl⟩
abbrev main_call4_c_2 : Ref sig .tc := ⟨.hbm, 568, rfl⟩
abbrev main_call4_v6 : Ref sig .tc := ⟨.hbm, 569, rfl⟩
abbrev main_call4_v7 : Ref sig .tc := ⟨.hbm, 570, rfl⟩
abbrev main_call4_v8 : Ref sig .tc := ⟨.hbm, 571, rfl⟩
abbrev main_call4_v9 : Ref sig .tc := ⟨.hbm, 572, rfl⟩
abbrev main_call4_v10 : Ref sig .tc := ⟨.hbm, 573, rfl⟩
abbrev main_call4_v11 : Ref sig .tc := ⟨.hbm, 574, rfl⟩
abbrev main_call4_c_3 : Ref sig .tc := ⟨.hbm, 575, rfl⟩
abbrev main_call4_v12 : Ref sig .tc := ⟨.hbm, 576, rfl⟩
abbrev main_call4_v13 : Ref sig .tc := ⟨.hbm, 577, rfl⟩
abbrev main_call4_cst : Ref sig .tc := ⟨.hbm, 578, rfl⟩
abbrev main_call4_v14 : Ref sig .tc := ⟨.hbm, 579, rfl⟩
abbrev main_v330 : Ref sig .tc := ⟨.hbm, 580, rfl⟩
abbrev main_v331 : Ref sig .tc := ⟨.hbm, 581, rfl⟩
abbrev main_cst_164 : Ref sig .tc := ⟨.hbm, 582, rfl⟩
abbrev main_v332 : Ref sig .tc := ⟨.hbm, 583, rfl⟩
abbrev main_v333 : Ref sig .tc := ⟨.hbm, 584, rfl⟩
abbrev main_v334 : Ref sig .tc := ⟨.hbm, 585, rfl⟩
abbrev main_v335 : Ref sig .tc := ⟨.hbm, 586, rfl⟩
abbrev main_cst_165 : Ref sig .tc := ⟨.hbm, 587, rfl⟩
abbrev main_cst_166 : Ref sig .tc := ⟨.hbm, 588, rfl⟩
abbrev main_v336 : Ref sig .tc := ⟨.hbm, 589, rfl⟩
abbrev main_cst_167 : Ref sig .tc := ⟨.hbm, 590, rfl⟩
abbrev main_v337 : Ref sig .tc := ⟨.hbm, 591, rfl⟩
abbrev main_cst_168 : Ref sig .tc := ⟨.hbm, 592, rfl⟩
abbrev main_v338 : Ref sig .tc := ⟨.hbm, 593, rfl⟩
abbrev main_cst_169 : Ref sig .tc := ⟨.hbm, 594, rfl⟩
abbrev main_v339 : Ref sig .tc := ⟨.hbm, 595, rfl⟩
abbrev main_cst_170 : Ref sig .tc := ⟨.hbm, 596, rfl⟩
abbrev main_cst_171 : Ref sig .tc := ⟨.hbm, 597, rfl⟩
abbrev main_v340 : Ref sig .tc := ⟨.hbm, 598, rfl⟩
abbrev main_cst_172 : Ref sig .tc := ⟨.hbm, 599, rfl⟩
abbrev main_v341 : Ref sig .tc := ⟨.hbm, 600, rfl⟩
abbrev main_cst_173 : Ref sig .tc := ⟨.hbm, 601, rfl⟩
abbrev main_v342 : Ref sig .tc := ⟨.hbm, 602, rfl⟩
abbrev main_cst_174 : Ref sig .tc := ⟨.hbm, 603, rfl⟩
abbrev main_v343 : Ref sig .tc := ⟨.hbm, 604, rfl⟩
abbrev main_cst_175 : Ref sig .tc := ⟨.hbm, 605, rfl⟩
abbrev main_cst_176 : Ref sig .tc := ⟨.hbm, 606, rfl⟩
abbrev main_v344 : Ref sig .tc := ⟨.hbm, 607, rfl⟩
abbrev main_cst_177 : Ref sig .tc := ⟨.hbm, 608, rfl⟩
abbrev main_v345 : Ref sig .tc := ⟨.hbm, 609, rfl⟩
abbrev main_cst_178 : Ref sig .tc := ⟨.hbm, 610, rfl⟩
abbrev main_v346 : Ref sig .tc := ⟨.hbm, 611, rfl⟩
abbrev main_cst_179 : Ref sig .tc := ⟨.hbm, 612, rfl⟩
abbrev main_v347 : Ref sig .tc := ⟨.hbm, 613, rfl⟩
abbrev main_cst_180 : Ref sig .tc := ⟨.hbm, 614, rfl⟩
abbrev main_cst_181 : Ref sig .tc := ⟨.hbm, 615, rfl⟩
abbrev main_v348 : Ref sig .tc := ⟨.hbm, 616, rfl⟩
abbrev main_cst_182 : Ref sig .tc := ⟨.hbm, 617, rfl⟩
abbrev main_v349 : Ref sig .tc := ⟨.hbm, 618, rfl⟩
abbrev main_cst_183 : Ref sig .tc := ⟨.hbm, 619, rfl⟩
abbrev main_v350 : Ref sig .tc := ⟨.hbm, 620, rfl⟩
abbrev main_cst_184 : Ref sig .tc := ⟨.hbm, 621, rfl⟩
abbrev main_v351 : Ref sig .tc := ⟨.hbm, 622, rfl⟩
abbrev main_cst_185 : Ref sig .tc := ⟨.hbm, 623, rfl⟩
abbrev main_cst_186 : Ref sig .tc := ⟨.hbm, 624, rfl⟩
abbrev main_v352 : Ref sig .tc := ⟨.hbm, 625, rfl⟩
abbrev main_cst_187 : Ref sig .tc := ⟨.hbm, 626, rfl⟩
abbrev main_v353 : Ref sig .tc := ⟨.hbm, 627, rfl⟩
abbrev main_cst_188 : Ref sig .tc := ⟨.hbm, 628, rfl⟩
abbrev main_v354 : Ref sig .tc := ⟨.hbm, 629, rfl⟩
abbrev main_cst_189 : Ref sig .tc := ⟨.hbm, 630, rfl⟩
abbrev main_v355 : Ref sig .tc := ⟨.hbm, 631, rfl⟩
abbrev main_cst_190 : Ref sig .tc := ⟨.hbm, 632, rfl⟩
abbrev main_cst_191 : Ref sig .tc := ⟨.hbm, 633, rfl⟩
abbrev main_v356 : Ref sig .tc := ⟨.hbm, 634, rfl⟩
abbrev main_cst_192 : Ref sig .tc := ⟨.hbm, 635, rfl⟩
abbrev main_v357 : Ref sig .tc := ⟨.hbm, 636, rfl⟩
abbrev main_cst_193 : Ref sig .tc := ⟨.hbm, 637, rfl⟩
abbrev main_v358 : Ref sig .tc := ⟨.hbm, 638, rfl⟩
abbrev main_cst_194 : Ref sig .tc := ⟨.hbm, 639, rfl⟩
abbrev main_v359 : Ref sig .tc := ⟨.hbm, 640, rfl⟩
abbrev main_cst_195 : Ref sig .tc := ⟨.hbm, 641, rfl⟩
abbrev main_cst_196 : Ref sig .tc := ⟨.hbm, 642, rfl⟩
abbrev main_v360 : Ref sig .tc := ⟨.hbm, 643, rfl⟩
abbrev main_cst_197 : Ref sig .tc := ⟨.hbm, 644, rfl⟩
abbrev main_v361 : Ref sig .tc := ⟨.hbm, 645, rfl⟩
abbrev main_cst_198 : Ref sig .tc := ⟨.hbm, 646, rfl⟩
abbrev main_v362 : Ref sig .tc := ⟨.hbm, 647, rfl⟩
abbrev main_cst_199 : Ref sig .tc := ⟨.hbm, 648, rfl⟩
abbrev main_v363 : Ref sig .tc := ⟨.hbm, 649, rfl⟩
abbrev main_cst_200 : Ref sig .tc := ⟨.hbm, 650, rfl⟩
abbrev main_cst_201 : Ref sig .tc := ⟨.hbm, 651, rfl⟩
abbrev main_v364 : Ref sig .tc := ⟨.hbm, 652, rfl⟩
abbrev main_cst_202 : Ref sig .tc := ⟨.hbm, 653, rfl⟩
abbrev main_v365 : Ref sig .tc := ⟨.hbm, 654, rfl⟩
abbrev main_cst_203 : Ref sig .tc := ⟨.hbm, 655, rfl⟩
abbrev main_v366 : Ref sig .tc := ⟨.hbm, 656, rfl⟩
abbrev main_cst_204 : Ref sig .tc := ⟨.hbm, 657, rfl⟩
abbrev main_v367 : Ref sig .tc := ⟨.hbm, 658, rfl⟩
abbrev main_cst_205 : Ref sig .tc := ⟨.hbm, 659, rfl⟩
abbrev main_cst_206 : Ref sig .tc := ⟨.hbm, 660, rfl⟩
abbrev main_v368 : Ref sig .tc := ⟨.hbm, 661, rfl⟩
abbrev main_cst_207 : Ref sig .tc := ⟨.hbm, 662, rfl⟩
abbrev main_v369 : Ref sig .tc := ⟨.hbm, 663, rfl⟩
abbrev main_cst_208 : Ref sig .tc := ⟨.hbm, 664, rfl⟩
abbrev main_v370 : Ref sig .tc := ⟨.hbm, 665, rfl⟩
abbrev main_cst_209 : Ref sig .tc := ⟨.hbm, 666, rfl⟩
abbrev main_v371 : Ref sig .tc := ⟨.hbm, 667, rfl⟩
abbrev main_cst_210 : Ref sig .tc := ⟨.hbm, 668, rfl⟩
abbrev main_cst_211 : Ref sig .tc := ⟨.hbm, 669, rfl⟩
abbrev main_v372 : Ref sig .tc := ⟨.hbm, 670, rfl⟩
abbrev main_cst_212 : Ref sig .tc := ⟨.hbm, 671, rfl⟩
abbrev main_v373 : Ref sig .tc := ⟨.hbm, 672, rfl⟩
abbrev main_cst_213 : Ref sig .tc := ⟨.hbm, 673, rfl⟩
abbrev main_v374 : Ref sig .tc := ⟨.hbm, 674, rfl⟩
abbrev main_cst_214 : Ref sig .tc := ⟨.hbm, 675, rfl⟩
abbrev main_v375 : Ref sig .tc := ⟨.hbm, 676, rfl⟩
abbrev main_cst_215 : Ref sig .tc := ⟨.hbm, 677, rfl⟩
abbrev main_cst_216 : Ref sig .tc := ⟨.hbm, 678, rfl⟩
abbrev main_v376 : Ref sig .tc := ⟨.hbm, 679, rfl⟩
abbrev main_cst_217 : Ref sig .tc := ⟨.hbm, 680, rfl⟩
abbrev main_v377 : Ref sig .tc := ⟨.hbm, 681, rfl⟩
abbrev main_cst_218 : Ref sig .tc := ⟨.hbm, 682, rfl⟩
abbrev main_v378 : Ref sig .tc := ⟨.hbm, 683, rfl⟩
abbrev main_cst_219 : Ref sig .tc := ⟨.hbm, 684, rfl⟩
abbrev main_v379 : Ref sig .tc := ⟨.hbm, 685, rfl⟩
abbrev main_cst_220 : Ref sig .tc := ⟨.hbm, 686, rfl⟩
abbrev main_cst_221 : Ref sig .tc := ⟨.hbm, 687, rfl⟩
abbrev main_v380 : Ref sig .tc := ⟨.hbm, 688, rfl⟩
abbrev main_cst_222 : Ref sig .tc := ⟨.hbm, 689, rfl⟩
abbrev main_v381 : Ref sig .tc := ⟨.hbm, 690, rfl⟩
abbrev main_cst_223 : Ref sig .tc := ⟨.hbm, 691, rfl⟩
abbrev main_v382 : Ref sig .tc := ⟨.hbm, 692, rfl⟩
abbrev main_cst_224 : Ref sig .tc := ⟨.hbm, 693, rfl⟩
abbrev main_v383 : Ref sig .tc := ⟨.hbm, 694, rfl⟩
abbrev main_cst_225 : Ref sig .tc := ⟨.hbm, 695, rfl⟩
abbrev main_cst_226 : Ref sig .tc := ⟨.hbm, 696, rfl⟩
abbrev main_v384 : Ref sig .tc := ⟨.hbm, 697, rfl⟩
abbrev main_cst_227 : Ref sig .tc := ⟨.hbm, 698, rfl⟩
abbrev main_v385 : Ref sig .tc := ⟨.hbm, 699, rfl⟩
abbrev main_cst_228 : Ref sig .tc := ⟨.hbm, 700, rfl⟩
abbrev main_v386 : Ref sig .tc := ⟨.hbm, 701, rfl⟩
abbrev main_cst_229 : Ref sig .tc := ⟨.hbm, 702, rfl⟩
abbrev main_v387 : Ref sig .tc := ⟨.hbm, 703, rfl⟩
abbrev main_cst_230 : Ref sig .tc := ⟨.hbm, 704, rfl⟩
abbrev main_cst_231 : Ref sig .tc := ⟨.hbm, 705, rfl⟩
abbrev main_v388 : Ref sig .tc := ⟨.hbm, 706, rfl⟩
abbrev main_cst_232 : Ref sig .tc := ⟨.hbm, 707, rfl⟩
abbrev main_v389 : Ref sig .tc := ⟨.hbm, 708, rfl⟩
abbrev main_cst_233 : Ref sig .tc := ⟨.hbm, 709, rfl⟩
abbrev main_v390 : Ref sig .tc := ⟨.hbm, 710, rfl⟩
abbrev main_cst_234 : Ref sig .tc := ⟨.hbm, 711, rfl⟩
abbrev main_v391 : Ref sig .tc := ⟨.hbm, 712, rfl⟩
abbrev main_cst_235 : Ref sig .tc := ⟨.hbm, 713, rfl⟩
abbrev main_cst_236 : Ref sig .tc := ⟨.hbm, 714, rfl⟩
abbrev main_v392 : Ref sig .tc := ⟨.hbm, 715, rfl⟩
abbrev main_cst_237 : Ref sig .tc := ⟨.hbm, 716, rfl⟩
abbrev main_v393 : Ref sig .tc := ⟨.hbm, 717, rfl⟩
abbrev main_cst_238 : Ref sig .tc := ⟨.hbm, 718, rfl⟩
abbrev main_v394 : Ref sig .tc := ⟨.hbm, 719, rfl⟩
abbrev main_cst_239 : Ref sig .tc := ⟨.hbm, 720, rfl⟩
abbrev main_v395 : Ref sig .tc := ⟨.hbm, 721, rfl⟩
abbrev main_cst_240 : Ref sig .tc := ⟨.hbm, 722, rfl⟩
abbrev main_cst_241 : Ref sig .tc := ⟨.hbm, 723, rfl⟩
abbrev main_v396 : Ref sig .tc := ⟨.hbm, 724, rfl⟩
abbrev main_cst_242 : Ref sig .tc := ⟨.hbm, 725, rfl⟩
abbrev main_v397 : Ref sig .tc := ⟨.hbm, 726, rfl⟩
abbrev main_cst_243 : Ref sig .tc := ⟨.hbm, 727, rfl⟩
abbrev main_v398 : Ref sig .tc := ⟨.hbm, 728, rfl⟩
abbrev main_cst_244 : Ref sig .tc := ⟨.hbm, 729, rfl⟩
abbrev main_v399 : Ref sig .tc := ⟨.hbm, 730, rfl⟩
abbrev main_cst_245 : Ref sig .tc := ⟨.hbm, 731, rfl⟩
abbrev main_cst_246 : Ref sig .tc := ⟨.hbm, 732, rfl⟩
abbrev main_v400 : Ref sig .tc := ⟨.hbm, 733, rfl⟩
abbrev main_cst_247 : Ref sig .tc := ⟨.hbm, 734, rfl⟩
abbrev main_v401 : Ref sig .tc := ⟨.hbm, 735, rfl⟩
abbrev main_cst_248 : Ref sig .tc := ⟨.hbm, 736, rfl⟩
abbrev main_v402 : Ref sig .tc := ⟨.hbm, 737, rfl⟩
abbrev main_cst_249 : Ref sig .tc := ⟨.hbm, 738, rfl⟩
abbrev main_v403 : Ref sig .tc := ⟨.hbm, 739, rfl⟩
abbrev main_cst_250 : Ref sig .tc := ⟨.hbm, 740, rfl⟩
abbrev main_cst_251 : Ref sig .tc := ⟨.hbm, 741, rfl⟩
abbrev main_v404 : Ref sig .tc := ⟨.hbm, 742, rfl⟩
abbrev main_cst_252 : Ref sig .tc := ⟨.hbm, 743, rfl⟩
abbrev main_v405 : Ref sig .tc := ⟨.hbm, 744, rfl⟩
abbrev main_cst_253 : Ref sig .tc := ⟨.hbm, 745, rfl⟩
abbrev main_v406 : Ref sig .tc := ⟨.hbm, 746, rfl⟩
abbrev main_cst_254 : Ref sig .tc := ⟨.hbm, 747, rfl⟩
abbrev main_v407 : Ref sig .tc := ⟨.hbm, 748, rfl⟩
abbrev main_cst_255 : Ref sig .tc := ⟨.hbm, 749, rfl⟩
abbrev main_cst_256 : Ref sig .tc := ⟨.hbm, 750, rfl⟩
abbrev main_v408 : Ref sig .tc := ⟨.hbm, 751, rfl⟩
abbrev main_cst_257 : Ref sig .tc := ⟨.hbm, 752, rfl⟩
abbrev main_v409 : Ref sig .tc := ⟨.hbm, 753, rfl⟩
abbrev main_cst_258 : Ref sig .tc := ⟨.hbm, 754, rfl⟩
abbrev main_v410 : Ref sig .tc := ⟨.hbm, 755, rfl⟩
abbrev main_cst_259 : Ref sig .tc := ⟨.hbm, 756, rfl⟩
abbrev main_v411 : Ref sig .tc := ⟨.hbm, 757, rfl⟩
abbrev main_cst_260 : Ref sig .tc := ⟨.hbm, 758, rfl⟩
abbrev main_cst_261 : Ref sig .tc := ⟨.hbm, 759, rfl⟩
abbrev main_v412 : Ref sig .tc := ⟨.hbm, 760, rfl⟩
abbrev main_cst_262 : Ref sig .tc := ⟨.hbm, 761, rfl⟩
abbrev main_v413 : Ref sig .tc := ⟨.hbm, 762, rfl⟩
abbrev main_cst_263 : Ref sig .tc := ⟨.hbm, 763, rfl⟩
abbrev main_v414 : Ref sig .tc := ⟨.hbm, 764, rfl⟩
abbrev main_cst_264 : Ref sig .tc := ⟨.hbm, 765, rfl⟩
abbrev main_v415 : Ref sig .tc := ⟨.hbm, 766, rfl⟩
abbrev main_cst_265 : Ref sig .tc := ⟨.hbm, 767, rfl⟩
abbrev main_cst_266 : Ref sig .tc := ⟨.hbm, 768, rfl⟩
abbrev main_v416 : Ref sig .tc := ⟨.hbm, 769, rfl⟩
abbrev main_cst_267 : Ref sig .tc := ⟨.hbm, 770, rfl⟩
abbrev main_v417 : Ref sig .tc := ⟨.hbm, 771, rfl⟩
abbrev main_cst_268 : Ref sig .tc := ⟨.hbm, 772, rfl⟩
abbrev main_v418 : Ref sig .tc := ⟨.hbm, 773, rfl⟩
abbrev main_cst_269 : Ref sig .tc := ⟨.hbm, 774, rfl⟩
abbrev main_v419 : Ref sig .tc := ⟨.hbm, 775, rfl⟩
abbrev main_cst_270 : Ref sig .tc := ⟨.hbm, 776, rfl⟩
abbrev main_cst_271 : Ref sig .tc := ⟨.hbm, 777, rfl⟩
abbrev main_v420 : Ref sig .tc := ⟨.hbm, 778, rfl⟩
abbrev main_cst_272 : Ref sig .tc := ⟨.hbm, 779, rfl⟩
abbrev main_v421 : Ref sig .tc := ⟨.hbm, 780, rfl⟩
abbrev main_cst_273 : Ref sig .tc := ⟨.hbm, 781, rfl⟩
abbrev main_v422 : Ref sig .tc := ⟨.hbm, 782, rfl⟩
abbrev main_cst_274 : Ref sig .tc := ⟨.hbm, 783, rfl⟩
abbrev main_v423 : Ref sig .tc := ⟨.hbm, 784, rfl⟩
abbrev main_cst_275 : Ref sig .tc := ⟨.hbm, 785, rfl⟩
abbrev main_cst_276 : Ref sig .tc := ⟨.hbm, 786, rfl⟩
abbrev main_v424 : Ref sig .tc := ⟨.hbm, 787, rfl⟩
abbrev main_cst_277 : Ref sig .tc := ⟨.hbm, 788, rfl⟩
abbrev main_v425 : Ref sig .tc := ⟨.hbm, 789, rfl⟩
abbrev main_cst_278 : Ref sig .tc := ⟨.hbm, 790, rfl⟩
abbrev main_v426 : Ref sig .tc := ⟨.hbm, 791, rfl⟩
abbrev main_cst_279 : Ref sig .tc := ⟨.hbm, 792, rfl⟩
abbrev main_v427 : Ref sig .tc := ⟨.hbm, 793, rfl⟩
abbrev main_cst_280 : Ref sig .tc := ⟨.hbm, 794, rfl⟩
abbrev main_cst_281 : Ref sig .tc := ⟨.hbm, 795, rfl⟩
abbrev main_v428 : Ref sig .tc := ⟨.hbm, 796, rfl⟩
abbrev main_cst_282 : Ref sig .tc := ⟨.hbm, 797, rfl⟩
abbrev main_v429 : Ref sig .tc := ⟨.hbm, 798, rfl⟩
abbrev main_cst_283 : Ref sig .tc := ⟨.hbm, 799, rfl⟩
abbrev main_v430 : Ref sig .tc := ⟨.hbm, 800, rfl⟩
abbrev main_cst_284 : Ref sig .tc := ⟨.hbm, 801, rfl⟩
abbrev main_v431 : Ref sig .tc := ⟨.hbm, 802, rfl⟩
abbrev main_cst_285 : Ref sig .tc := ⟨.hbm, 803, rfl⟩
abbrev main_cst_286 : Ref sig .tc := ⟨.hbm, 804, rfl⟩
abbrev main_v432 : Ref sig .tc := ⟨.hbm, 805, rfl⟩
abbrev main_cst_287 : Ref sig .tc := ⟨.hbm, 806, rfl⟩
abbrev main_v433 : Ref sig .tc := ⟨.hbm, 807, rfl⟩
abbrev main_cst_288 : Ref sig .tc := ⟨.hbm, 808, rfl⟩
abbrev main_v434 : Ref sig .tc := ⟨.hbm, 809, rfl⟩
abbrev main_cst_289 : Ref sig .tc := ⟨.hbm, 810, rfl⟩
abbrev main_v435 : Ref sig .tc := ⟨.hbm, 811, rfl⟩
abbrev main_cst_290 : Ref sig .tc := ⟨.hbm, 812, rfl⟩
abbrev main_v436 : Ref sig .tc := ⟨.hbm, 813, rfl⟩
abbrev main_v437 : Ref sig .tc := ⟨.hbm, 814, rfl⟩
abbrev main_v438 : Ref sig .tc := ⟨.hbm, 815, rfl⟩
abbrev main_v439 : Ref sig .tc := ⟨.hbm, 816, rfl⟩
abbrev main_v440 : Ref sig .tc := ⟨.hbm, 817, rfl⟩
abbrev main_v441 : Ref sig .tc := ⟨.hbm, 818, rfl⟩
abbrev main_v442 : Ref sig .tc := ⟨.hbm, 819, rfl⟩
abbrev main_v443 : Ref sig .tc := ⟨.hbm, 820, rfl⟩
abbrev main_v444 : Ref sig .tc := ⟨.hbm, 821, rfl⟩
abbrev main_v445 : Ref sig .tc := ⟨.hbm, 822, rfl⟩
abbrev main_v446 : Ref sig .tc := ⟨.hbm, 823, rfl⟩
abbrev main_v447 : Ref sig .tc := ⟨.hbm, 824, rfl⟩
abbrev main_v448 : Ref sig .tc := ⟨.hbm, 825, rfl⟩
abbrev main_v449 : Ref sig .tc := ⟨.hbm, 826, rfl⟩
abbrev main_v450 : Ref sig .tc := ⟨.hbm, 827, rfl⟩
abbrev main_v451 : Ref sig .tc := ⟨.hbm, 828, rfl⟩
abbrev main_v452 : Ref sig .tc := ⟨.hbm, 829, rfl⟩
abbrev main_v453 : Ref sig .tc := ⟨.hbm, 830, rfl⟩
abbrev main_v454 : Ref sig .tc := ⟨.hbm, 831, rfl⟩
abbrev main_v455 : Ref sig .tc := ⟨.hbm, 832, rfl⟩
abbrev main_v456 : Ref sig .tc := ⟨.hbm, 833, rfl⟩
abbrev main_v457 : Ref sig .tc := ⟨.hbm, 834, rfl⟩
abbrev main_v458 : Ref sig .tc := ⟨.hbm, 835, rfl⟩
abbrev main_v459 : Ref sig .tc := ⟨.hbm, 836, rfl⟩
abbrev main_v460 : Ref sig .tc := ⟨.hbm, 837, rfl⟩
abbrev main_v461 : Ref sig .tc := ⟨.hbm, 838, rfl⟩
abbrev main_v462 : Ref sig .tc := ⟨.hbm, 839, rfl⟩
abbrev main_v463 : Ref sig .tc := ⟨.hbm, 840, rfl⟩
abbrev main_v464 : Ref sig .tc := ⟨.hbm, 841, rfl⟩
abbrev main_v465 : Ref sig .tc := ⟨.hbm, 842, rfl⟩
abbrev main_v466 : Ref sig .tc := ⟨.hbm, 843, rfl⟩
abbrev main_v467 : Ref sig .tc := ⟨.hbm, 844, rfl⟩
abbrev main_v468 : Ref sig .tc := ⟨.hbm, 845, rfl⟩
abbrev main_v469 : Ref sig .tc := ⟨.hbm, 846, rfl⟩
abbrev main_v470 : Ref sig .tc := ⟨.hbm, 847, rfl⟩
abbrev main_v471 : Ref sig .tc := ⟨.hbm, 848, rfl⟩
abbrev main_v472 : Ref sig .tc := ⟨.hbm, 849, rfl⟩
abbrev main_v473 : Ref sig .tc := ⟨.hbm, 850, rfl⟩
abbrev main_v474 : Ref sig .tc := ⟨.hbm, 851, rfl⟩
abbrev main_v475 : Ref sig .tc := ⟨.hbm, 852, rfl⟩
abbrev main_v476 : Ref sig .tc := ⟨.hbm, 853, rfl⟩
abbrev main_v477 : Ref sig .tc := ⟨.hbm, 854, rfl⟩
abbrev main_v478 : Ref sig .tc := ⟨.hbm, 855, rfl⟩
abbrev main_v479 : Ref sig .tc := ⟨.hbm, 856, rfl⟩
abbrev main_v480 : Ref sig .tc := ⟨.hbm, 857, rfl⟩
abbrev main_v481 : Ref sig .tc := ⟨.hbm, 858, rfl⟩
abbrev main_v482 : Ref sig .tc := ⟨.hbm, 859, rfl⟩
abbrev main_v483 : Ref sig .tc := ⟨.hbm, 860, rfl⟩
abbrev main_v484 : Ref sig .tc := ⟨.hbm, 861, rfl⟩
abbrev main_v485 : Ref sig .tc := ⟨.hbm, 862, rfl⟩
abbrev main_v486 : Ref sig .tc := ⟨.hbm, 863, rfl⟩
abbrev main_v487 : Ref sig .tc := ⟨.hbm, 864, rfl⟩
abbrev main_v488 : Ref sig .tc := ⟨.hbm, 865, rfl⟩
abbrev main_v489 : Ref sig .tc := ⟨.hbm, 866, rfl⟩
abbrev main_v490 : Ref sig .tc := ⟨.hbm, 867, rfl⟩
abbrev main_v491 : Ref sig .tc := ⟨.hbm, 868, rfl⟩
abbrev main_v492 : Ref sig .tc := ⟨.hbm, 869, rfl⟩
abbrev main_v493 : Ref sig .tc := ⟨.hbm, 870, rfl⟩
abbrev main_v494 : Ref sig .tc := ⟨.hbm, 871, rfl⟩
abbrev main_v495 : Ref sig .tc := ⟨.hbm, 872, rfl⟩
abbrev main_v496 : Ref sig .tc := ⟨.hbm, 873, rfl⟩
abbrev main_v497 : Ref sig .tc := ⟨.hbm, 874, rfl⟩
abbrev main_v498 : Ref sig .tc := ⟨.hbm, 875, rfl⟩
abbrev main_v499 : Ref sig .tc := ⟨.hbm, 876, rfl⟩
abbrev main_v500 : Ref sig .tc := ⟨.hbm, 877, rfl⟩
abbrev main_v501 : Ref sig .tc := ⟨.hbm, 878, rfl⟩
abbrev main_v502 : Ref sig .tc := ⟨.hbm, 879, rfl⟩
abbrev main_v503 : Ref sig .tc := ⟨.hbm, 880, rfl⟩
abbrev main_v504 : Ref sig .tc := ⟨.hbm, 881, rfl⟩
abbrev main_v505 : Ref sig .tc := ⟨.hbm, 882, rfl⟩
abbrev main_v506 : Ref sig .tc := ⟨.hbm, 883, rfl⟩
abbrev main_v507 : Ref sig .tc := ⟨.hbm, 884, rfl⟩
abbrev main_v508 : Ref sig .tc := ⟨.hbm, 885, rfl⟩
abbrev main_v509 : Ref sig .tc := ⟨.hbm, 886, rfl⟩
abbrev main_v510 : Ref sig .tc := ⟨.hbm, 887, rfl⟩
abbrev main_v511 : Ref sig .tc := ⟨.hbm, 888, rfl⟩
abbrev main_v512 : Ref sig .tc := ⟨.hbm, 889, rfl⟩
abbrev main_v513 : Ref sig .tc := ⟨.hbm, 890, rfl⟩
abbrev main_v514 : Ref sig .tc := ⟨.hbm, 891, rfl⟩
abbrev main_v515 : Ref sig .tc := ⟨.hbm, 892, rfl⟩
abbrev main_v516 : Ref sig .tc := ⟨.hbm, 893, rfl⟩
abbrev main_v517 : Ref sig .tc := ⟨.hbm, 894, rfl⟩
abbrev main_v518 : Ref sig .tc := ⟨.hbm, 895, rfl⟩
abbrev main_v519 : Ref sig .tc := ⟨.hbm, 896, rfl⟩
abbrev main_v520 : Ref sig .tc := ⟨.hbm, 897, rfl⟩
abbrev main_v521 : Ref sig .tc := ⟨.hbm, 898, rfl⟩
abbrev main_v522 : Ref sig .tc := ⟨.hbm, 899, rfl⟩
abbrev main_v523 : Ref sig .tc := ⟨.hbm, 900, rfl⟩
abbrev main_v524 : Ref sig .tc := ⟨.hbm, 901, rfl⟩
abbrev main_v525 : Ref sig .tc := ⟨.hbm, 902, rfl⟩
abbrev main_v526 : Ref sig .tc := ⟨.hbm, 903, rfl⟩
abbrev main_v527 : Ref sig .tc := ⟨.hbm, 904, rfl⟩
abbrev main_v528 : Ref sig .tc := ⟨.hbm, 905, rfl⟩
abbrev main_v529 : Ref sig .tc := ⟨.hbm, 906, rfl⟩
abbrev main_v530 : Ref sig .tc := ⟨.hbm, 907, rfl⟩
abbrev main_v531 : Ref sig .tc := ⟨.hbm, 908, rfl⟩
abbrev main_v532 : Ref sig .tc := ⟨.hbm, 909, rfl⟩
abbrev main_v533 : Ref sig .tc := ⟨.hbm, 910, rfl⟩
abbrev main_v534 : Ref sig .tc := ⟨.hbm, 911, rfl⟩
abbrev main_v535 : Ref sig .tc := ⟨.hbm, 912, rfl⟩
abbrev main_cst_291 : Ref sig .tc := ⟨.hbm, 913, rfl⟩
abbrev main_v536 : Ref sig .tc := ⟨.hbm, 914, rfl⟩
abbrev main_v537 : Ref sig .tc := ⟨.hbm, 915, rfl⟩
abbrev main_cst_292 : Ref sig .tc := ⟨.hbm, 916, rfl⟩
abbrev main_v538 : Ref sig .tc := ⟨.hbm, 917, rfl⟩
abbrev main_v539 : Ref sig .tc := ⟨.hbm, 918, rfl⟩
abbrev main_v540 : Ref sig .tc := ⟨.hbm, 919, rfl⟩
abbrev main_cst_293 : Ref sig .tc := ⟨.hbm, 920, rfl⟩
abbrev main_v541 : Ref sig .tc := ⟨.hbm, 921, rfl⟩
abbrev main_v542 : Ref sig .tc := ⟨.hbm, 922, rfl⟩
abbrev main_v543 : Ref sig .tc := ⟨.hbm, 923, rfl⟩
abbrev main_v544 : Ref sig .tc := ⟨.hbm, 924, rfl⟩
abbrev main_cst_294 : Ref sig .tc := ⟨.hbm, 925, rfl⟩
abbrev main_v545 : Ref sig .tc := ⟨.hbm, 926, rfl⟩
abbrev main_v546 : Ref sig .tc := ⟨.hbm, 927, rfl⟩
abbrev main_v547 : Ref sig .tc := ⟨.hbm, 928, rfl⟩
abbrev main_v548 : Ref sig .tc := ⟨.hbm, 929, rfl⟩
abbrev main_cst_295 : Ref sig .tc := ⟨.hbm, 930, rfl⟩
abbrev main_v549 : Ref sig .tc := ⟨.hbm, 931, rfl⟩
abbrev main_v550 : Ref sig .tc := ⟨.hbm, 932, rfl⟩
abbrev main_v551 : Ref sig .tc := ⟨.hbm, 933, rfl⟩
abbrev main_v552 : Ref sig .tc := ⟨.hbm, 934, rfl⟩
abbrev main_cst_296 : Ref sig .tc := ⟨.hbm, 935, rfl⟩
abbrev main_v553 : Ref sig .tc := ⟨.hbm, 936, rfl⟩
abbrev main_v554 : Ref sig .tc := ⟨.hbm, 937, rfl⟩
abbrev main_v555 : Ref sig .tc := ⟨.hbm, 938, rfl⟩
abbrev main_v556 : Ref sig .tc := ⟨.hbm, 939, rfl⟩
abbrev main_cst_297 : Ref sig .tc := ⟨.hbm, 940, rfl⟩
abbrev main_v557 : Ref sig .tc := ⟨.hbm, 941, rfl⟩
abbrev main_v558 : Ref sig .tc := ⟨.hbm, 942, rfl⟩
abbrev main_v559 : Ref sig .tc := ⟨.hbm, 943, rfl⟩
abbrev main_cst_298 : Ref sig .tc := ⟨.hbm, 944, rfl⟩
abbrev main_v560 : Ref sig .tc := ⟨.hbm, 945, rfl⟩
abbrev main_v561 : Ref sig .tc := ⟨.hbm, 946, rfl⟩
abbrev main_cst_299 : Ref sig .tc := ⟨.hbm, 947, rfl⟩
abbrev main_v562 : Ref sig .tc := ⟨.hbm, 948, rfl⟩
abbrev main_v563 : Ref sig .tc := ⟨.hbm, 949, rfl⟩
abbrev main_v564 : Ref sig .tc := ⟨.hbm, 950, rfl⟩
abbrev main_cst_300 : Ref sig .tc := ⟨.hbm, 951, rfl⟩
abbrev main_v565 : Ref sig .tc := ⟨.hbm, 952, rfl⟩
abbrev main_v566 : Ref sig .tc := ⟨.hbm, 953, rfl⟩
abbrev main_v567 : Ref sig .tc := ⟨.hbm, 954, rfl⟩
abbrev main_v568 : Ref sig .tc := ⟨.hbm, 955, rfl⟩
abbrev main_cst_301 : Ref sig .tc := ⟨.hbm, 956, rfl⟩
abbrev main_v569 : Ref sig .tc := ⟨.hbm, 957, rfl⟩
abbrev main_v570 : Ref sig .tc := ⟨.hbm, 958, rfl⟩
abbrev main_v571 : Ref sig .tc := ⟨.hbm, 959, rfl⟩
abbrev main_v572 : Ref sig .tc := ⟨.hbm, 960, rfl⟩
abbrev main_cst_302 : Ref sig .tc := ⟨.hbm, 961, rfl⟩
abbrev main_v573 : Ref sig .tc := ⟨.hbm, 962, rfl⟩
abbrev main_v574 : Ref sig .tc := ⟨.hbm, 963, rfl⟩
abbrev main_v575 : Ref sig .tc := ⟨.hbm, 964, rfl⟩
abbrev main_v576 : Ref sig .tc := ⟨.hbm, 965, rfl⟩
abbrev main_cst_303 : Ref sig .tc := ⟨.hbm, 966, rfl⟩
abbrev main_v577 : Ref sig .tc := ⟨.hbm, 967, rfl⟩
abbrev main_v578 : Ref sig .tc := ⟨.hbm, 968, rfl⟩
abbrev main_v579 : Ref sig .tc := ⟨.hbm, 969, rfl⟩
abbrev main_v580 : Ref sig .tc := ⟨.hbm, 970, rfl⟩
abbrev main_cst_304 : Ref sig .tc := ⟨.hbm, 971, rfl⟩
abbrev main_v581 : Ref sig .tc := ⟨.hbm, 972, rfl⟩
abbrev main_v582 : Ref sig .tc := ⟨.hbm, 973, rfl⟩
abbrev main_v583 : Ref sig .tc := ⟨.hbm, 974, rfl⟩
abbrev main_v584 : Ref sig .tc := ⟨.hbm, 975, rfl⟩
abbrev main_v585 : Ref sig .tc := ⟨.hbm, 976, rfl⟩
abbrev main_v586 : Ref sig .tc := ⟨.hbm, 977, rfl⟩
abbrev main_cst_305 : Ref sig .tc := ⟨.hbm, 978, rfl⟩
abbrev main_v587 : Ref sig .tc := ⟨.hbm, 979, rfl⟩
abbrev main_v588 : Ref sig .tc := ⟨.hbm, 980, rfl⟩
abbrev main_v589 : Ref sig .tc := ⟨.hbm, 981, rfl⟩
abbrev main_v590 : Ref sig .tc := ⟨.hbm, 982, rfl⟩
abbrev main_cst_306 : Ref sig .tc := ⟨.hbm, 983, rfl⟩
abbrev main_v591 : Ref sig .tc := ⟨.hbm, 984, rfl⟩
abbrev main_v592 : Ref sig .tc := ⟨.hbm, 985, rfl⟩
abbrev main_cst_307 : Ref sig .tc := ⟨.hbm, 986, rfl⟩
abbrev main_v593 : Ref sig .tc := ⟨.hbm, 987, rfl⟩
abbrev main_v594 : Ref sig .tc := ⟨.hbm, 988, rfl⟩
abbrev main_cst_308 : Ref sig .tc := ⟨.hbm, 989, rfl⟩
abbrev main_v595 : Ref sig .tc := ⟨.hbm, 990, rfl⟩
abbrev main_v596 : Ref sig .tc := ⟨.hbm, 991, rfl⟩
abbrev main_v597 : Ref sig .tc := ⟨.hbm, 992, rfl⟩
abbrev main_cst_309 : Ref sig .tc := ⟨.hbm, 993, rfl⟩
abbrev main_v598 : Ref sig .tc := ⟨.hbm, 994, rfl⟩
abbrev main_v599 : Ref sig .tc := ⟨.hbm, 995, rfl⟩
abbrev main_cst_310 : Ref sig .tc := ⟨.hbm, 996, rfl⟩
abbrev main_v600 : Ref sig .tc := ⟨.hbm, 997, rfl⟩
abbrev main_v601 : Ref sig .tc := ⟨.hbm, 998, rfl⟩
abbrev main_v602 : Ref sig .tc := ⟨.hbm, 999, rfl⟩
abbrev main_c_311 : Ref sig .tc := ⟨.hbm, 1000, rfl⟩
abbrev main_call6_v0 : Ref sig .tc := ⟨.hbm, 1001, rfl⟩
abbrev main_call6_c : Ref sig .tc := ⟨.hbm, 1002, rfl⟩
abbrev main_call6_v1 : Ref sig .tc := ⟨.hbm, 1003, rfl⟩
abbrev main_call6_c_0 : Ref sig .tc := ⟨.hbm, 1004, rfl⟩
abbrev main_call6_v2 : Ref sig .tc := ⟨.hbm, 1005, rfl⟩
abbrev main_call6_v3 : Ref sig .tc := ⟨.hbm, 1006, rfl⟩
abbrev main_call6_v4 : Ref sig .tc := ⟨.hbm, 1007, rfl⟩
abbrev main_call6_c_1 : Ref sig .tc := ⟨.hbm, 1008, rfl⟩
abbrev main_call6_v5 : Ref sig .tc := ⟨.hbm, 1009, rfl⟩
abbrev main_call6_v6 : Ref sig .tc := ⟨.hbm, 1010, rfl⟩
abbrev main_call6_c_2 : Ref sig .tc := ⟨.hbm, 1011, rfl⟩
abbrev main_call6_v7 : Ref sig .tc := ⟨.hbm, 1012, rfl⟩
abbrev main_call6_v8 : Ref sig .tc := ⟨.hbm, 1013, rfl⟩
abbrev main_call6_c_3 : Ref sig .tc := ⟨.hbm, 1014, rfl⟩
abbrev main_call6_v9 : Ref sig .tc := ⟨.hbm, 1015, rfl⟩
abbrev main_call6_v10 : Ref sig .tc := ⟨.hbm, 1016, rfl⟩
abbrev main_call6_v11 : Ref sig .tc := ⟨.hbm, 1017, rfl⟩
abbrev main_call6_v12 : Ref sig .tc := ⟨.hbm, 1018, rfl⟩
abbrev main_call6_v13 : Ref sig .tc := ⟨.hbm, 1019, rfl⟩
abbrev main_call6_v14 : Ref sig .tc := ⟨.hbm, 1020, rfl⟩
abbrev main_v603 : Ref sig .tc := ⟨.hbm, 1021, rfl⟩
abbrev main_c_312 : Ref sig .tc := ⟨.hbm, 1022, rfl⟩
abbrev main_v604 : Ref sig .tc := ⟨.hbm, 1023, rfl⟩
abbrev main_v605 : Ref sig .tc := ⟨.hbm, 1024, rfl⟩
abbrev main_c_313 : Ref sig .tc := ⟨.hbm, 1025, rfl⟩
abbrev main_call7_v0 : Ref sig .tc := ⟨.hbm, 1026, rfl⟩
abbrev main_call7_c : Ref sig .tc := ⟨.hbm, 1027, rfl⟩
abbrev main_call7_v1 : Ref sig .tc := ⟨.hbm, 1028, rfl⟩
abbrev main_call7_c_0 : Ref sig .tc := ⟨.hbm, 1029, rfl⟩
abbrev main_call7_v2 : Ref sig .tc := ⟨.hbm, 1030, rfl⟩
abbrev main_call7_v3 : Ref sig .tc := ⟨.hbm, 1031, rfl⟩
abbrev main_call7_v4 : Ref sig .tc := ⟨.hbm, 1032, rfl⟩
abbrev main_call7_c_1 : Ref sig .tc := ⟨.hbm, 1033, rfl⟩
abbrev main_call7_v5 : Ref sig .tc := ⟨.hbm, 1034, rfl⟩
abbrev main_call7_v6 : Ref sig .tc := ⟨.hbm, 1035, rfl⟩
abbrev main_call7_c_2 : Ref sig .tc := ⟨.hbm, 1036, rfl⟩
abbrev main_call7_v7 : Ref sig .tc := ⟨.hbm, 1037, rfl⟩
abbrev main_call7_v8 : Ref sig .tc := ⟨.hbm, 1038, rfl⟩
abbrev main_call7_c_3 : Ref sig .tc := ⟨.hbm, 1039, rfl⟩
abbrev main_call7_v9 : Ref sig .tc := ⟨.hbm, 1040, rfl⟩
abbrev main_call7_v10 : Ref sig .tc := ⟨.hbm, 1041, rfl⟩
abbrev main_call7_v11 : Ref sig .tc := ⟨.hbm, 1042, rfl⟩
abbrev main_call7_v12 : Ref sig .tc := ⟨.hbm, 1043, rfl⟩
abbrev main_call7_v13 : Ref sig .tc := ⟨.hbm, 1044, rfl⟩
abbrev main_call7_v14 : Ref sig .tc := ⟨.hbm, 1045, rfl⟩
abbrev main_v606 : Ref sig .tc := ⟨.hbm, 1046, rfl⟩
abbrev main_cst_314 : Ref sig .tc := ⟨.hbm, 1047, rfl⟩
abbrev main_v607 : Ref sig .tc := ⟨.hbm, 1048, rfl⟩
abbrev main_v608 : Ref sig .tc := ⟨.hbm, 1049, rfl⟩
abbrev main_cst_315 : Ref sig .tc := ⟨.hbm, 1050, rfl⟩
abbrev main_v609 : Ref sig .tc := ⟨.hbm, 1051, rfl⟩
abbrev main_v610 : Ref sig .tc := ⟨.hbm, 1052, rfl⟩
abbrev main_v611 : Ref sig .tc := ⟨.hbm, 1053, rfl⟩
abbrev main_cst_316 : Ref sig .tc := ⟨.hbm, 1054, rfl⟩
abbrev main_v612 : Ref sig .tc := ⟨.hbm, 1055, rfl⟩
abbrev main_v613 : Ref sig .tc := ⟨.hbm, 1056, rfl⟩
abbrev main_v614 : Ref sig .tc := ⟨.hbm, 1057, rfl⟩
abbrev main_v615 : Ref sig .tc := ⟨.hbm, 1058, rfl⟩
abbrev main_cst_317 : Ref sig .tc := ⟨.hbm, 1059, rfl⟩
abbrev main_v616 : Ref sig .tc := ⟨.hbm, 1060, rfl⟩
abbrev main_v617 : Ref sig .tc := ⟨.hbm, 1061, rfl⟩
abbrev main_v618 : Ref sig .tc := ⟨.hbm, 1062, rfl⟩
abbrev main_cst_318 : Ref sig .tc := ⟨.hbm, 1063, rfl⟩
abbrev main_v619 : Ref sig .tc := ⟨.hbm, 1064, rfl⟩
abbrev main_v620 : Ref sig .tc := ⟨.hbm, 1065, rfl⟩
abbrev main_v621 : Ref sig .tc := ⟨.hbm, 1066, rfl⟩
abbrev main_v622 : Ref sig .tc := ⟨.hbm, 1067, rfl⟩
abbrev main_cst_319 : Ref sig .tc := ⟨.hbm, 1068, rfl⟩
abbrev main_v623 : Ref sig .tc := ⟨.hbm, 1069, rfl⟩
abbrev main_v624 : Ref sig .tc := ⟨.hbm, 1070, rfl⟩
abbrev main_v625 : Ref sig .tc := ⟨.hbm, 1071, rfl⟩
abbrev main_cst_320 : Ref sig .tc := ⟨.hbm, 1072, rfl⟩
abbrev main_v626 : Ref sig .tc := ⟨.hbm, 1073, rfl⟩
abbrev main_v627 : Ref sig .tc := ⟨.hbm, 1074, rfl⟩
abbrev main_v628 : Ref sig .tc := ⟨.hbm, 1075, rfl⟩
abbrev main_v629 : Ref sig .tc := ⟨.hbm, 1076, rfl⟩
abbrev main_cst_321 : Ref sig .tc := ⟨.hbm, 1077, rfl⟩
abbrev main_v630 : Ref sig .tc := ⟨.hbm, 1078, rfl⟩
abbrev main_v631 : Ref sig .tc := ⟨.hbm, 1079, rfl⟩
abbrev main_v632 : Ref sig .tc := ⟨.hbm, 1080, rfl⟩
abbrev main_cst_322 : Ref sig .tc := ⟨.hbm, 1081, rfl⟩
abbrev main_v633 : Ref sig .tc := ⟨.hbm, 1082, rfl⟩
abbrev main_v634 : Ref sig .tc := ⟨.hbm, 1083, rfl⟩
abbrev main_v635 : Ref sig .tc := ⟨.hbm, 1084, rfl⟩
abbrev main_v636 : Ref sig .tc := ⟨.hbm, 1085, rfl⟩
abbrev main_cst_323 : Ref sig .tc := ⟨.hbm, 1086, rfl⟩
abbrev main_v637 : Ref sig .tc := ⟨.hbm, 1087, rfl⟩
abbrev main_v638 : Ref sig .tc := ⟨.hbm, 1088, rfl⟩
abbrev main_v639 : Ref sig .tc := ⟨.hbm, 1089, rfl⟩
abbrev main_cst_324 : Ref sig .tc := ⟨.hbm, 1090, rfl⟩
abbrev main_v640 : Ref sig .tc := ⟨.hbm, 1091, rfl⟩
abbrev main_v641 : Ref sig .tc := ⟨.hbm, 1092, rfl⟩
abbrev main_v642 : Ref sig .tc := ⟨.hbm, 1093, rfl⟩
abbrev main_v643 : Ref sig .tc := ⟨.hbm, 1094, rfl⟩
abbrev main_cst_325 : Ref sig .tc := ⟨.hbm, 1095, rfl⟩
abbrev main_v644 : Ref sig .tc := ⟨.hbm, 1096, rfl⟩
abbrev main_v645 : Ref sig .tc := ⟨.hbm, 1097, rfl⟩
abbrev main_v646 : Ref sig .tc := ⟨.hbm, 1098, rfl⟩
abbrev main_cst_326 : Ref sig .tc := ⟨.hbm, 1099, rfl⟩
abbrev main_v647 : Ref sig .tc := ⟨.hbm, 1100, rfl⟩
abbrev main_v648 : Ref sig .tc := ⟨.hbm, 1101, rfl⟩
abbrev main_v649 : Ref sig .tc := ⟨.hbm, 1102, rfl⟩
abbrev main_v650 : Ref sig .tc := ⟨.hbm, 1103, rfl⟩
abbrev main_cst_327 : Ref sig .tc := ⟨.hbm, 1104, rfl⟩
abbrev main_v651 : Ref sig .tc := ⟨.hbm, 1105, rfl⟩
abbrev main_v652 : Ref sig .tc := ⟨.hbm, 1106, rfl⟩
abbrev main_v653 : Ref sig .tc := ⟨.hbm, 1107, rfl⟩
abbrev main_cst_328 : Ref sig .tc := ⟨.hbm, 1108, rfl⟩
abbrev main_v654 : Ref sig .tc := ⟨.hbm, 1109, rfl⟩
abbrev main_v655 : Ref sig .tc := ⟨.hbm, 1110, rfl⟩
abbrev main_v656 : Ref sig .tc := ⟨.hbm, 1111, rfl⟩
abbrev main_v657 : Ref sig .tc := ⟨.hbm, 1112, rfl⟩
abbrev main_cst_329 : Ref sig .tc := ⟨.hbm, 1113, rfl⟩
abbrev main_v658 : Ref sig .tc := ⟨.hbm, 1114, rfl⟩
abbrev main_v659 : Ref sig .tc := ⟨.hbm, 1115, rfl⟩
abbrev main_v660 : Ref sig .tc := ⟨.hbm, 1116, rfl⟩
abbrev main_cst_330 : Ref sig .tc := ⟨.hbm, 1117, rfl⟩
abbrev main_v661 : Ref sig .tc := ⟨.hbm, 1118, rfl⟩
abbrev main_v662 : Ref sig .tc := ⟨.hbm, 1119, rfl⟩
abbrev main_v663 : Ref sig .tc := ⟨.hbm, 1120, rfl⟩
abbrev main_v664 : Ref sig .tc := ⟨.hbm, 1121, rfl⟩
abbrev main_call8_c : Ref sig .tc := ⟨.hbm, 1122, rfl⟩
abbrev main_call8_v0 : Ref sig .tc := ⟨.hbm, 1123, rfl⟩
abbrev main_call8_v1 : Ref sig .tc := ⟨.hbm, 1124, rfl⟩
abbrev main_call8_c_0 : Ref sig .tc := ⟨.hbm, 1125, rfl⟩
abbrev main_call8_v2 : Ref sig .tc := ⟨.hbm, 1126, rfl⟩
abbrev main_call8_v3 : Ref sig .tc := ⟨.hbm, 1127, rfl⟩
abbrev main_call8_v4 : Ref sig .tc := ⟨.hbm, 1128, rfl⟩
abbrev main_call8_v5 : Ref sig .tc := ⟨.hbm, 1129, rfl⟩
abbrev main_call8_c_1 : Ref sig .tc := ⟨.hbm, 1130, rfl⟩
abbrev main_call8_c_2 : Ref sig .tc := ⟨.hbm, 1131, rfl⟩
abbrev main_call8_v6 : Ref sig .tc := ⟨.hbm, 1132, rfl⟩
abbrev main_call8_v7 : Ref sig .tc := ⟨.hbm, 1133, rfl⟩
abbrev main_call8_v8 : Ref sig .tc := ⟨.hbm, 1134, rfl⟩
abbrev main_call8_v9 : Ref sig .tc := ⟨.hbm, 1135, rfl⟩
abbrev main_call8_v10 : Ref sig .tc := ⟨.hbm, 1136, rfl⟩
abbrev main_call8_v11 : Ref sig .tc := ⟨.hbm, 1137, rfl⟩
abbrev main_call8_c_3 : Ref sig .tc := ⟨.hbm, 1138, rfl⟩
abbrev main_call8_v12 : Ref sig .tc := ⟨.hbm, 1139, rfl⟩
abbrev main_call8_v13 : Ref sig .tc := ⟨.hbm, 1140, rfl⟩
abbrev main_call8_cst : Ref sig .tc := ⟨.hbm, 1141, rfl⟩
abbrev main_call8_v14 : Ref sig .tc := ⟨.hbm, 1142, rfl⟩
abbrev main_v665 : Ref sig .tc := ⟨.hbm, 1143, rfl⟩
abbrev main_call9_c : Ref sig .tc := ⟨.hbm, 1144, rfl⟩
abbrev main_call9_v0 : Ref sig .tc := ⟨.hbm, 1145, rfl⟩
abbrev main_call9_v1 : Ref sig .tc := ⟨.hbm, 1146, rfl⟩
abbrev main_call9_c_0 : Ref sig .tc := ⟨.hbm, 1147, rfl⟩
abbrev main_call9_v2 : Ref sig .tc := ⟨.hbm, 1148, rfl⟩
abbrev main_call9_v3 : Ref sig .tc := ⟨.hbm, 1149, rfl⟩
abbrev main_call9_v4 : Ref sig .tc := ⟨.hbm, 1150, rfl⟩
abbrev main_call9_v5 : Ref sig .tc := ⟨.hbm, 1151, rfl⟩
abbrev main_call9_c_1 : Ref sig .tc := ⟨.hbm, 1152, rfl⟩
abbrev main_call9_c_2 : Ref sig .tc := ⟨.hbm, 1153, rfl⟩
abbrev main_call9_v6 : Ref sig .tc := ⟨.hbm, 1154, rfl⟩
abbrev main_call9_v7 : Ref sig .tc := ⟨.hbm, 1155, rfl⟩
abbrev main_call9_v8 : Ref sig .tc := ⟨.hbm, 1156, rfl⟩
abbrev main_call9_v9 : Ref sig .tc := ⟨.hbm, 1157, rfl⟩
abbrev main_call9_v10 : Ref sig .tc := ⟨.hbm, 1158, rfl⟩
abbrev main_call9_v11 : Ref sig .tc := ⟨.hbm, 1159, rfl⟩
abbrev main_call9_c_3 : Ref sig .tc := ⟨.hbm, 1160, rfl⟩
abbrev main_call9_v12 : Ref sig .tc := ⟨.hbm, 1161, rfl⟩
abbrev main_call9_v13 : Ref sig .tc := ⟨.hbm, 1162, rfl⟩
abbrev main_call9_cst : Ref sig .tc := ⟨.hbm, 1163, rfl⟩
abbrev main_call9_v14 : Ref sig .tc := ⟨.hbm, 1164, rfl⟩
abbrev main_v666 : Ref sig .tc := ⟨.hbm, 1165, rfl⟩
abbrev main_v667 : Ref sig .tc := ⟨.hbm, 1166, rfl⟩
abbrev main_cst_331 : Ref sig .tc := ⟨.hbm, 1167, rfl⟩
abbrev main_v668 : Ref sig .tc := ⟨.hbm, 1168, rfl⟩
abbrev main_v669 : Ref sig .tc := ⟨.hbm, 1169, rfl⟩
abbrev main_v670 : Ref sig .tc := ⟨.hbm, 1170, rfl⟩
abbrev main_v671 : Ref sig .tc := ⟨.hbm, 1171, rfl⟩
abbrev main_v672 : Ref sig .tc := ⟨.hbm, 1172, rfl⟩
abbrev main_v673 : Ref sig .tc := ⟨.hbm, 1173, rfl⟩
abbrev main_cst_332 : Ref sig .tc := ⟨.hbm, 1174, rfl⟩
abbrev main_v674 : Ref sig .tc := ⟨.hbm, 1175, rfl⟩
abbrev main_cst_333 : Ref sig .tc := ⟨.hbm, 1176, rfl⟩
abbrev main_v675 : Ref sig .tc := ⟨.hbm, 1177, rfl⟩
abbrev main_v676 : Ref sig .tc := ⟨.hbm, 1178, rfl⟩
abbrev main_cst_334 : Ref sig .tc := ⟨.hbm, 1179, rfl⟩
abbrev main_v677 : Ref sig .tc := ⟨.hbm, 1180, rfl⟩
abbrev main_v678 : Ref sig .tc := ⟨.hbm, 1181, rfl⟩
abbrev main_v679 : Ref sig .tc := ⟨.hbm, 1182, rfl⟩
abbrev main_cst_335 : Ref sig .tc := ⟨.hbm, 1183, rfl⟩
abbrev main_v680 : Ref sig .tc := ⟨.hbm, 1184, rfl⟩
abbrev main_cst_336 : Ref sig .tc := ⟨.hbm, 1185, rfl⟩
abbrev main_v681 : Ref sig .tc := ⟨.hbm, 1186, rfl⟩
abbrev main_v682 : Ref sig .tc := ⟨.hbm, 1187, rfl⟩
abbrev main_cst_337 : Ref sig .tc := ⟨.hbm, 1188, rfl⟩
abbrev main_v683 : Ref sig .tc := ⟨.hbm, 1189, rfl⟩
abbrev main_v684 : Ref sig .tc := ⟨.hbm, 1190, rfl⟩

abbrev nD : Nat := 1
abbrev τ : Topo := Topo.v7x

variable {F : FTy → Type} [FloatOps F]
-- ==== Proof.KernelOps.lean ====
/- The kernel's body, operation by operation, as functions of its two input blocks: what one block computes.
   The body runs the same chain of operations on the two images of a pair; here the chain is written once, as a
   function of the image, and the words the frame certificate found in the output's buffer are shown to be this
   function of the two blocks (`out_A`, `out_B`). -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Value

open Idealize.ShloMosaic Idealize.ShloMosaic.TcCoe
open Cert.KernelIdeal Cert.KernelIdeal.Gen

variable {F : FTy → Type} [FloatOps F] [Named F]

/-- A plane of 528 rows and 512 columns: an image with eight rows of zeros above and below it. -/
abbrev Plane (F : FTy → Type) : Type := FVec F S528x512 .f32

/-- The plane that holds one float word everywhere. -/
abbrev word (w : BitVec 32) : Plane F := broadcast S528x512 (Scalar.ofBits .f32 w)

/-- The next column's values, zero after the last column. -/
def scp (a : Plane F) : Plane F :=
  select k0_pay4 (concatenate S528x512 1 [⟨S528x511, extractStridedSlice S528x511 ![0, 1] a slices_S528x512_o0_1_S528x511⟩,
    ⟨S528x1, extractStridedSlice S528x1 ![0, 0] a slices_S528x512_o0_0_S528x1⟩] concatenates_S528x511_S528x1_S528x512_d1)
    (word 0x00000000#32)

/-- The previous column's values, zero before the first column. -/
def scm (a : Plane F) : Plane F :=
  select k0_pay5 (concatenate S528x512 1 [⟨S528x1, extractStridedSlice S528x1 ![0, 511] a slices_S528x512_o0_511_S528x1⟩,
    ⟨S528x511, extractStridedSlice S528x511 ![0, 0] a slices_S528x512_o0_0_S528x511⟩] concatenates_S528x1_S528x511_S528x512_d1)
    (word 0x00000000#32)

/-- The next row's values; the last row reads the first. -/
def srp (a : Plane F) : Plane F :=
  concatenate S528x512 0 [⟨S527x512, extractStridedSlice S527x512 ![1, 0] a slices_S528x512_o1_0_S527x512⟩,
    ⟨S1x512, extractStridedSlice S1x512 ![0, 0] a slices_S528x512_o0_0_S1x512⟩] concatenates_S527x512_S1x512_S528x512_d0

/-- The previous row's values; the first row reads the last. -/
def srm (a : Plane F) : Plane F :=
  concatenate S528x512 0 [⟨S1x512, extractStridedSlice S1x512 ![527, 0] a slices_S528x512_o527_0_S1x512⟩,
    ⟨S527x512, extractStridedSlice S527x512 ![0, 0] a slices_S528x512_o0_0_S527x512⟩] concatenates_S1x512_S527x512_S528x512_d0

/-- The plane with zeros in the rows that are not the image's. -/
def mask (a : Plane F) : Plane F := select k0_pay6 a (word 0x00000000#32)

/-- The image between its rows of zeros. -/
def pad (v : Vec F S1x1x512x512 .f32) : Plane F := k0_pay8 v

/-- The planes of the three named weights. -/
abbrev w0 : Plane F := broadcast S528x512 (Named.named κ "g0" 0x3ECE2434#32)
@[inherit_doc w0] abbrev w1 : Plane F := broadcast S528x512 (Named.named κ "g1" 0x3E7A0FEB#32)
@[inherit_doc w0] abbrev w2 : Plane F := broadcast S528x512 (Named.named κ "g2" 0x3D5F2F87#32)

/-- The weighted sum along the columns' direction. -/
def rowBlur (p : Plane F) : Plane F :=
  addf (addf (mulf w0 p) (mulf w1 (addf (scp p) (scm p)))) (mulf w2 (addf (scp (scp p)) (scm (scm p))))

/-- The weighted sum along the rows' direction. -/
def colBlur (r : Plane F) : Plane F :=
  addf (addf (mulf w0 r) (mulf w1 (addf (srp r) (srm r)))) (mulf w2 (addf (srp (srp r)) (srm (srm r))))

/-- The blurred image. -/
def blur (p : Plane F) : Plane F := mask (colBlur (rowBlur p))

/-- The horizontal derivative. -/
def gradX (b : Plane F) : Plane F :=
  addf (addf (srp (subf (scp b) (scm b))) (mulf (word 0x40000000#32) (subf (scp b) (scm b)))) (srm (subf (scp b) (scm b)))

/-- The vertical derivative. -/
def gradY (b : Plane F) : Plane F :=
  subf (srp (addf (addf (scp b) (mulf (word 0x40000000#32) b)) (scm b)))
    (srm (addf (addf (scp b) (mulf (word 0x40000000#32) b)) (scm b)))

/-- The gradient's magnitude, zero off the image. -/
def magn (x y : Plane F) : Plane F := mask (sqrt (addf (addf (mulf x x) (mulf y y)) (word 0x2B8CBCCC#32)))

/-- Is the direction nearest to horizontal? -/
def isH (x y : Plane F) : IVec S528x512 1 := cmpf .olt (absf y) (mulf (word 0x3ED413CD#32) (absf x))

/-- Is the direction nearest to vertical? -/
def isV (x y : Plane F) : IVec S528x512 1 := cmpf .ogt (absf y) (mulf (word 0x401A827A#32) (absf x))

/-- Have the two derivatives the same sign? -/
def sameQ (x y : Plane F) : IVec S528x512 1 := cmpf .ogt (mulf x y) (word 0x00000000#32)

/-- The angle from the half turn, in degrees and without its sign. -/
def turn (x y : Plane F) : Plane F :=
  select (isH x y) (select (cmpf .ogt x (word 0x00000000#32)) (word 0x00000000#32) (word 0x43340000#32))
    (select (isV x y) (word 0x42B40000#32)
      (select (cmpf .ogt x (word 0x00000000#32)) (word 0x42340000#32) (word 0x43070000#32)))

/-- The sign of a plane's values. -/
def sgn (y : Plane F) : Plane F :=
  select (cmpf .ogt (absf y) (word 0x00000000#32))
    (select (cmpf .olt y (constant S528x512 .f32 0x00000000#32)) (constant S528x512 .f32 0xBF800000#32) (constant S528x512 .f32 0x3F800000#32)) y

/-- The rounded direction, in degrees. -/
def orient (x y : Plane F) : Plane F := addf (word 0x43340000#32) (mulf (sgn y) (turn x y))

/-- The larger magnitude of the two neighbours: horizontal, -/
def nbH (g : Plane F) : Plane F := maximumf (scp g) (scm g)
/-- vertical, -/
def nbV (g : Plane F) : Plane F := maximumf (srm g) (srp g)
/-- and on the two diagonals, chosen by whether the derivatives have the same sign. -/
def nbD (q : IVec S528x512 1) (g : Plane F) : Plane F :=
  select q (maximumf (srm (scp g)) (srp (scm g))) (maximumf (srm (scm g)) (srp (scp g)))

/-- The larger magnitude of the two neighbours along the direction. -/
def nb (x y g : Plane F) : Plane F := select (isH x y) (nbH g) (select (isV x y) (nbV g) (nbD (sameQ x y) g))

/-- The magnitude where it exceeds the neighbours', zero elsewhere. -/
def thinOf (x y g : Plane F) : Plane F := select (cmpf .ogt g (nb x y g)) g (word 0x00000000#32)

/-- The two derivatives of an image, -/
def imgX (v : Vec F S1x1x512x512 .f32) : Plane F := gradX (blur (pad v))
@[inherit_doc imgX] def imgY (v : Vec F S1x1x512x512 .f32) : Plane F := gradY (blur (pad v))
/-- its thinned edges -/
def thin (v : Vec F S1x1x512x512 .f32) : Plane F := thinOf (imgX v) (imgY v) (magn (imgX v) (imgY v))
/-- and its directions. -/
def ori (v : Vec F S1x1x512x512 .f32) : Plane F := orient (imgX v) (imgY v)

/-- The column sums of the distance between two planes' image rows. -/
def colSum (a b : Plane F) : FVec F S1x512 .f32 :=
  shapeCast S1x512 (multiReduction .add [0] S512
    (absf (subf (extractStridedSlice S512x512 ![8, 0] a slices_S528x512_o8_0_S512x512)
      (extractStridedSlice S512x512 ![8, 0] b slices_S528x512_o8_0_S512x512))) 0x00000000#32 reduces_S512x512_S512 (.inl rfl) rfl)
    shapeCasts_S512_S1x512

/-- What one pair of images contributes: the column sums of the edges' distance, then of the directions'. -/
def cur (v w : Vec F S1x1x512x512 .f32) : FVec F S2x512 .f32 :=
  concatenate S2x512 0 [⟨S1x512, colSum (thin v) (thin w)⟩, ⟨S1x512, colSum (ori v) (ori w)⟩] concatenates_S1x512_S1x512_S2x512_d0

/-! ## The printed stages are these functions -/

/-- The padded image moved one column one way -/
theorem pay9_eq (v : Vec F S1x1x512x512 .f32) : k0_pay9 v = scp (pad v) := rfl
/-- and the other. -/
theorem pay10_eq (v : Vec F S1x1x512x512 .f32) : k0_pay10 v = scm (pad v) := rfl
/-- The blur, -/
theorem blur_eq (v : Vec F S1x1x512x512 .f32) :
    k0_pay14 k0_pay6 (k0_pay11 v) (k0_pay12 v) (k0_pay13 (F := F)) = blur (pad v) := rfl
/-- its horizontal derivative, -/
theorem gradX_eq (v10 : IVec S528x512 1) (a b c : Plane F) :
    k0_pay18 k0_pay4 k0_pay5 v10 a b c = gradX (k0_pay14 v10 a b c) := rfl
/-- its vertical derivative, -/
theorem gradY_eq (v10 : IVec S528x512 1) (a b c : Plane F) :
    k0_pay20 (k0_pay17 k0_pay4 k0_pay5 v10 a b c) (k0_pay19 k0_pay4 k0_pay5 v10 a b c) = gradY (k0_pay14 v10 a b c) := rfl
/-- the magnitude, -/
theorem magn_eq (s x : Plane F) (t : FVec F S527x512 .f32) : k0_pay21 k0_pay6 s x t = magn x (k0_pay20 s t) := rfl
/-- the directions -/
theorem orient_eq (s x : Plane F) (t : FVec F S527x512 .f32) :
    k0_pay29 (k0_pay27 s x t) (k0_pay28 (F := F)) = orient x (k0_pay20 s t) := rfl
/-- and the thinned edges of the first image. -/
theorem thin_eq (s x g : Plane F) (t : FVec F S527x512 .f32) :
    k0_pay30 k0_pay4 k0_pay5 g (k0_pay24 s x t) (k0_pay25 s x t) (k0_pay26 s x t) = thinOf x (k0_pay20 s t) g := rfl
/-- The padded second image, -/
theorem pad'_eq (v : Vec F S1x1x512x512 .f32) : k0_pay31 (k0_pay7 (F := F)) v = pad v := rfl
/-- its blur, -/
theorem blur'_eq (v : Vec F S1x1x512x512 .f32) :
    k0_pay35 k0_pay4 k0_pay5 k0_pay6 (k0_pay31 (k0_pay7 (F := F)) v) (k0_pay32 k0_pay4 (k0_pay7 (F := F)) v)
      (k0_pay33 (k0_pay7 (F := F)) v) (k0_pay34 (F := F)) = blur (pad v) := rfl
/-- the blur moved one column, -/
theorem next'_eq (v10 : IVec S528x512 1) (p a b c : Plane F) :
    k0_pay36 k0_pay4 k0_pay5 v10 p a b c = scp (k0_pay35 k0_pay4 k0_pay5 v10 p a b c) := rfl
/-- the horizontal derivative, -/
theorem gradX'_eq (b : Plane F) : k0_pay38 k0_pay5 b (scp b) = gradX b := rfl
/-- the vertical derivative, -/
theorem gradY'_eq (b : Plane F) : k0_pay39 k0_pay5 b (scp b) = gradY b := rfl
/-- the magnitude, -/
theorem magn'_eq (b s : Plane F) : k0_pay40 k0_pay5 k0_pay6 b s = magn (k0_pay38 k0_pay5 b s) (k0_pay39 k0_pay5 b s) := rfl
/-- the directions, -/
theorem orient'_eq (b s : Plane F) :
    k0_pay48 (k0_pay39 k0_pay5 b s) (k0_pay43 k0_pay5 b s) (k0_pay44 k0_pay5 b s) (k0_pay45 k0_pay5 b s)
      (Scalar.ofBits .f32 0x43340000#32) (k0_pay47 (F := F)) = orient (k0_pay38 k0_pay5 b s) (k0_pay39 k0_pay5 b s) := rfl
/-- where they are horizontal, -/
theorem isH'_eq (b s : Plane F) : k0_pay43 k0_pay5 b s = isH (k0_pay38 k0_pay5 b s) (k0_pay39 k0_pay5 b s) := rfl
/-- where they are vertical, -/
theorem isV'_eq (b s : Plane F) : k0_pay44 k0_pay5 b s = isV (k0_pay38 k0_pay5 b s) (k0_pay39 k0_pay5 b s) := rfl
/-- which diagonal they lie on, -/
theorem sameQ'_eq (b s : Plane F) : k0_pay46 k0_pay5 b s = sameQ (k0_pay38 k0_pay5 b s) (k0_pay39 k0_pay5 b s) := rfl
/-- the larger horizontal neighbor, -/
theorem nbH'_eq (g : Plane F) : k0_pay51 k0_pay4 k0_pay5 g = nbH g := rfl
/-- the larger vertical neighbor -/
theorem nbV'_eq (g : Plane F) : k0_pay52 g = nbV g := rfl
/-- and the larger diagonal neighbor. -/
theorem nbD'_eq (g : Plane F) (q : IVec S528x512 1) : k0_pay53 k0_pay4 k0_pay5 g q = nbD q g := rfl

/-- The last stage, over the stages before it: the two contributions of a pair. -/
theorem cur_eq (o t o' x y g : Plane F) :
    k0_pay1 o t g (isH x y) (isV x y) o' (nbH g) (nbV g) (nbD (sameQ x y) g)
      = concatenate S2x512 0 [⟨S1x512, colSum t (thinOf x y g)⟩, ⟨S1x512, colSum o o'⟩] concatenates_S1x512_S1x512_S2x512_d0 := rfl

/-- The first image's derivatives from the printed stages, -/
theorem imgX_eq (v : Vec F S1x1x512x512 .f32) :
    k0_pay18 k0_pay4 k0_pay5 k0_pay6 (k0_pay11 v) (k0_pay12 v) (k0_pay13 (F := F)) = imgX v :=
  (gradX_eq _ _ _ _).trans (congrArg gradX (blur_eq v))
@[inherit_doc imgX_eq] theorem imgY_eq (v : Vec F S1x1x512x512 .f32) :
    k0_pay20 (k0_pay17 k0_pay4 k0_pay5 k0_pay6 (k0_pay11 v) (k0_pay12 v) (k0_pay13 (F := F)))
      (k0_pay19 k0_pay4 k0_pay5 k0_pay6 (k0_pay11 v) (k0_pay12 v) (k0_pay13 (F := F))) = imgY v :=
  (gradY_eq _ _ _ _).trans (congrArg gradY (blur_eq v))

/-- its directions, -/
theorem oriX_eq (v : Vec F S1x1x512x512 .f32) :
    k0_pay29 (k0_pay27 (k0_pay17 k0_pay4 k0_pay5 k0_pay6 (k0_pay11 v) (k0_pay12 v) (k0_pay13 (F := F)))
      (k0_pay18 k0_pay4 k0_pay5 k0_pay6 (k0_pay11 v) (k0_pay12 v) (k0_pay13 (F := F)))
      (k0_pay19 k0_pay4 k0_pay5 k0_pay6 (k0_pay11 v) (k0_pay12 v) (k0_pay13 (F := F)))) (k0_pay28 (F := F)) = ori v := by
  rw [orient_eq, imgX_eq, imgY_eq, ori]

/-- and its thinned edges. -/
theorem thinX_eq (v : Vec F S1x1x512x512 .f32) :
    k0_pay30 k0_pay4 k0_pay5
      (k0_pay21 k0_pay6 (k0_pay17 k0_pay4 k0_pay5 k0_pay6 (k0_pay11 v) (k0_pay12 v) (k0_pay13 (F := F)))
        (k0_pay18 k0_pay4 k0_pay5 k0_pay6 (k0_pay11 v) (k0_pay12 v) (k0_pay13 (F := F)))
        (k0_pay19 k0_pay4 k0_pay5 k0_pay6 (k0_pay11 v) (k0_pay12 v) (k0_pay13 (F := F))))
      (k0_pay24 (k0_pay17 k0_pay4 k0_pay5 k0_pay6 (k0_pay11 v) (k0_pay12 v) (k0_pay13 (F := F)))
        (k0_pay18 k0_pay4 k0_pay5 k0_pay6 (k0_pay11 v) (k0_pay12 v) (k0_pay13 (F := F)))
        (k0_pay19 k0_pay4 k0_pay5 k0_pay6 (k0_pay11 v) (k0_pay12 v) (k0_pay13 (F := F))))
      (k0_pay25 (k0_pay17 k0_pay4 k0_pay5 k0_pay6 (k0_pay11 v) (k0_pay12 v) (k0_pay13 (F := F)))
        (k0_pay18 k0_pay4 k0_pay5 k0_pay6 (k0_pay11 v) (k0_pay12 v) (k0_pay13 (F := F)))
        (k0_pay19 k0_pay4 k0_pay5 k0_pay6 (k0_pay11 v) (k0_pay12 v) (k0_pay13 (F := F))))
      (k0_pay26 (k0_pay17 k0_pay4 k0_pay5 k0_pay6 (k0_pay11 v) (k0_pay12 v) (k0_pay13 (F := F)))
        (k0_pay18 k0_pay4 k0_pay5 k0_pay6 (k0_pay11 v) (k0_pay12 v) (k0_pay13 (F := F)))
        (k0_pay19 k0_pay4 k0_pay5 k0_pay6 (k0_pay11 v) (k0_pay12 v) (k0_pay13 (F := F)))) = thin v := by
  rw [thin_eq, magn_eq, imgX_eq, imgY_eq, thin]

/-- The second image's stages start from its blurred plane `b`; the last stage of the body over them and over the first
    image's two planes. -/
theorem pay1_eq (t o b : Plane F) :
    k0_pay1 o t (k0_pay40 k0_pay5 k0_pay6 b (scp b)) (k0_pay43 k0_pay5 b (scp b)) (k0_pay44 k0_pay5 b (scp b))
      (k0_pay48 (k0_pay39 k0_pay5 b (scp b)) (k0_pay43 k0_pay5 b (scp b)) (k0_pay44 k0_pay5 b (scp b)) (k0_pay45 k0_pay5 b (scp b))
        (Scalar.ofBits .f32 0x43340000#32) (k0_pay47 (F := F)))
      (k0_pay51 k0_pay4 k0_pay5 (k0_pay40 k0_pay5 k0_pay6 b (scp b))) (k0_pay52 (k0_pay40 k0_pay5 k0_pay6 b (scp b)))
      (k0_pay53 k0_pay4 k0_pay5 (k0_pay40 k0_pay5 k0_pay6 b (scp b)) (k0_pay46 k0_pay5 b (scp b)))
    = concatenate S2x512 0 [⟨S1x512, colSum t (thinOf (gradX b) (gradY b) (magn (gradX b) (gradY b)))⟩,
        ⟨S1x512, colSum o (orient (gradX b) (gradY b))⟩] concatenates_S1x512_S1x512_S2x512_d0 := by
  rw [orient'_eq, magn'_eq, isH'_eq, isV'_eq, sameQ'_eq, nbH'_eq, nbV'_eq, nbD'_eq, gradX'_eq, gradY'_eq, cur_eq]

/-- The origin of a block of three axes -/
theorem hz3 : (![0, 0, 0] : Fin 3 → Nat) = fun _ => 0 := funext fun a => by fin_cases a <;> rfl
/-- and of one of four. -/
theorem hz4 : (![0, 0, 0, 0] : Fin 4 → Nat) = fun _ => 0 := funext fun a => by fin_cases a <;> rfl

/-- A load of a whole image block reads the block. -/
theorem load_img (a : Memref sig .tc .vmem S1x1x512x512 .f32) (h : a.IsWhole) (x : Vec F S1x1x512x512 .f32) :
    View.readAt (Elt F) a.view (Rect.unit (s := S1x1x512x512) ![0, 0, 0, 0] S1x1x512x512.size inb_S1x1x512x512_S1x1x512x512_0_0_0_0).toLoadRect
      (h.unread x) = x := by
  simp only [View.readAt_eq_ld, h.read_unread, View.ld_unit_zero (S := S1x1x512x512) hz4]

/-- A load of the whole output block reads the block. -/
theorem load_out (a : Memref sig .tc .vmem S1x2x512 .f32) (h : a.IsWhole) (o : Vec F S1x2x512 .f32) :
    View.readAt (Elt F) a.view (Rect.unit (s := S1x2x512) ![0, 0, 0] S1x2x512.size inb_S1x2x512_S1x2x512_0_0_0).toLoadRect
      (h.unread o) = o := by
  simp only [View.readAt_eq_ld, h.read_unread, View.ld_unit_zero (S := S1x2x512) hz3]

/-- The later points leave what the buffer held plus the pair's contribution. -/
theorem out_B (c : Dev nD) (i : grid0.Coords) (a1 : Memref sig .tc .vmem S1x1x512x512 .f32) (h1 : a1.IsWhole)
    (a2 : Memref sig .tc .vmem S1x1x512x512 .f32) (h2 : a2.IsWhole) (a3 : Memref sig .tc .vmem S1x2x512 .f32) (h3 : a3.IsWhole)
    (hc0 : ¬cond0_0 i) (hc1 : cond0_1 i) (x y : Vec F S1x1x512x512 .f32) (o : Vec F S1x2x512 .f32) :
    out0_B_2 c i a1 h1 a2 h2 a3 h3 hc0 hc1 x y o
      = shapeCast S1x2x512 (addf (shapeCast S2x512 o shapeCasts_S1x2x512_S2x512) (cur x y)) shapeCasts_S2x512_S1x2x512 := by
  unfold out0_B_2
  rw [View.read_writes_eq_canon _ _ _ (cover0_B_2 c i a1 h1 a2 h2 a3 h3 hc0 hc1 x y o)]
  unfold kernelRun0_B
  dsimp only
  rw [View.canon_unit_zero hz3]
  have ht : kernelRun0_B.sl.r_11 c a1 h1 x = thin x := (thinX_eq _).trans (congrArg thin (load_img a1 h1 x))
  have ho : kernelRun0_B.sl.r_10 c a1 h1 x = ori x := (oriX_eq _).trans (congrArg ori (load_img a1 h1 x))
  have hb : kernelRun0_B.sl.r_15 c a2 h2 y = blur (pad y) := (blur'_eq _).trans (congrArg (fun v => blur (pad v)) (load_img a2 h2 y))
  have hs : kernelRun0_B.sl.r_16 c a2 h2 y = scp (blur (pad y)) := (next'_eq _ _ _ _ _).trans (congrArg scp hb)
  unfold k0_pay3
  dsimp only
  unfold kernelRun0_B.sl.r_26 kernelRun0_B.sl.r_25 kernelRun0_B.sl.r_24 kernelRun0_B.sl.r_23 kernelRun0_B.sl.r_22
    kernelRun0_B.sl.r_21 kernelRun0_B.sl.r_20 kernelRun0_B.sl.r_19 kernelRun0_B.sl.r_18 kernelRun0_B.sl.r_17 kernelRun0_B.sl.cst_60
  rw [ht, ho, hs, hb, pay1_eq, load_out a3 h3 o]
  rfl

/-- The first point leaves the pair's contribution. -/
theorem out_A (c : Dev nD) (i : grid0.Coords) (a1 : Memref sig .tc .vmem S1x1x512x512 .f32) (h1 : a1.IsWhole)
    (a2 : Memref sig .tc .vmem S1x1x512x512 .f32) (h2 : a2.IsWhole) (a3 : Memref sig .tc .vmem S1x2x512 .f32) (h3 : a3.IsWhole)
    (hc0 : cond0_0 i) (hc1 : ¬cond0_1 i) (x y : Vec F S1x1x512x512 .f32) :
    out0_A_2 c i a1 h1 a2 h2 a3 h3 hc0 hc1 x y = shapeCast S1x2x512 (cur x y) shapeCasts_S2x512_S1x2x512 := by
  unfold out0_A_2
  rw [View.read_writes_eq_canon _ _ _ (cover0_A_2 c i a1 h1 a2 h2 a3 h3 hc0 hc1 x y)]
  unfold kernelRun0_A
  dsimp only
  rw [View.canon_unit_zero hz3]
  have ht : kernelRun0_A.sl.r_11 c a1 h1 x = thin x := (thinX_eq _).trans (congrArg thin (load_img a1 h1 x))
  have ho : kernelRun0_A.sl.r_10 c a1 h1 x = ori x := (oriX_eq _).trans (congrArg ori (load_img a1 h1 x))
  have hb : kernelRun0_A.sl.r_15 c a2 h2 y = blur (pad y) := (blur'_eq _).trans (congrArg (fun v => blur (pad v)) (load_img a2 h2 y))
  have hs : kernelRun0_A.sl.r_16 c a2 h2 y = scp (blur (pad y)) := (next'_eq _ _ _ _ _).trans (congrArg scp hb)
  unfold k0_pay2
  dsimp only
  unfold kernelRun0_A.sl.r_26 kernelRun0_A.sl.r_25 kernelRun0_A.sl.r_24 kernelRun0_A.sl.r_23 kernelRun0_A.sl.r_22
    kernelRun0_A.sl.r_21 kernelRun0_A.sl.r_20 kernelRun0_A.sl.r_19 kernelRun0_A.sl.r_18 kernelRun0_A.sl.r_17 kernelRun0_A.sl.cst_60
  rw [ht, ho, hs, hb, pay1_eq]
  rfl

end Cert.KernelIdeal.Value

end
-- ==== Proof.PiBounds.lean ====
/- The half turn to nine digits: the Taylor sums of the exponential tell sine from cosine just below and just above a quarter of
   it. -/
module

public import Mathlib.Analysis.SpecialFunctions.Trigonometric.Arctan

@[expose] public section

noncomputable section

namespace Cert.Canny

/-- The first terms of the cosine's series -/
def cosT (a : ℝ) : ℝ := 1 - a ^ 2 / 2 + a ^ 4 / 24 - a ^ 6 / 720 + a ^ 8 / 40320 - a ^ 10 / 3628800 + a ^ 12 / 479001600
/-- and of the sine's. -/
def sinT (a : ℝ) : ℝ :=
  a - a ^ 3 / 6 + a ^ 5 / 120 - a ^ 7 / 5040 + a ^ 9 / 362880 - a ^ 11 / 39916800 + a ^ 13 / 6227020800

/-- Together they are the exponential's series on the imaginary axis. -/
theorem expT (a : ℝ) : ∑ m ∈ Finset.range 14, ((a : ℂ) * Complex.I) ^ m / (m.factorial : ℂ)
    = (cosT a : ℂ) + (sinT a : ℂ) * Complex.I := by
  have e2 : Complex.I ^ 2 = -1 := Complex.I_sq
  have e3 : Complex.I ^ 3 = -Complex.I := by rw [pow_succ, e2]; ring
  have e4 : Complex.I ^ 4 = 1 := by rw [pow_succ, e3]; linear_combination -e2
  have e5 : Complex.I ^ 5 = Complex.I := by rw [pow_succ, e4]; ring
  have e6 : Complex.I ^ 6 = -1 := by rw [pow_succ, e5]; linear_combination e2
  have e7 : Complex.I ^ 7 = -Complex.I := by rw [pow_succ, e6]; ring
  have e8 : Complex.I ^ 8 = 1 := by rw [pow_succ, e7]; linear_combination -e2
  have e9 : Complex.I ^ 9 = Complex.I := by rw [pow_succ, e8]; ring
  have e10 : Complex.I ^ 10 = -1 := by rw [pow_succ, e9]; linear_combination e2
  have e11 : Complex.I ^ 11 = -Complex.I := by rw [pow_succ, e10]; ring
  have e12 : Complex.I ^ 12 = 1 := by rw [pow_succ, e11]; linear_combination -e2
  have e13 : Complex.I ^ 13 = Complex.I := by rw [pow_succ, e12]; ring
  simp only [Finset.sum_range_succ, Finset.sum_range_zero, mul_pow, e2, e3, e4, e5, e6, e7, e8, e9, e10, e11, e12, e13,
    Nat.factorial, cosT, sinT]
  push_cast
  ring

/-- Sine and cosine are within a hundredth of a billionth of these sums. -/
theorem trig_near {a : ℝ} (h0 : 0 ≤ a) (h1 : a ≤ 1) :
    |Real.cos a - cosT a| ≤ 0.00000000002 ∧ |Real.sin a - sinT a| ≤ 0.00000000002 := by
  have hn : ‖(a : ℂ) * Complex.I‖ = a := by simp [abs_of_nonneg h0]
  have h := Complex.exp_bound (x := (a : ℂ) * Complex.I) (by rw [hn]; exact h1) (n := 14) (by norm_num)
  rw [expT, hn] at h
  have hb : a ^ 14 * ((Nat.succ 14 : ℝ) * ((Nat.factorial 14 : ℝ) * ((14 : ℕ) : ℝ))⁻¹) ≤ 0.00000000002 := by
    have : a ^ 14 ≤ 1 := pow_le_one₀ h0 h1
    norm_num [Nat.factorial]
    linarith
  have h' := h.trans hb
  have hz : Complex.exp ((a : ℂ) * Complex.I) - ((cosT a : ℂ) + (sinT a : ℂ) * Complex.I)
      = ((Real.cos a - cosT a : ℝ) : ℂ) + ((Real.sin a - sinT a : ℝ) : ℂ) * Complex.I := by
    rw [Complex.exp_mul_I]; push_cast; ring
  rw [hz] at h'
  generalize Real.cos a - cosT a = u at h' ⊢
  generalize Real.sin a - sinT a = v at h' ⊢
  constructor
  · have := (Complex.abs_re_le_norm _).trans h'
    simpa using this
  · have := (Complex.abs_im_le_norm _).trans h'
    simpa using this

/-- The half turn from below -/
theorem pi_gt : (3.14159263 : ℝ) < Real.pi := by
  obtain ⟨hc, hs⟩ := trig_near (a := 0.7853981575) (by norm_num) (by norm_num)
  by_contra hn
  have hp : Real.pi / 4 ≤ (0.7853981575 : ℝ) := by linarith
  have h2 := Real.two_le_pi
  have c := Real.cos_le_cos_of_nonneg_of_le_pi (by linarith) (by linarith) hp
  have s := Real.sin_le_sin_of_le_of_le_pi_div_two (by linarith) (by linarith) hp
  rw [Real.cos_pi_div_four] at c
  rw [Real.sin_pi_div_four] at s
  have e : cosT 0.7853981575 - sinT 0.7853981575 > 0.000000005 := by unfold cosT sinT; norm_num
  have := abs_le.mp hc
  have := abs_le.mp hs
  linarith

/-- and from above. -/
theorem pi_lt : Real.pi < (3.141592664 : ℝ) := by
  obtain ⟨hc, hs⟩ := trig_near (a := 0.785398166) (by norm_num) (by norm_num)
  by_contra hn
  have hp : (0.785398166 : ℝ) ≤ Real.pi / 4 := by linarith
  have h2 := Real.pi_le_four
  have h3 := Real.two_le_pi
  have c := Real.cos_le_cos_of_nonneg_of_le_pi (x := (0.785398166 : ℝ)) (by norm_num) (by linarith) hp
  have s := Real.sin_le_sin_of_le_of_le_pi_div_two (x := (0.785398166 : ℝ)) (by linarith) (by linarith) hp
  rw [Real.cos_pi_div_four] at c
  rw [Real.sin_pi_div_four] at s
  have e : sinT 0.785398166 - cosT 0.785398166 > 0.000000002 := by unfold cosT sinT; norm_num
  have := abs_le.mp hc
  have := abs_le.mp hs
  linarith

end Cert.Canny

end
-- ==== Proof.Bins.lean ====
/- Directions, over the real numbers: the angle of a gradient rounded to a multiple of 45 degrees, and the kernel's
   comparisons of the two derivatives' sizes that find the same multiple without the angle. -/
module

public import Idealize.ShloMosaic.PureOps.Ideal
public import proofs.«01_k».proof.Proof.PiBounds

@[expose] public section

noncomputable section

namespace Cert.Canny

open Idealize.ShloMosaic

/-- The number of degrees in a radian, as the float32 word both texts round it to. -/
def DEG : ℝ := 15019745 / 262144
/-- The slopes the kernel compares with, -/
def T1 : ℝ := 13898701 / 33554432
@[inherit_doc T1] def T2 : ℝ := 5062973 / 2097152
/-- and the float32 neighbours of these that bound the slopes left out. -/
def B1 : ℝ := 13898700 / 33554432
@[inherit_doc B1] def A1 : ℝ := 13898703 / 33554432
@[inherit_doc B1] def B2 : ℝ := 10125945 / 4194304
@[inherit_doc B1] def A2 : ℝ := 10125947 / 4194304

/-- The angle of the point `(x, y)`. -/
def angle (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

/-- The angle from the negative half axis, counted in steps of 45 degrees. -/
def turns (x y : ℝ) : ℝ := (angle y x * DEG + 180) / 45

/-- The nearest whole number of steps. -/
def bin (x y : ℝ) : ℤ := Ideal.roundHalfEven (turns x y)

/-- A number less than half from a whole number rounds to it. -/
theorem round_near (n : ℤ) (t : ℝ) (h1 : (n : ℝ) - 1 / 2 < t) (h2 : t < n + 1 / 2) : Ideal.roundHalfEven t = n := by
  unfold Ideal.roundHalfEven
  rcases le_or_gt (n : ℝ) t with h | h
  · have hf : ⌊t⌋ = n := Int.floor_eq_iff.mpr ⟨h, by linarith⟩
    simp only [hf]
    rw [if_pos (by linarith)]
  · have hf : ⌊t⌋ = n - 1 := Int.floor_eq_iff.mpr ⟨by push_cast; linarith, by push_cast; linarith⟩
    simp only [hf]
    push_cast
    rw [if_neg (by linarith), if_pos (by linarith)]
    ring

/-- The inverse tangent grows by at least the sine of the angle between, whose tangent is `u`. -/
theorem arctan_step {a b u : ℝ} (ha : 0 ≤ a) (hab : a ≤ b) (hu : 0 < u) (hu1 : u ≤ 1) (h : u * (1 + a * b) ≤ b - a) :
    u * (1 - u ^ 2 / 2) ≤ Real.arctan b - Real.arctan a := by
  have hab0 : 0 ≤ a * b := mul_nonneg ha (ha.trans hab)
  have hadd : Real.arctan b + Real.arctan (-a) = Real.arctan ((b + -a) / (1 - b * -a)) :=
    Real.arctan_add (by nlinarith)
  rw [Real.arctan_neg] at hadd
  have hle : u ≤ (b + -a) / (1 - b * -a) := by
    rw [le_div_iff₀ (by nlinarith)]; nlinarith
  have h1 := Real.arctan_strictMono.monotone hle
  have h2 : Real.sin (Real.arctan u) ≤ Real.arctan u := by
    have p := Real.arctan_pos.mpr hu
    have l : Real.arctan u ≤ 1 := by
      have := Real.arctan_strictMono.monotone hu1
      rw [Real.arctan_one] at this
      linarith [pi_lt]
    generalize Real.arctan u = v at p l
    have := (abs_le.mp (Real.sin_bound (x := v) (by rw [abs_of_pos p]; exact l))).2
    rw [abs_of_pos p] at this
    have h3 : 0 < v ^ 3 := by positivity
    nlinarith [mul_le_mul_of_nonneg_left l h3.le]
  rw [Real.sin_arctan] at h2
  have h3 : Real.sqrt (1 + u ^ 2) ≤ 1 + u ^ 2 / 2 := by
    rw [Real.sqrt_le_left (by positivity)]; nlinarith [sq_nonneg (u ^ 2)]
  have h4 : u * (1 - u ^ 2 / 2) ≤ u / Real.sqrt (1 + u ^ 2) := by
    rw [le_div_iff₀ (Real.sqrt_pos.mpr (by positivity))]
    have h5 : (1 - u ^ 2 / 2) * Real.sqrt (1 + u ^ 2) ≤ 1 := by
      have : 0 ≤ 1 - u ^ 2 / 2 := by nlinarith
      nlinarith [mul_le_mul_of_nonneg_left h3 this, sq_nonneg (u ^ 2)]
    nlinarith
  linarith

/-- √2 from below, -/
theorem sqrt2_gt : (1.41421356237 : ℝ) < Real.sqrt 2 := Real.lt_sqrt_of_sq_lt (by norm_num)
/-- from above, -/
theorem sqrt2_lt : Real.sqrt 2 < (1.41421356238 : ℝ) := by
  rw [Real.sqrt_lt' (by norm_num)]; norm_num
/-- and squared. -/
theorem sqrt2_sq : Real.sqrt 2 * Real.sqrt 2 = 2 := Real.mul_self_sqrt (by norm_num)

/-- An eighth of a half turn has the tangent `√2 - 1`, -/
theorem arctan_lo : Real.arctan (Real.sqrt 2 - 1) = Real.pi / 8 := by
  have h1 : Real.arctan (Real.sqrt 2 - 1) + Real.arctan (Real.sqrt 2 - 1) = Real.arctan 1 := by
    rw [Real.arctan_add]
    · congr 1
      have h := sqrt2_sq
      have hne : 1 - (Real.sqrt 2 - 1) * (Real.sqrt 2 - 1) ≠ 0 := by nlinarith [sqrt2_gt]
      rw [div_eq_one_iff_eq hne]; nlinarith
    · nlinarith [sqrt2_sq, sqrt2_gt]
  rw [Real.arctan_one] at h1
  linarith

/-- and three eighths the tangent `√2 + 1`. -/
theorem arctan_hi : Real.arctan (Real.sqrt 2 + 1) = 3 * Real.pi / 8 := by
  have h := Real.arctan_inv_of_pos (x := Real.sqrt 2 - 1) (by linarith [sqrt2_gt])
  rw [arctan_lo] at h
  have : (Real.sqrt 2 - 1)⁻¹ = Real.sqrt 2 + 1 := by
    apply inv_eq_of_mul_eq_one_right
    nlinarith [sqrt2_sq]
  rw [this] at h
  linarith

/-- How far the steps of a half turn lie above four, the degrees' word being rounded. -/
def DEL : ℝ := Real.pi * (DEG / 45) - 4

/-- The rounding of the word for degrees makes the angle a little too large, -/
theorem DEL_pos : 0 < DEL := by unfold DEL DEG; nlinarith [pi_gt]
/-- by less than this. -/
theorem DEL_lt : DEL < 0.00000006 := by unfold DEL DEG; nlinarith [pi_lt]

/-- Slopes up to the lower bound are less than half a step from the axis. -/
theorem below1 {q : ℝ} (h : q ≤ B1) : Real.arctan q * (DEG / 45) < 1 / 2 := by
  have h1 := Real.arctan_strictMono.monotone h
  have h2 := arctan_step (a := B1) (b := Real.sqrt 2 - 1) (u := 0.0000000206) (by unfold B1; norm_num) (by unfold B1; linarith [sqrt2_gt]) (by norm_num) (by norm_num)
    (by unfold B1; nlinarith [sqrt2_gt, sqrt2_lt])
  rw [arctan_lo] at h2
  norm_num at h2
  have hD : (0 : ℝ) < DEG / 45 := by unfold DEG; norm_num
  have h4 : Real.arctan q ≤ Real.pi / 8 - 0.0000000205 := by linarith
  have h5 := mul_le_mul_of_nonneg_right h4 hD.le
  have h6 := DEL_lt
  unfold DEL at h6
  have h7 : (0.0000000205 : ℝ) * (DEG / 45) ≥ 0.000000026 := by unfold DEG; norm_num
  nlinarith

/-- Slopes from the upper bound on are more than half a step from the axis, with `DEL` to spare. -/
theorem above1 {q : ℝ} (h : A1 ≤ q) : 1 / 2 < Real.arctan q * (DEG / 45) - DEL := by
  have h1 := Real.arctan_strictMono.monotone h
  have h2 := arctan_step (a := Real.sqrt 2 - 1) (b := A1) (u := 0.0000000555) (by linarith [sqrt2_gt]) (by unfold A1; linarith [sqrt2_lt]) (by norm_num) (by norm_num)
    (by unfold A1; nlinarith [sqrt2_gt, sqrt2_lt])
  rw [arctan_lo] at h2
  norm_num at h2
  have hD : (0 : ℝ) < DEG / 45 := by unfold DEG; norm_num
  have h4 : Real.pi / 8 + 0.000000055 ≤ Real.arctan q := by linarith
  have h5 := mul_le_mul_of_nonneg_right h4 hD.le
  have h6 := DEL_lt
  have h8 : Real.pi * (DEG / 45) = 4 + DEL := by unfold DEL; ring
  have h7 : (0.000000055 : ℝ) * (DEG / 45) ≥ 0.00000007 := by unfold DEG; norm_num
  nlinarith

/-- The same at one and a half steps, below -/
theorem below2 {q : ℝ} (h : q ≤ B2) : Real.arctan q * (DEG / 45) < 3 / 2 := by
  have h1 := Real.arctan_strictMono.monotone h
  have h2 := arctan_step (a := B2) (b := Real.sqrt 2 + 1) (u := 0.00000002097) (by unfold B2; norm_num) (by unfold B2; linarith [sqrt2_gt]) (by norm_num) (by norm_num)
    (by unfold B2; nlinarith [sqrt2_gt, sqrt2_lt])
  rw [arctan_hi] at h2
  norm_num at h2
  have hD : (0 : ℝ) < DEG / 45 := by unfold DEG; norm_num
  have h4 : Real.arctan q ≤ 3 * Real.pi / 8 - 0.0000000209 := by linarith
  have h5 := mul_le_mul_of_nonneg_right h4 hD.le
  have h6 := DEL_lt
  have h8 : Real.pi * (DEG / 45) = 4 + DEL := by unfold DEL; ring
  have h7 : (0.0000000209 : ℝ) * (DEG / 45) ≥ 0.0000000266 := by unfold DEG; norm_num
  nlinarith

/-- and above. -/
theorem above2 {q : ℝ} (h : A2 ≤ q) : 3 / 2 < Real.arctan q * (DEG / 45) - DEL := by
  have h1 := Real.arctan_strictMono.monotone h
  have h2 := arctan_step (a := Real.sqrt 2 + 1) (b := A2) (u := 0.000000048) (by linarith [sqrt2_gt]) (by unfold A2; linarith [sqrt2_lt]) (by norm_num) (by norm_num)
    (by unfold A2; nlinarith [sqrt2_gt, sqrt2_lt])
  rw [arctan_hi] at h2
  norm_num at h2
  have hD : (0 : ℝ) < DEG / 45 := by unfold DEG; norm_num
  have h4 : 3 * Real.pi / 8 + 0.0000000479 ≤ Real.arctan q := by linarith
  have h5 := mul_le_mul_of_nonneg_right h4 hD.le
  have h6 := DEL_lt
  have h8 : Real.pi * (DEG / 45) = 4 + DEL := by unfold DEL; ring
  have h7 : (0.0000000479 : ℝ) * (DEG / 45) ≥ 0.00000006 := by unfold DEG; norm_num
  nlinarith

/-- A slope's angle is from zero to two steps and half of `DEL`. -/
theorem arctan_range {q : ℝ} (h : 0 ≤ q) :
    0 ≤ Real.arctan q * (DEG / 45) ∧ Real.arctan q * (DEG / 45) < 2 + DEL / 2 := by
  have hD : (0 : ℝ) < DEG / 45 := by unfold DEG; norm_num
  refine ⟨mul_nonneg (Real.arctan_nonneg.mpr h) hD.le, ?_⟩
  have h5 := mul_lt_mul_of_pos_right (Real.arctan_lt_pi_div_two q) hD
  have h8 : Real.pi * (DEG / 45) = 4 + DEL := by unfold DEL; ring
  nlinarith

/-! ## The kernel's direction and class -/

/-- Nearest to horizontal, as the kernel decides it; -/
def isHor (x y : ℝ) : Prop := |y| < T1 * |x|
/-- nearest to vertical. -/
def isVer (x y : ℝ) : Prop := T2 * |x| < |y|

open Classical in
/-- The kernel's unsigned turn from the half turn, in degrees. -/
def turnR (x y : ℝ) : ℝ :=
  if isHor x y then (if 0 < x then 0 else 180) else if isVer x y then 90 else if 0 < x then 45 else 135

open Classical in
/-- The kernel's direction in degrees. -/
def oriR (x y : ℝ) : ℝ := 180 + (if 0 < |y| then (if y < 0 then -1 else 1) else y) * turnR x y

open Classical in
/-- The kernel's class of neighbours: horizontal 0, rising diagonal 1, vertical 2, falling diagonal 3. -/
def clsR (x y : ℝ) : ℤ := if isHor x y then 0 else if isVer x y then 2 else if 0 < x * y then 1 else 3

/-- The gradients both texts treat alike: a slope off the narrow bands about the two bounds, and either a vertical part, or
    a direction to the right, or no gradient at all, the last at no `corner`. -/
structure Decided (corner : Prop) (x y : ℝ) : Prop where
  first : |y| ≤ B1 * |x| ∨ A1 * |x| ≤ |y|
  second : |y| ≤ B2 * |x| ∨ A2 * |x| ≤ |y|
  third : y ≠ 0 ∨ 0 < x ∨ (x = 0 ∧ ¬corner)

/-- A gradient that is not zero is of one of three kinds, by its slope; the fourth has no horizontal part. -/
theorem kinds {x y : ℝ} {corner : Prop} (h : Decided corner x y) (hx : x ≠ 0) :
    (isHor x y ∧ Real.arctan (|y| / |x|) * (DEG / 45) < 1 / 2)
    ∨ (¬isHor x y ∧ ¬isVer x y ∧ 1 / 2 < Real.arctan (|y| / |x|) * (DEG / 45) - DEL ∧ Real.arctan (|y| / |x|) * (DEG / 45) < 3 / 2)
    ∨ (¬isHor x y ∧ isVer x y ∧ 3 / 2 < Real.arctan (|y| / |x|) * (DEG / 45) - DEL) := by
  have hp : 0 < |x| := abs_pos.mpr hx
  unfold isHor isVer
  rcases h.first with h1 | h1
  · left
    refine ⟨?_, below1 (by rwa [div_le_iff₀ hp])⟩
    have : B1 < T1 := by unfold B1 T1; norm_num
    nlinarith
  · have hH : ¬|y| < T1 * |x| := by
      have : T1 < A1 := by unfold A1 T1; norm_num
      nlinarith
    rcases h.second with h2 | h2
    · right; left
      refine ⟨hH, ?_, above1 (by rwa [le_div_iff₀ hp]), below2 (by rwa [div_le_iff₀ hp])⟩
      have : B2 < T2 := by unfold B2 T2; norm_num
      nlinarith
    · right; right
      refine ⟨hH, ?_, above2 (by rwa [le_div_iff₀ hp])⟩
      have : T2 < A2 := by unfold A2 T2; norm_num
      nlinarith

/-- The steps of each quadrant's angle, from the slope's. -/
theorem turns_eq (x y : ℝ) : turns x y =
    if 0 < x then (if 0 ≤ y then 4 + Real.arctan (|y| / |x|) * (DEG / 45) else 4 - Real.arctan (|y| / |x|) * (DEG / 45))
    else if x < 0 then (if 0 ≤ y then 8 + DEL - Real.arctan (|y| / |x|) * (DEG / 45)
      else Real.arctan (|y| / |x|) * (DEG / 45) - DEL)
    else if 0 < y then 6 + DEL / 2 else if y < 0 then 2 - DEL / 2 else 4 := by
  have h8 : Real.pi * (DEG / 45) = 4 + DEL := by unfold DEL; ring
  unfold turns angle
  split_ifs with a b c d e f
  · rw [abs_of_pos a, abs_of_nonneg b]; ring
  · rw [abs_of_pos a, abs_of_neg (not_le.mp b), neg_div, Real.arctan_neg]; ring
  · rw [abs_of_neg c, abs_of_nonneg d, div_neg, Real.arctan_neg]; linear_combination h8
  · rw [abs_of_neg c, abs_of_neg (not_le.mp d), neg_div_neg_eq]; linear_combination -h8
  · linear_combination h8 / 2
  · linear_combination -h8 / 2
  · ring

/-- Off the excluded gradients the nearest number of steps is the kernel's direction, and its class is the kernel's. -/
theorem bin_spec {x y : ℝ} {corner : Prop} (h : Decided corner x y) (h0 : x ≠ 0 ∨ y ≠ 0) :
    (0 ≤ bin x y ∧ bin x y ≤ 8) ∧ ((bin x y : ℤ) : ℝ) * 45 = oriR x y ∧ bin x y % 4 = clsR x y := by
  have hd := DEL_pos
  have hd' := DEL_lt
  have key : ∀ n : ℤ, (n : ℝ) - 1 / 2 < turns x y → turns x y < n + 1 / 2 → 0 ≤ n → n ≤ 8 → (n : ℝ) * 45 = oriR x y →
      n % 4 = clsR x y → (0 ≤ bin x y ∧ bin x y ≤ 8) ∧ ((bin x y : ℤ) : ℝ) * 45 = oriR x y ∧ bin x y % 4 = clsR x y := by
    intro n h1 h2 h3 h4 h5 h6
    have : bin x y = n := round_near n _ h1 h2
    rw [this]
    exact ⟨⟨h3, h4⟩, h5, h6⟩
  rw [turns_eq] at key
  by_cases hx : x = 0
  · subst hx
    have hy : y ≠ 0 := h0.resolve_left (by simp)
    have hH : ¬isHor 0 y := by unfold isHor; simp
    have hV : isVer 0 y := by unfold isVer; simp [hy]
    rcases lt_or_gt_of_ne hy with hn | hn
    · refine key 2 ?_ ?_ (by norm_num) (by norm_num) ?_ ?_
      · simp [hn, hn.not_gt]; linarith
      · simp [hn, hn.not_gt]; linarith
      · simp [oriR, turnR, hH, hV, hn, hy]; norm_num
      · simp [clsR, hH, hV]
    · refine key 6 ?_ ?_ (by norm_num) (by norm_num) ?_ ?_
      · simp [hn]; linarith
      · simp [hn]; linarith
      · simp [oriR, turnR, hH, hV, hn.not_gt, hy]; norm_num
      · simp [clsR, hH, hV]
  · obtain ⟨hr0, hr2⟩ := arctan_range (q := |y| / |x|) (by positivity)
    have hk := kinds h hx
    generalize Real.arctan (|y| / |x|) * (DEG / 45) = α at key hk hr0 hr2
    rcases lt_or_gt_of_ne hx with hxn | hxp
    · have hy : y ≠ 0 := by
        rcases h.third with h | h | h
        · exact h
        · exact absurd h hxn.not_gt
        · exact absurd h.1 hx
      rcases lt_or_gt_of_ne hy with hn | hn
      · have hm : 0 < x * y := mul_pos_of_neg_of_neg hxn hn
        simp only [hxn.not_gt, hxn, if_true, if_false, hn.not_ge] at key
        rcases hk with ⟨hH, h1⟩ | ⟨hH, hV, h1, h2⟩ | ⟨hH, hV, h1⟩
        · refine key 0 ?_ ?_ (by norm_num) (by norm_num) ?_ ?_
          · push_cast; linarith
          · push_cast; linarith
          · simp [oriR, turnR, hH, hn, hy, hxn.not_gt]
          · simp [clsR, hH]
        · refine key 1 ?_ ?_ (by norm_num) (by norm_num) ?_ ?_
          · push_cast; linarith
          · push_cast; linarith
          · simp [oriR, turnR, hH, hV, hn, hy, hxn.not_gt]; norm_num
          · simp [clsR, hH, hV, hm]
        · refine key 2 ?_ ?_ (by norm_num) (by norm_num) ?_ ?_
          · push_cast; linarith
          · push_cast; linarith
          · simp [oriR, turnR, hH, hV, hn, hy, hxn.not_gt]; norm_num
          · simp [clsR, hH, hV]
      · have hm : ¬0 < x * y := not_lt.mpr (mul_nonpos_of_nonpos_of_nonneg hxn.le hn.le)
        simp only [hxn.not_gt, hxn, if_true, if_false, hn.le] at key
        rcases hk with ⟨hH, h1⟩ | ⟨hH, hV, h1, h2⟩ | ⟨hH, hV, h1⟩
        · refine key 8 ?_ ?_ (by norm_num) (by norm_num) ?_ ?_
          · push_cast; linarith
          · push_cast; linarith
          · simp [oriR, turnR, hH, hn.not_gt, hy, hxn.not_gt]; norm_num
          · simp [clsR, hH]
        · refine key 7 ?_ ?_ (by norm_num) (by norm_num) ?_ ?_
          · push_cast; linarith
          · push_cast; linarith
          · simp [oriR, turnR, hH, hV, hn.not_gt, hy, hxn.not_gt]; norm_num
          · simp [clsR, hH, hV, hm]
        · refine key 6 ?_ ?_ (by norm_num) (by norm_num) ?_ ?_
          · push_cast; linarith
          · push_cast; linarith
          · simp [oriR, turnR, hH, hV, hn.not_gt, hy, hxn.not_gt]; norm_num
          · simp [clsR, hH, hV]
    · rcases lt_or_ge y 0 with hn | hn
      · have hm : ¬0 < x * y := not_lt.mpr (mul_nonpos_of_nonneg_of_nonpos hxp.le hn.le)
        simp only [hxp, if_true, if_false, hn.not_ge] at key
        rcases hk with ⟨hH, h1⟩ | ⟨hH, hV, h1, h2⟩ | ⟨hH, hV, h1⟩
        · refine key 4 ?_ ?_ (by norm_num) (by norm_num) ?_ ?_
          · push_cast; linarith
          · push_cast; linarith
          · simp [oriR, turnR, hH, hn, hn.ne, hxp]; norm_num
          · simp [clsR, hH]
        · refine key 3 ?_ ?_ (by norm_num) (by norm_num) ?_ ?_
          · push_cast; linarith
          · push_cast; linarith
          · simp [oriR, turnR, hH, hV, hn, hn.ne, hxp]; norm_num
          · simp [clsR, hH, hV, hm]
        · refine key 2 ?_ ?_ (by norm_num) (by norm_num) ?_ ?_
          · push_cast; linarith
          · push_cast; linarith
          · simp [oriR, turnR, hH, hV, hn, hn.ne, hxp]; norm_num
          · simp [clsR, hH, hV]
      · simp only [hxp, if_true, hn] at key
        rcases hk with ⟨hH, h1⟩ | ⟨hH, hV, h1, h2⟩ | ⟨hH, hV, h1⟩
        · refine key 4 ?_ ?_ (by norm_num) (by norm_num) ?_ ?_
          · push_cast; linarith
          · push_cast; linarith
          · simp [oriR, turnR, hH, hxp]; norm_num
          · simp [clsR, hH]
        · have hy : y ≠ 0 := by rintro rfl; simp [isHor, T1, hx] at hH
          have hp : 0 < y := lt_of_le_of_ne hn (Ne.symm hy)
          refine key 5 ?_ ?_ (by norm_num) (by norm_num) ?_ ?_
          · push_cast; linarith
          · push_cast; linarith
          · simp [oriR, turnR, hH, hV, hy, hp.not_gt, hxp]; norm_num
          · simp [clsR, hH, hV, mul_pos hxp hp]
        · have hy : y ≠ 0 := by rintro rfl; simp [isHor, T1, hx] at hH
          have hp : 0 < y := lt_of_le_of_ne hn (Ne.symm hy)
          refine key 6 ?_ ?_ (by norm_num) (by norm_num) ?_ ?_
          · push_cast; linarith
          · push_cast; linarith
          · simp [oriR, turnR, hH, hV, hy, hp.not_gt, hxp]; norm_num
          · simp [clsR, hH, hV]

/-- Where there is no gradient the number of steps is four, -/
theorem bin_zero : bin 0 0 = 4 := by
  apply round_near
  · rw [turns_eq]; norm_num
  · rw [turns_eq]; norm_num

/-- and the kernel's direction is the same half turn. -/
theorem oriR_zero : oriR 0 0 = 180 := by simp [oriR]

end Cert.Canny

end
-- ==== Proof.Model.lean ====
/- The edge detector over the real numbers: images are functions on all the integers' pairs, zero off the 512 by 512 image.
   The kernel's way of thinning and the reference's are both written here, and shown to agree. -/
module

public import proofs.«01_k».proof.Proof.Bins

@[expose] public section

noncomputable section

namespace Cert.Canny

/-- An image of real numbers. -/
abbrev Img : Type := ℤ → ℤ → ℝ

/-- The three weights of the blur, at the centre, one away and two away. -/
def G0 : ℝ := 3626478085609723 / 9007199254740992
@[inherit_doc G0] def G1 : ℝ := 8798280582793093 / 36028797018963968
@[inherit_doc G0] def G2 : ℝ := 3926323510938887 / 72057594037927936
/-- The small number under the square root. -/
def EPS : ℝ := 2305843 / 2305843009213693952

/-- The pixels of the image. -/
def inside (r c : ℤ) : Prop := 0 ≤ r ∧ r < 512 ∧ 0 ≤ c ∧ c < 512

/-- It can be decided. -/
instance (r c : ℤ) : Decidable (inside r c) := by unfold inside; infer_instance

/-- The image with zeros off its pixels. -/
def clip (f : Img) : Img := fun r c => if inside r c then f r c else 0

/-- Clipping keeps what is inside -/
theorem clip_in (f : Img) {r c : ℤ} (h : inside r c) : clip f r c = f r c := if_pos h
/-- and zeroes what is outside. -/
theorem clip_out (f : Img) {r c : ℤ} (h : ¬inside r c) : clip f r c = 0 := if_neg h

/-- An image is clipped if it is zero off its pixels. -/
def Clipped (f : Img) : Prop := ∀ r c, ¬inside r c → f r c = 0

/-- So a clipped image is zero outside. -/
theorem clip_clipped (f : Img) : Clipped (clip f) := fun _ _ h => clip_out f h

/-- The weighted sum along a row -/
def rowB (f : Img) : Img := fun r c => G0 * f r c + G1 * (f r (c + 1) + f r (c - 1)) + G2 * (f r (c + 2) + f r (c - 2))
/-- and along a column. -/
def colB (f : Img) : Img := fun r c => G0 * f r c + G1 * (f (r + 1) c + f (r - 1) c) + G2 * (f (r + 2) c + f (r - 2) c)
/-- The blurred image. -/
def blur (f : Img) : Img := clip (colB (rowB f))
/-- The horizontal derivative -/
def gradX (b : Img) : Img := fun r c =>
  (b (r + 1) (c + 1) - b (r + 1) (c - 1)) + 2 * (b r (c + 1) - b r (c - 1)) + (b (r - 1) (c + 1) - b (r - 1) (c - 1))
/-- and the vertical one. -/
def gradY (b : Img) : Img := fun r c =>
  (b (r + 1) (c + 1) + 2 * b (r + 1) c + b (r + 1) (c - 1)) - (b (r - 1) (c + 1) + 2 * b (r - 1) c + b (r - 1) (c - 1))
/-- The magnitude. -/
def mag (x y : Img) : Img := clip fun r c => Real.sqrt (x r c * x r c + y r c * y r c + EPS)

/-- The larger of the two neighbours of class `k`. -/
def nb (g : Img) (k : ℤ) (r c : ℤ) : ℝ :=
  if k = 0 then max (g r (c + 1)) (g r (c - 1))
  else if k = 2 then max (g (r - 1) c) (g (r + 1) c)
  else if k = 1 then max (g (r - 1) (c + 1)) (g (r + 1) (c - 1))
  else max (g (r - 1) (c - 1)) (g (r + 1) (c + 1))

open Classical in
/-- The magnitude where it exceeds the two neighbours' of its class, as the kernel thins. -/
def thinK (x y g : Img) : Img := fun r c => if nb g (clsR (x r c) (y r c)) r c < g r c then g r c else 0

/-- The row and column steps to the eight neighbours. -/
def dr : Fin 8 → ℤ := ![0, -1, -1, -1, 0, 1, 1, 1]
@[inherit_doc dr] def dc : Fin 8 → ℤ := ![1, 1, 0, -1, -1, -1, 0, 1]

/-- The difference from a neighbour. -/
def diff (g : Img) (i : Fin 8) : Img := fun r c => g r c - g (r + dr i) (c + dc i)

open Classical in
/-- The magnitude times the test of both differences, as the reference thins, for the direction `i`. -/
def thinR (g : Img) (i : Fin 8) (r c : ℤ) : ℝ :=
  g r c * (if 0 < min (diff g i r c) (diff g (i + 4) r c) then 1 else 0)

/-- Both differences from opposite neighbours are positive where the larger neighbour of their class is smaller. -/
theorem pair_iff (g : Img) (i : Fin 8) (r c : ℤ) :
    0 < min (diff g i r c) (diff g (i + 4) r c) ↔ nb g ((i.val : ℤ) % 4) r c < g r c := by
  rw [lt_min_iff]
  fin_cases i <;> simp [diff, nb, dr, dc, ← sub_eq_add_neg] <;> tauto

/-- The two corners whose falling diagonal leaves the image on both sides. -/
def corner (r c : ℤ) : Prop := (r = 0 ∧ c = 511) ∨ (r = 511 ∧ c = 0)

/-- The magnitude inside the image is bounded below. -/
theorem mag_ge (x y : Img) {r c : ℤ} (h : inside r c) : Real.sqrt EPS ≤ mag x y r c := by
  unfold mag
  rw [clip_in _ h]
  apply Real.sqrt_le_sqrt
  nlinarith [mul_self_nonneg (x r c), mul_self_nonneg (y r c)]

/-- A magnitude where there is no gradient exceeds no neighbour's. -/
theorem not_nb_lt (x y : Img) {r c r' c' : ℤ} (h : inside r c) (hx : x r c = 0) (hy : y r c = 0) (h' : inside r' c') :
    mag x y r c ≤ mag x y r' c' := by
  refine le_trans (le_of_eq ?_) (mag_ge x y h')
  unfold mag
  rw [clip_in _ h, hx, hy]
  simp

/-- The two ways of thinning agree at the gradients of `Decided`. -/
theorem thin_agree (x y : Img) {r c : ℤ} (h : inside r c) (hd : Decided (corner r c) (x r c) (y r c)) (i : Fin 8)
    (hi : (i.val : ℤ) = bin (x r c) (y r c) % 8) : thinR (mag x y) i r c = thinK x y (mag x y) r c := by
  unfold thinR thinK
  simp only [pair_iff]
  by_cases h0 : x r c ≠ 0 ∨ y r c ≠ 0
  · obtain ⟨-, -, hc⟩ := bin_spec hd h0
    have : (i.val : ℤ) % 4 = clsR (x r c) (y r c) := by rw [hi, ← hc]; omega
    rw [this]
    split_ifs <;> simp
  · push Not at h0
    obtain ⟨hx, hy⟩ := h0
    have hnc : ¬corner r c := by
      rcases hd.third with h | h | h
      · exact absurd hy h
      · rw [hx] at h; exact absurd h (lt_irrefl _)
      · exact h.2
    have hi4 : (i.val : ℤ) % 4 = 0 := by rw [hi, hx, hy, bin_zero]; norm_num
    have hcl : clsR (x r c) (y r c) = 3 := by rw [hx, hy]; simp [clsR, isHor, isVer]
    have h' := h
    unfold inside at h'
    rw [if_neg, if_neg, mul_zero]
    · rw [hcl, not_lt]
      simp only [nb]
      norm_num
      by_cases hr : inside (r - 1) (c - 1)
      · left; exact not_nb_lt x y h hx hy hr
      · right
        apply not_nb_lt x y h hx hy
        unfold inside at hr ⊢
        unfold corner at hnc
        omega
    · rw [hi4, not_lt]
      simp only [nb, if_true, le_max_iff]
      by_cases hr : inside r (c + 1)
      · left; exact not_nb_lt x y h hx hy hr
      · right
        apply not_nb_lt x y h hx hy
        unfold inside at hr ⊢
        omega

/-- The two directions agree there. -/
theorem ori_agree {x y : ℝ} {k : Prop} (hd : Decided k x y) : ((bin x y : ℤ) : ℝ) * 45 = oriR x y := by
  by_cases h0 : x ≠ 0 ∨ y ≠ 0
  · exact (bin_spec hd h0).2.1
  · push Not at h0
    rw [h0.1, h0.2, bin_zero, oriR_zero]
    norm_num

/-- The number of steps is from 0 to 8. -/
theorem bin_range {x y : ℝ} {k : Prop} (hd : Decided k x y) : 0 ≤ bin x y ∧ bin x y ≤ 8 := by
  by_cases h0 : x ≠ 0 ∨ y ≠ 0
  · exact (bin_spec hd h0).1
  · push Not at h0
    rw [h0.1, h0.2, bin_zero]
    norm_num

end Cert.Canny

end
-- ==== Proof.Consts.lean ====
/- What the float words of the two texts are worth over the real numbers. -/
module

public import proofs.«01_k».proof.Proof.Gen.KernelIdeal.Frame
public import proofs.«01_k».proof.Proof.Model
public import Idealize.ShloMosaic.PureOps.Ideal
public import Idealize.ShloMosaic.PureOps.IdealRules

@[expose] public section

noncomputable section

namespace Cert.Canny

open Idealize.ShloMosaic

/-- The word of 2. -/
theorem lit_two : Ideal.ofBits .f32 0x40000000#32 = (((2 : ℝ)) : EReal) := by
  simp [Ideal.ofBits, Ideal.ieee, -EReal.coe_mul]; norm_num

/-- The word of -2. -/
theorem lit_negtwo : Ideal.ofBits .f32 0xC0000000#32 = (((-2 : ℝ)) : EReal) := by
  simp [Ideal.ofBits, Ideal.ieee, -EReal.coe_mul]; norm_num

/-- The word of -1. -/
theorem lit_negone : Ideal.ofBits .f32 0xBF800000#32 = (((-1 : ℝ)) : EReal) := by
  simp [Ideal.ofBits, Ideal.ieee, -EReal.coe_mul]; norm_num

/-- The word of EPS. -/
theorem lit_eps : Ideal.ofBits .f32 0x2B8CBCCC#32 = (((EPS : ℝ)) : EReal) := by
  unfold EPS; simp [Ideal.ofBits, Ideal.ieee, -EReal.coe_mul]; norm_num

/-- The word of T1. -/
theorem lit_t1 : Ideal.ofBits .f32 0x3ED413CD#32 = (((T1 : ℝ)) : EReal) := by
  unfold T1; simp [Ideal.ofBits, Ideal.ieee, -EReal.coe_mul]; norm_num

/-- The word of T2. -/
theorem lit_t2 : Ideal.ofBits .f32 0x401A827A#32 = (((T2 : ℝ)) : EReal) := by
  unfold T2; simp [Ideal.ofBits, Ideal.ieee, -EReal.coe_mul]; norm_num

/-- The word of B1. -/
theorem lit_b1 : Ideal.ofBits .f32 0x3ED413CC#32 = (((B1 : ℝ)) : EReal) := by
  unfold B1; simp [Ideal.ofBits, Ideal.ieee, -EReal.coe_mul]; norm_num

/-- The word of A1. -/
theorem lit_a1 : Ideal.ofBits .f32 0x3ED413CF#32 = (((A1 : ℝ)) : EReal) := by
  unfold A1; simp [Ideal.ofBits, Ideal.ieee, -EReal.coe_mul]; norm_num

/-- The word of B2. -/
theorem lit_b2 : Ideal.ofBits .f32 0x401A8279#32 = (((B2 : ℝ)) : EReal) := by
  unfold B2; simp [Ideal.ofBits, Ideal.ieee, -EReal.coe_mul]; norm_num

/-- The word of A2. -/
theorem lit_a2 : Ideal.ofBits .f32 0x401A827B#32 = (((A2 : ℝ)) : EReal) := by
  unfold A2; simp [Ideal.ofBits, Ideal.ieee, -EReal.coe_mul]; norm_num

/-- The word of 180. -/
theorem lit_h180 : Ideal.ofBits .f32 0x43340000#32 = (((180 : ℝ)) : EReal) := by
  simp [Ideal.ofBits, Ideal.ieee, -EReal.coe_mul]; norm_num

/-- The word of 45. -/
theorem lit_h45 : Ideal.ofBits .f32 0x42340000#32 = (((45 : ℝ)) : EReal) := by
  simp [Ideal.ofBits, Ideal.ieee, -EReal.coe_mul]; norm_num

/-- The word of 135. -/
theorem lit_h135 : Ideal.ofBits .f32 0x43070000#32 = (((135 : ℝ)) : EReal) := by
  simp [Ideal.ofBits, Ideal.ieee, -EReal.coe_mul]; norm_num

/-- The word of 90. -/
theorem lit_h90 : Ideal.ofBits .f32 0x42B40000#32 = (((90 : ℝ)) : EReal) := by
  simp [Ideal.ofBits, Ideal.ieee, -EReal.coe_mul]; norm_num

/-- The word of 262144. -/
theorem lit_count : Ideal.ofBits .f32 0x48800000#32 = (((262144 : ℝ)) : EReal) := by
  simp [Ideal.ofBits, Ideal.ieee, -EReal.coe_mul]; norm_num

/-- The word of DEG. -/
theorem lit_deg : Ideal.ofBits .f32 0x42652EE1#32 = (((DEG : ℝ)) : EReal) := by
  unfold DEG; simp [Ideal.ofBits, Ideal.ieee, -EReal.coe_mul]; norm_num

/-- Part 1 of the weight 0, 0 steps from the middle. -/
private theorem part00_0 : Ideal.ofBits .f32 0x3E25FE48#32 = (((1359817 / 8388608 : ℝ)) : EReal) := by
  simp [Ideal.ofBits, Ideal.ieee, -EReal.coe_mul]; norm_num

/-- Part 2 of the weight 0, 0 steps from the middle. -/
private theorem part00_1 : Ideal.ofBits .f32 0x3158551D#32 = (((14177565 / 4503599627370496 : ℝ)) : EReal) := by
  simp [Ideal.ofBits, Ideal.ieee, -EReal.coe_mul]; norm_num

/-- Part 3 of the weight 0, 0 steps from the middle. -/
private theorem part00_2 : Ideal.ofBits .f32 0x24AAE23D#32 = (((11199037 / 151115727451828646838272 : ℝ)) : EReal) := by
  simp [Ideal.ofBits, Ideal.ieee, -EReal.coe_mul]; norm_num

/-- Part 4 of the weight 0, 0 steps from the middle. -/
private theorem part00_3 : Ideal.ofBits .f32 0x17B500C3#32 = (((11862211 / 10141204801825835211973625643008 : ℝ)) : EReal) := by
  simp [Ideal.ofBits, Ideal.ieee, -EReal.coe_mul]; norm_num

/-- Part 5 of the weight 0, 0 steps from the middle. -/
private theorem part00_4 : Ideal.ofBits .f32 0x0A800000#32 = (((1 / 81129638414606681695789005144064 : ℝ)) : EReal) := by
  simp [Ideal.ofBits, Ideal.ieee, -EReal.coe_mul]; norm_num

/-- The parts of the weight at 0 and 0 pixels from the centre add up to the product of the two weights. -/
theorem weight00 : Ideal.ofBits .f32 0x3E25FE48#32 + Ideal.ofBits .f32 0x3158551D#32 + Ideal.ofBits .f32 0x24AAE23D#32 + Ideal.ofBits .f32 0x17B500C3#32 + Ideal.ofBits .f32 0x0A800000#32 = ((G0 * G0 : ℝ) : EReal) := by
  rw [part00_0, part00_1, part00_2, part00_3, part00_4]
  simp only [← EReal.coe_add]
  congr 1
  unfold G0; norm_num

/-- Part 1 of the weight 0, 1 steps from the middle. -/
private theorem part01_0 : Ideal.ofBits .f32 0x3DC95C2B#32 = (((13196331 / 134217728 : ℝ)) : EReal) := by
  simp [Ideal.ofBits, Ideal.ieee, -EReal.coe_mul]; norm_num

/-- Part 2 of the weight 0, 1 steps from the middle. -/
private theorem part01_1 : Ideal.ofBits .f32 0x317ACD85#32 = (((16436613 / 4503599627370496 : ℝ)) : EReal) := by
  simp [Ideal.ofBits, Ideal.ieee, -EReal.coe_mul]; norm_num

/-- Part 3 of the weight 0, 1 steps from the middle. -/
private theorem part01_2 : Ideal.ofBits .f32 0x24CD6A8D#32 = (((13462157 / 151115727451828646838272 : ℝ)) : EReal) := by
  simp [Ideal.ofBits, Ideal.ieee, -EReal.coe_mul]; norm_num

/-- Part 4 of the weight 0, 1 steps from the middle. -/
private theorem part01_3 : Ideal.ofBits .f32 0x9814EEA2#32 = (((-(4880209 / 2535301200456458802993406410752) : ℝ)) : EReal) := by
  simp [Ideal.ofBits, Ideal.ieee, -EReal.coe_mul]; norm_num

/-- Part 5 of the weight 0, 1 steps from the middle. -/
private theorem part01_4 : Ideal.ofBits .f32 0x8BC80000#32 = (((-(25 / 324518553658426726783156020576256) : ℝ)) : EReal) := by
  simp [Ideal.ofBits, Ideal.ieee, -EReal.coe_mul]; norm_num

/-- The parts of the weight at 0 and 1 pixels from the centre add up to the product of the two weights. -/
theorem weight01 : Ideal.ofBits .f32 0x3DC95C2B#32 + Ideal.ofBits .f32 0x317ACD85#32 + Ideal.ofBits .f32 0x24CD6A8D#32 + Ideal.ofBits .f32 0x9814EEA2#32 + Ideal.ofBits .f32 0x8BC80000#32 = ((G0 * G1 : ℝ) : EReal) := by
  rw [part01_0, part01_1, part01_2, part01_3, part01_4]
  simp only [← EReal.coe_add]
  congr 1
  unfold G0 G1; norm_num

/-- Part 1 of the weight 1, 1 steps from the middle. -/
private theorem part11_0 : Ideal.ofBits .f32 0x3D744317#32 = (((16007959 / 268435456 : ℝ)) : EReal) := by
  simp [Ideal.ofBits, Ideal.ieee, -EReal.coe_mul]; norm_num

/-- Part 2 of the weight 1, 1 steps from the middle. -/
private theorem part11_1 : Ideal.ofBits .f32 0x3093C9E6#32 = (((4842739 / 4503599627370496 : ℝ)) : EReal) := by
  simp [Ideal.ofBits, Ideal.ieee, -EReal.coe_mul]; norm_num

/-- Part 3 of the weight 1, 1 steps from the middle. -/
private theorem part11_2 : Ideal.ofBits .f32 0xA3F0BF8A#32 = (((-(7888837 / 302231454903657293676544) : ℝ)) : EReal) := by
  simp [Ideal.ofBits, Ideal.ieee, -EReal.coe_mul]; norm_num

/-- Part 4 of the weight 1, 1 steps from the middle. -/
private theorem part11_3 : Ideal.ofBits .f32 0x1709BE2C#32 = (((2256779 / 5070602400912917605986812821504 : ℝ)) : EReal) := by
  simp [Ideal.ofBits, Ideal.ieee, -EReal.coe_mul]; norm_num

/-- Part 5 of the weight 1, 1 steps from the middle. -/
private theorem part11_4 : Ideal.ofBits .f32 0x0AC80000#32 = (((25 / 1298074214633706907132624082305024 : ℝ)) : EReal) := by
  simp [Ideal.ofBits, Ideal.ieee, -EReal.coe_mul]; norm_num

/-- The parts of the weight at 1 and 1 pixels from the centre add up to the product of the two weights. -/
theorem weight11 : Ideal.ofBits .f32 0x3D744317#32 + Ideal.ofBits .f32 0x3093C9E6#32 + Ideal.ofBits .f32 0xA3F0BF8A#32 + Ideal.ofBits .f32 0x1709BE2C#32 + Ideal.ofBits .f32 0x0AC80000#32 = ((G1 * G1 : ℝ) : EReal) := by
  rw [part11_0, part11_1, part11_2, part11_3, part11_4]
  simp only [← EReal.coe_add]
  congr 1
  unfold G1; norm_num

/-- Part 1 of the weight 0, 2 steps from the middle. -/
private theorem part02_0 : Ideal.ofBits .f32 0x3CB3B7CE#32 = (((5888999 / 268435456 : ℝ)) : EReal) := by
  simp [Ideal.ofBits, Ideal.ieee, -EReal.coe_mul]; norm_num

/-- Part 2 of the weight 0, 2 steps from the middle. -/
private theorem part02_1 : Ideal.ofBits .f32 0x2FF07155#32 = (((15757653 / 36028797018963968 : ℝ)) : EReal) := by
  simp [Ideal.ofBits, Ideal.ieee, -EReal.coe_mul]; norm_num

/-- Part 3 of the weight 0, 2 steps from the middle. -/
private theorem part02_2 : Ideal.ofBits .f32 0xA2982750#32 = (((-(623221 / 151115727451828646838272) : ℝ)) : EReal) := by
  simp [Ideal.ofBits, Ideal.ieee, -EReal.coe_mul]; norm_num

/-- Part 4 of the weight 0, 2 steps from the middle. -/
private theorem part02_3 : Ideal.ofBits .f32 0x16335DBC#32 = (((2938735 / 20282409603651670423947251286016 : ℝ)) : EReal) := by
  simp [Ideal.ofBits, Ideal.ieee, -EReal.coe_mul]; norm_num

/-- Part 5 of the weight 0, 2 steps from the middle. -/
private theorem part02_4 : Ideal.ofBits .f32 0x89C00000#32 = (((-(3 / 649037107316853453566312041152512) : ℝ)) : EReal) := by
  simp [Ideal.ofBits, Ideal.ieee, -EReal.coe_mul]; norm_num

/-- The parts of the weight at 0 and 2 pixels from the centre add up to the product of the two weights. -/
theorem weight02 : Ideal.ofBits .f32 0x3CB3B7CE#32 + Ideal.ofBits .f32 0x2FF07155#32 + Ideal.ofBits .f32 0xA2982750#32 + Ideal.ofBits .f32 0x16335DBC#32 + Ideal.ofBits .f32 0x89C00000#32 = ((G0 * G2 : ℝ) : EReal) := by
  rw [part02_0, part02_1, part02_2, part02_3, part02_4]
  simp only [← EReal.coe_add]
  congr 1
  unfold G0 G2; norm_num

/-- Part 1 of the weight 1, 2 steps from the middle. -/
private theorem part12_0 : Ideal.ofBits .f32 0x3C5A024A#32 = (((7143717 / 536870912 : ℝ)) : EReal) := by
  simp [Ideal.ofBits, Ideal.ieee, -EReal.coe_mul]; norm_num

/-- Part 2 of the weight 1, 2 steps from the middle. -/
private theorem part12_1 : Ideal.ofBits .f32 0x2EA19856#32 = (((5295147 / 72057594037927936 : ℝ)) : EReal) := by
  simp [Ideal.ofBits, Ideal.ieee, -EReal.coe_mul]; norm_num

/-- Part 3 of the weight 1, 2 steps from the middle. -/
private theorem part12_2 : Ideal.ofBits .f32 0xA17B70F6#32 = (((-(8239227 / 9671406556917033397649408) : ℝ)) : EReal) := by
  simp [Ideal.ofBits, Ideal.ieee, -EReal.coe_mul]; norm_num

/-- Part 4 of the weight 1, 2 steps from the middle. -/
private theorem part12_3 : Ideal.ofBits .f32 0x145F7AD2#32 = (((7322985 / 649037107316853453566312041152512 : ℝ)) : EReal) := by
  simp [Ideal.ofBits, Ideal.ieee, -EReal.coe_mul]; norm_num

/-- Part 5 of the weight 1, 2 steps from the middle. -/
private theorem part12_4 : Ideal.ofBits .f32 0x88000000#32 = (((-(1 / 2596148429267413814265248164610048) : ℝ)) : EReal) := by
  simp [Ideal.ofBits, Ideal.ieee, -EReal.coe_mul]; norm_num

/-- The parts of the weight at 1 and 2 pixels from the centre add up to the product of the two weights. -/
theorem weight12 : Ideal.ofBits .f32 0x3C5A024A#32 + Ideal.ofBits .f32 0x2EA19856#32 + Ideal.ofBits .f32 0xA17B70F6#32 + Ideal.ofBits .f32 0x145F7AD2#32 + Ideal.ofBits .f32 0x88000000#32 = ((G1 * G2 : ℝ) : EReal) := by
  rw [part12_0, part12_1, part12_2, part12_3, part12_4]
  simp only [← EReal.coe_add]
  congr 1
  unfold G1 G2; norm_num

/-- Part 1 of the weight 2, 2 steps from the middle. -/
private theorem part22_0 : Ideal.ofBits .f32 0x3B4293D6#32 = (((6375915 / 2147483648 : ℝ)) : EReal) := by
  simp [Ideal.ofBits, Ideal.ieee, -EReal.coe_mul]; norm_num

/-- Part 2 of the weight 2, 2 steps from the middle. -/
private theorem part22_1 : Ideal.ofBits .f32 0xAE3BDBF2#32 = (((-(6155769 / 144115188075855872) : ℝ)) : EReal) := by
  simp [Ideal.ofBits, Ideal.ieee, -EReal.coe_mul]; norm_num

/-- Part 3 of the weight 2, 2 steps from the middle. -/
private theorem part22_2 : Ideal.ofBits .f32 0x213E7FA0#32 = (((390141 / 604462909807314587353088 : ℝ)) : EReal) := by
  simp [Ideal.ofBits, Ideal.ieee, -EReal.coe_mul]; norm_num

/-- Part 4 of the weight 2, 2 steps from the middle. -/
private theorem part22_3 : Ideal.ofBits .f32 0x948AE93A#32 = (((-(4551837 / 324518553658426726783156020576256) : ℝ)) : EReal) := by
  simp [Ideal.ofBits, Ideal.ieee, -EReal.coe_mul]; norm_num

/-- Part 5 of the weight 2, 2 steps from the middle. -/
private theorem part22_4 : Ideal.ofBits .f32 0x07800000#32 = (((1 / 5192296858534827628530496329220096 : ℝ)) : EReal) := by
  simp [Ideal.ofBits, Ideal.ieee, -EReal.coe_mul]; norm_num

/-- The parts of the weight at 2 and 2 pixels from the centre add up to the product of the two weights. -/
theorem weight22 : Ideal.ofBits .f32 0x3B4293D6#32 + Ideal.ofBits .f32 0xAE3BDBF2#32 + Ideal.ofBits .f32 0x213E7FA0#32 + Ideal.ofBits .f32 0x948AE93A#32 + Ideal.ofBits .f32 0x07800000#32 = ((G2 * G2 : ℝ) : EReal) := by
  rw [part22_0, part22_1, part22_2, part22_3, part22_4]
  simp only [← EReal.coe_add]
  congr 1
  unfold G2; norm_num

/-- The kernel's weight named `g0`. -/
theorem named_g0 : (Named.named (F := Ideal) Cert.KernelIdeal.κ "g0" 0x3ECE2434#32 : Ideal .f32) = ((G0 : ℝ) : EReal) := by
  rw [IdealRules.named_const.ideal_named_scalar _ _ _ _ rfl]
  unfold G0
  norm_num

/-- The kernel's weight named `g1`. -/
theorem named_g1 : (Named.named (F := Ideal) Cert.KernelIdeal.κ "g1" 0x3E7A0FEB#32 : Ideal .f32) = ((G1 : ℝ) : EReal) := by
  rw [IdealRules.named_const.ideal_named_scalar _ _ _ _ rfl]
  unfold G1
  norm_num

/-- The kernel's weight named `g2`. -/
theorem named_g2 : (Named.named (F := Ideal) Cert.KernelIdeal.κ "g2" 0x3D5F2F87#32 : Ideal .f32) = ((G2 : ℝ) : EReal) := by
  rw [IdealRules.named_const.ideal_named_scalar _ _ _ _ rfl]
  unfold G2
  norm_num

/-- Absolute values, -/
theorem absf_coe (r : ℝ) : FloatOps.absf (F := Ideal) (φ := .f32) (r : EReal) = ((|r| : ℝ) : EReal) := by
  show max (r : EReal) (-(r : EReal)) = _
  rw [← EReal.coe_neg, ← EReal.coe_strictMono.monotone.map_max]; rfl

/-- and sums of real numbers. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Canny

end
-- ==== Proof.KernelPlanes.lean ====
/- The kernel's planes over the real numbers. Row `r` of a plane is row `r - 8` of the image; away from the first and the last
   rows, which the row rolls spoil, each plane holds the values of an image of real numbers, zero off the pixels. -/
module

public import proofs.«01_k».proof.Proof.KernelOps
public import proofs.«01_k».proof.Proof.Consts
public import Idealize.ShloMosaic.Lib.Pointwise
public import Idealize.ShloMosaic.Lib.StableHlo.Predicate

@[expose] public section

set_option maxRecDepth 16384

noncomputable section

namespace Cert.KernelIdeal.Value

open Idealize.ShloMosaic Idealize.ShloMosaic.TcCoe
open Cert.KernelIdeal Cert.KernelIdeal.Gen Cert.Canny

/-- The plane `a` holds the image `g` in all rows but the `k` first and the `k` last. -/
def Rep (k : ℕ) (a : Plane Ideal) (g : Img) : Prop :=
  ∀ (r : Fin 528) (c : Fin 512), k ≤ r.val → r.val + k < 528 → a (ix2 r c) = ((g ((r.val : ℤ) - 8) (c.val : ℤ) : ℝ) : EReal)

variable {k : ℕ} {a b : Plane Ideal} {f g : Img}

/-- Fewer rows are represented as well. -/
theorem Rep.mono {k' : ℕ} (h : Rep k a g) (hk : k ≤ k') : Rep k' a g :=
  fun r c h1 h2 => h r c (by omega) (by omega)

/-- The image may be replaced by one that agrees within the columns. -/
theorem Rep.congr (h : Rep k a g) (hg : ∀ r c : ℤ, 0 ≤ c → c < 512 → g r c = f r c) : Rep k a f :=
  fun r c h1 h2 => by rw [h r c h1 h2, hg _ _ (by omega) (by omega)]

/-- A choice by the comparison of a small number with a bound. -/
theorem select_slt {α : Type} (n m : ℕ) (hn : n < 2 ^ 31) (hm : m < 2 ^ 31) (x y : α) :
    Scalar.select (IntOp.cmpi .slt (BitVec.ofNat 32 n) (BitVec.ofNat 32 m)) x y = if n < m then x else y := by
  unfold Scalar.select IntOp.cmpi
  by_cases h : n < m
  · rw [if_pos h, if_pos]
    simpa [StableHlo.Predicate.slt_ofNat_iff n m hn hm] using h
  · rw [if_neg h, if_neg]
    simpa [StableHlo.Predicate.slt_ofNat_iff n m hn hm] using h

@[inherit_doc select_slt] theorem select_sge {α : Type} (n m : ℕ) (hn : n < 2 ^ 31) (hm : m < 2 ^ 31) (x y : α) :
    Scalar.select (IntOp.cmpi .sge (BitVec.ofNat 32 n) (BitVec.ofNat 32 m)) x y = if m ≤ n then x else y := by
  unfold Scalar.select IntOp.cmpi
  by_cases h : m ≤ n
  · rw [if_pos h, if_pos]
    simpa [StableHlo.Predicate.sle_ofNat_iff m n hm hn] using h
  · rw [if_neg h, if_neg]
    simpa [StableHlo.Predicate.sle_ofNat_iff m n hm hn] using h

/-- A choice by two bits at once. -/
theorem select_and {α : Type} (p q : BitVec 1) (x y : α) :
    Scalar.select (IntOp.andi p q) x y = Scalar.select p (Scalar.select q x y) y := by
  unfold Scalar.select IntOp.andi
  revert p q
  intro p q
  rcases (by decide +revert : p = 0#1 ∨ p = 1#1) with rfl | rfl <;> rcases (by decide +revert : q = 0#1 ∨ q = 1#1) with rfl | rfl <;> simp

/-- A plane moved one column to the left holds the image moved so, if the image ends in zeros there; -/
theorem rep_scp (h : Rep k a g) (hz : ∀ r, g r 512 = 0) : Rep k (scp a) (fun r c => g r (c + 1)) := by
  intro r c h1 h2
  pointwise [scp, k0_pay4]
  rw [select_slt _ 511 (by omega) (by norm_num)]
  by_cases hc : c.val < 511
  · rw [if_pos hc, dif_pos hc, h _ _ h1 h2]
    congr 2
    push_cast
    ring
  · rw [if_neg hc]
    have : c.val = 511 := by omega
    show _ = ((g _ ((c.val : ℤ) + 1) : ℝ) : EReal)
    rw [this]
    norm_num [hz]

/-- likewise to the right. -/
theorem rep_scm (h : Rep k a g) (hz : ∀ r, g r (-1) = 0) : Rep k (scm a) (fun r c => g r (c - 1)) := by
  intro r c h1 h2
  pointwise [scm, k0_pay5]
  rw [select_sge _ 1 (by omega) (by norm_num)]
  by_cases hc : 1 ≤ c.val
  · rw [if_pos hc, dif_neg (by omega), h _ _ h1 h2]
    congr 2
    push_cast [hc]
    ring
  · rw [if_neg hc]
    have : c.val = 0 := by omega
    show _ = ((g _ ((c.val : ℤ) - 1) : ℝ) : EReal)
    rw [this]
    norm_num [hz]

/-- Moved one row up, one row less is represented at each end; -/
theorem rep_srp (h : Rep k a g) : Rep (k + 1) (srp a) (fun r c => g (r + 1) c) := by
  intro r c h1 h2
  pointwise [srp]
  rw [dif_pos (by omega), h _ _ (by show k ≤ 1 + r.val; omega) (by show 1 + r.val + k < 528; omega)]
  congr 2
  push_cast
  ring

/-- likewise down. -/
theorem rep_srm (h : Rep k a g) : Rep (k + 1) (srm a) (fun r c => g (r - 1) c) := by
  intro r c h1 h2
  pointwise [srm]
  rw [dif_neg (by omega), h _ _ (by show k ≤ r.val - 1; omega) (by show r.val - 1 + k < 528; omega)]
  congr 2
  have : 1 ≤ r.val := by omega
  push_cast [this]
  ring

/-- The mask clips the image. -/
theorem rep_mask (h : Rep k a g) (hk : k ≤ 8) : Rep 0 (mask a) (clip g) := by
  intro r c _ _
  pointwise [mask, k0_pay6]
  rw [select_and, select_sge _ 8 (by omega) (by norm_num), select_slt _ 520 (by omega) (by norm_num)]
  by_cases h1 : 8 ≤ r.val ∧ r.val < 520
  · rw [if_pos h1.1, if_pos h1.2, clip_in _ (by unfold inside; omega), h r c (by omega) (by omega)]
  · rw [clip_out _ (by unfold inside; omega)]
    split_ifs <;> first | rfl | (exfalso; omega)

/-- Sums, -/
theorem rep_addf (ha : Rep k a f) (hb : Rep k b g) : Rep k (addf a b) (fun r c => f r c + g r c) := by
  intro r c h1 h2
  show (a _ + b _ : EReal) = _
  rw [ha r c h1 h2, hb r c h1 h2, EReal.coe_add]

/-- differences, -/
theorem rep_subf (ha : Rep k a f) (hb : Rep k b g) : Rep k (subf a b) (fun r c => f r c - g r c) := by
  intro r c h1 h2
  show (a _ - b _ : EReal) = _
  rw [ha r c h1 h2, hb r c h1 h2, EReal.coe_sub]

/-- products, -/
theorem rep_mulf (ha : Rep k a f) (hb : Rep k b g) : Rep k (mulf a b) (fun r c => f r c * g r c) := by
  intro r c h1 h2
  show (a _ * b _ : EReal) = _
  rw [ha r c h1 h2, hb r c h1 h2, EReal.coe_mul]

/-- maxima, -/
theorem rep_maximumf (ha : Rep k a f) (hb : Rep k b g) : Rep k (maximumf a b) (fun r c => max (f r c) (g r c)) := by
  intro r c h1 h2
  show max (a _ : EReal) (b _) = _
  rw [ha r c h1 h2, hb r c h1 h2, ← EReal.coe_strictMono.monotone.map_max]

/-- constants -/
theorem rep_const {x : Ideal .f32} {v : ℝ} (h : x = (v : EReal)) : Rep k (broadcast S528x512 x) (fun _ _ => v) :=
  fun _ _ _ _ => h

/-- and square roots are taken pixel by pixel. -/
theorem rep_sqrt (ha : Rep k a f) (h0 : ∀ r c, 0 ≤ f r c) : Rep k (sqrt a) (fun r c => Real.sqrt (f r c)) := by
  intro r c h1 h2
  show Ideal.sqrt (a _) = _
  rw [ha r c h1 h2, Ideal.sqrt_coe, if_neg (not_lt.mpr (h0 _ _))]

/-- The zero word is zero. -/
theorem lit_zero : (Scalar.ofBits (F := Ideal) .f32 0x00000000#32 : Ideal .f32) = ((0 : ℝ) : EReal) := by
  show Ideal.ofBits .f32 0x00000000#32 = _
  simp

/-- The padded image. -/
theorem rep_pad (v : Vec Ideal S1x1x512x512 .f32) (f : Img) (hf : Clipped f)
    (h : ∀ r c : Fin 512, v (ix4 0 0 r c) = ((f (r.val : ℤ) (c.val : ℤ) : ℝ) : EReal)) : Rep 0 (pad v) f := by
  intro r c _ _
  pointwise [pad, k0_pay8, k0_pay7]
  by_cases h1 : r.val < 8
  · rw [dif_pos h1, hf _ _ (by unfold inside; omega)]; rfl
  · rw [dif_neg h1]
    by_cases h2 : r.val - 8 < 512
    · rw [dif_pos h2, h]
      congr 2
      push_cast [not_lt.mp h1]
      ring
    · rw [dif_neg h2, hf _ _ (by unfold inside; omega)]; rfl

/-- The blurred plane. -/
theorem rep_blur (h : Rep 0 a f) (hf : Clipped f) : Rep 0 (blur a) (Canny.blur f) := by
  have z : ∀ r c, (c < 0 ∨ 512 ≤ c) → f r c = 0 := fun r c hc => hf r c (by unfold inside; omega)
  have p1 := rep_scp h (fun r => z r _ (by norm_num))
  have m1 := rep_scm h (fun r => z r _ (by norm_num))
  have p2 := rep_scp p1 (fun r => z r _ (by norm_num))
  have m2 := rep_scm m1 (fun r => z r _ (by norm_num))
  have hr : Rep 0 (rowBlur a) (rowB f) :=
    (rep_addf (rep_addf (rep_mulf (rep_const named_g0) h) (rep_mulf (rep_const named_g1) (rep_addf p1 m1)))
      (rep_mulf (rep_const named_g2) (rep_addf p2 m2))).congr fun r c _ _ => by
        unfold rowB
        simp only [add_assoc, sub_sub]
        norm_num
  have sp := rep_srp hr
  have sm := rep_srm hr
  have hc : Rep 2 (colBlur (rowBlur a)) (colB (rowB f)) :=
    (rep_addf (rep_addf (rep_mulf (rep_const named_g0) (hr.mono (by norm_num)))
      (rep_mulf (rep_const named_g1) ((rep_addf sp sm).mono (by norm_num))))
      (rep_mulf (rep_const named_g2) (rep_addf (rep_srp sp) (rep_srm sm)))).congr fun r c _ _ => by
        unfold colB
        simp only [add_assoc, sub_sub]
        norm_num
  exact rep_mask hc (by norm_num)

/-- The two derivatives' planes -/
theorem rep_gradX (h : Rep 0 a f) (hf : Clipped f) : Rep 1 (gradX a) (Canny.gradX f) := by
  have z : ∀ r c, (c < 0 ∨ 512 ≤ c) → f r c = 0 := fun r c hc => hf r c (by unfold inside; omega)
  have d := rep_subf (rep_scp h (fun r => z r _ (by norm_num))) (rep_scm h (fun r => z r _ (by norm_num)))
  exact rep_addf (rep_addf (rep_srp d) (rep_mulf (rep_const lit_two) (d.mono (by norm_num)))) (rep_srm d)

@[inherit_doc rep_gradX] theorem rep_gradY (h : Rep 0 a f) (hf : Clipped f) : Rep 1 (gradY a) (Canny.gradY f) := by
  have z : ∀ r c, (c < 0 ∨ 512 ≤ c) → f r c = 0 := fun r c hc => hf r c (by unfold inside; omega)
  have d := rep_addf (rep_addf (rep_scp h (fun r => z r _ (by norm_num))) (rep_mulf (rep_const lit_two) h))
    (rep_scm h (fun r => z r _ (by norm_num)))
  exact rep_subf (rep_srp d) (rep_srm d)

/-- and the magnitude's. -/
theorem rep_magn (ha : Rep k a f) (hb : Rep k b g) (hk : k ≤ 8) : Rep 0 (magn a b) (mag f g) := by
  refine rep_mask (rep_sqrt (rep_addf (rep_addf (rep_mulf ha ha) (rep_mulf hb hb)) (rep_const lit_eps)) fun r c => ?_) hk
  have : 0 ≤ EPS := by unfold EPS; norm_num
  nlinarith [mul_self_nonneg (f r c), mul_self_nonneg (g r c)]

/-- The direction's plane. -/
theorem rep_orient (ha : Rep k a f) (hb : Rep k b g) : Rep k (orient a b) (fun r c => oriR (f r c) (g r c)) := by
  intro r c h1 h2
  pointwise [orient, sgn, turn, isH, isV]
  simp only [ha r c h1 h2, hb r c h1 h2, absf_coe, lit_t1, lit_t2, lit_h180, lit_h90, lit_h45, lit_h135, lit_negone,
    ← EReal.coe_mul, EReal.coe_lt_coe_iff, ← EReal.coe_zero, ← EReal.coe_one]
  unfold oriR turnR isHor isVer
  split_ifs <;> simp only [← EReal.coe_mul, ← EReal.coe_add]

/-- The thinned edges' plane. -/
theorem rep_thin (ha : Rep 1 a f) (hb : Rep 1 b g) {m : Plane Ideal} {e : Img} (hm : Rep 0 m e) (he : Clipped e) :
    Rep 1 (thinOf a b m) (thinK f g e) := by
  have z : ∀ r c, (c < 0 ∨ 512 ≤ c) → e r c = 0 := fun r c hc => he r c (by unfold inside; omega)
  have p := rep_scp hm (fun r => z r _ (by norm_num))
  have q := rep_scm hm (fun r => z r _ (by norm_num))
  have hH : Rep 0 (nbH m) _ := rep_maximumf p q
  have hV : Rep 1 (nbV m) _ := rep_maximumf (rep_srm hm) (rep_srp hm)
  have h1 := rep_maximumf (rep_srm p) (rep_srp q)
  have h3 := rep_maximumf (rep_srm q) (rep_srp p)
  intro r c k1 k2
  have e1 : max (srm (scp m) (ix2 r c) : EReal) (srp (scm m) (ix2 r c)) = _ := h1 r c k1 k2
  have e3 : max (srm (scm m) (ix2 r c) : EReal) (srp (scp m) (ix2 r c)) = _ := h3 r c k1 k2
  pointwise [thinOf, nb, nbD, isH, isV, sameQ]
  simp only [ha r c k1 k2, hb r c k1 k2, hm r c (by omega) (by omega), hH r c (by omega) (by omega), hV r c k1 k2,
    e1, e3, absf_coe, lit_t1, lit_t2, ← EReal.coe_mul, EReal.coe_lt_coe_iff, ← EReal.coe_zero]
  unfold thinK Canny.nb clsR isHor isVer
  by_cases H : |g ((r.val : ℤ) - 8) (c.val : ℤ)| < T1 * |f ((r.val : ℤ) - 8) (c.val : ℤ)|
  · simp only [H, if_true]
    norm_num
    split_ifs <;> rfl
  by_cases V : T2 * |f ((r.val : ℤ) - 8) (c.val : ℤ)| < |g ((r.val : ℤ) - 8) (c.val : ℤ)|
  · simp only [H, V, if_true, if_false]
    norm_num
    split_ifs <;> rfl
  by_cases Q : 0 < f ((r.val : ℤ) - 8) (c.val : ℤ) * g ((r.val : ℤ) - 8) (c.val : ℤ)
  · simp only [H, V, Q, if_true, if_false]
    norm_num
    split_ifs <;> rfl
  · simp only [H, V, Q, if_true, if_false]
    norm_num
    split_ifs <;> rfl

end Cert.KernelIdeal.Value

end
-- ==== Proof.KernelRun.lean ====
/- The kernel's run: the output block gathers the sixteen pairs' contributions, and the operations after the launch turn it
   into the result. -/
module

public import proofs.«01_k».proof.Proof.KernelOps
public import Idealize.ShloMosaic.Lib.Pipeline.Value
public import Idealize.ShloMosaic.Lib.StableHlo.Run
public import Idealize.ShloMosaic.Lib.Tactic
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable {F : FTy → Type} [FloatOps F] [Named F]
variable (m : (ℓ : Loc nD τ sig) → Buf (Elt F) ℓ) (ρ : Dev nD → PrngReg)

/-- What the output block holds after the points up to `n`: each pair's contribution added to what was there. -/
def chain (c : Dev nD) : (n : ℕ) → n < cfg0.N → Vec F S1x2x512 .f32
  | 0, h => shapeCast S1x2x512 (cur (iblk m c 0 ⟨0, h⟩) (iblk m c 1 ⟨0, h⟩)) shapeCasts_S2x512_S1x2x512
  | n + 1, h => shapeCast S1x2x512 (addf (shapeCast S2x512 (chain c n (Nat.lt_of_succ_lt h)) shapeCasts_S1x2x512_S2x512)
      (cur (iblk m c 0 ⟨n + 1, h⟩) (iblk m c 1 ⟨n + 1, h⟩))) shapeCasts_S2x512_S1x2x512

/-- The output's buffer holds it after each point. -/
theorem outsAt_eq (c : Dev nD) : ∀ (n : ℕ) (h : n < cfg0.N), outsAt0 m c n h = chain m c n h
  | 0, h => (outsAt0_A m c ⟨0, h⟩ rfl (Nat.not_succ_le_zero 0)).trans (out_A ..)
  | n + 1, h => by
    have hN : cfg0.N = 16 := N_0
    have hB : ¬(⟨n + 1, h⟩ : Fin cfg0.N).val % 16 = 0 := by dsimp only; omega
    rw [outsAt0_B m c ⟨n + 1, h⟩ hB (Nat.succ_le_succ (Nat.zero_le n)), out_B]
    show shapeCast S1x2x512 (addf (shapeCast S2x512 (outsAt0 m c n _) _) _) _ = shapeCast S1x2x512 (addf (shapeCast S2x512 (chain m c n _) _) _) _
    rw [outsAt_eq c n]

/-- What the launch leaves in its output array. -/
abbrev total (c : Dev nD) : Vec F S1x2x512 .f32 := chain m c 15 (by rw [show cfg0.N = 16 from N_0]; decide)

/-- The only write-back, after the last point, writes it whole. -/
theorem flushed_eq (c : Dev nD) (t : Fin cfg0.N) (hf : (cfg0.win 2).flush t = true) :
    (dats m 0 c).flushed 2 t = ((cfg0.win 2).blk t).view.read (Elt F) (total m c : Buf (Elt F) ((c : Thread nD τ).loc main_call0_v0)) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, outsAt_eq]
  have hz' : (fun a => win0_2.index t0_15 a * main_call0_v0.ty.shape.size a) = fun _ => 0 := funext fun a => by fin_cases a <;> decide
  exact (Memref.read_access_unit_zero (Elt F) main_call0_v0 hz' (fun a => by rw [congrFun hz' a]; simp) (total m c)).symm

/-- So the output array ends holding it. -/
theorem final_o (c : Dev nD) : (dats m 0 c).arrAt 2 cfg0.N = (total m c : Buf (Elt F) ((c : Thread nD τ).loc main_call0_v0)) :=
  (dats m 0 c).arrAt_eq_of_cover 2 (total m c) (flushed_eq m c) fun i =>
    ⟨t0_15, (flush0_2 t0_15).mpr rfl, by
      show i ∈ ((View.whole main_call0_v0).slice (win0_2.rect t0_15)).set
      rw [View.set_slice_whole, Rect.mem_set_unit]
      intro a
      have hi : (i a : Nat) < main_call0_v0.ty.shape.size a := (i a).isLt
      have e0 : win0_2.index t0_15 a * win0_2.size a = 0 := by fin_cases a <;> decide
      have e1 : win0_2.xsize (grid0.coords t0_15) a = main_call0_v0.ty.shape.size a := by fin_cases a <;> decide
      show win0_2.index t0_15 a * win0_2.size a ≤ (i a : Nat) ∧ (i a : Nat) < win0_2.index t0_15 a * win0_2.size a + win0_2.xsize (grid0.coords t0_15) a
      rw [e0, e1]
      omega⟩

/-- The result from the output array: all its entries added up, over the number of pixels. -/
def tail (o : Vec F S1x2x512 .f32) : FVec F S_ .f32 :=
  Host.divf (Host.reduceAdd o (constant S_ .f32 0x00000000#32) reducesTo_S1x2x512_S_d0_1_2 h_S_) (constant S_ .f32 0x48800000#32)

/-- The three arrays of the launch are different buffers. -/
theorem arr_inj : Function.Injective (Pipeline.arrRef spec0) := by
  intro a b h
  fin_cases a <;> fin_cases b <;> first | rfl | (exfalso; revert h; decide)

/-- The operations after the launch, read at the result. -/
theorem tail_eq (c : Dev nD) : Pipeline.afterTail₀ cfgs (dats m) 0 (V0 m) [hostOps1] c main_v0
    = (tail (total m c) : Buf (Elt F) ((c.tc : Thread nD τ).loc main_v0)) := by
  have h0 := Pipeline.withArrays_arr (τ := τ) (Val := Elt F) spec0 arr_inj c (V0 m c) (fun w => (dats m 0 c).arrAt w cfg0.N) 2
  unfold Pipeline.afterTail₀
  show StableHlo.after hostOps1 (Pipeline.withArrays spec0 c (V0 m c) fun w => (dats m 0 c).arrAt w cfg0.N) (Proc.devRef .tc main_v0) = _
  generalize Pipeline.withArrays spec0 c (V0 m c) (fun w => (dats m 0 c).arrAt w cfg0.N) = W at h0
  have h1 : W (Proc.devRef .tc main_call0_v0) = (total m c : Buf (Elt F) ((c : Thread nD τ).loc main_call0_v0)) := h0.trans (final_o m c)
  unfold hostOps1
  after_results_simp
  rw [h1]
  rfl

/-- The run: the result from the gathered contributions, the arguments unchanged. -/
theorem run : θ_run defs (onTc (τ := τ) (main (F := F))) ⟨m, fun _ => 0, ρ⟩ fun r => ∀ c : Dev nD,
      r.2.mem ((c.tc : Thread nD τ).loc main_v0) = (tail (total m c) : Buf (Elt F) ((c.tc : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v0 (Pipeline.mem_restRefs_of main_v0 rfl (by intro w; fin_cases w <;> exact fun h => by cases h))).trans (tail_eq m c),
      ((h c).1 0).trans ((dats m 0 c).arrAt_in 0 rfl _), ((h c).1 1).trans ((dats m 0 c).arrAt_in 1 rfl _)⟩)
    (run_main m ρ)

set_option backward.isDefEq.respectTransparency false in
/-- The first input block of a point is the point's image of the first argument, -/
theorem iblk0_apply (c : Dev nD) (t : Fin cfg0.N) (b : Fin 16) (hb : b.val = t.val) (r l : Fin 512) :
    (iblk m c 0 t : Vec F S1x1x512x512 .f32) (ix4 0 0 r l) = m ((c.tc : Thread nD τ).loc main_arg0) (ix4 b 0 r l) := by
  have hi : win0_0.index t 0 = t.val ∧ win0_0.index t 1 = 0 ∧ win0_0.index t 2 = 0 ∧ win0_0.index t 3 = 0 := by
    rcases fin_N0 t with rfl | rfl | rfl | rfl | rfl | rfl | rfl | rfl | rfl | rfl | rfl | rfl | rfl | rfl | rfl | rfl <;> decide
  unfold iblk
  rw [View.read_apply]
  show V m c main_arg0 _ = m (c.tc.loc main_arg0) _
  unfold V
  congr 1
  funext a
  apply Fin.ext
  match a with
  | ⟨0, _⟩ => show win0_0.index t 0 * 1 + 1 * 0 = b.val; rw [hi.1]; omega
  | ⟨1, _⟩ => show win0_0.index t 1 * 1 + 1 * 0 = 0; rw [hi.2.1]
  | ⟨2, _⟩ => show win0_0.index t 2 * 512 + 1 * r.val = r.val; rw [hi.2.2.1]; omega
  | ⟨3, _⟩ => show win0_0.index t 3 * 512 + 1 * l.val = l.val; rw [hi.2.2.2]; omega

set_option backward.isDefEq.respectTransparency false in
/-- and the second of the second. -/
theorem iblk1_apply (c : Dev nD) (t : Fin cfg0.N) (b : Fin 16) (hb : b.val = t.val) (r l : Fin 512) :
    (iblk m c 1 t : Vec F S1x1x512x512 .f32) (ix4 0 0 r l) = m ((c.tc : Thread nD τ).loc main_arg1) (ix4 b 0 r l) := by
  have hi : win0_1.index t 0 = t.val ∧ win0_1.index t 1 = 0 ∧ win0_1.index t 2 = 0 ∧ win0_1.index t 3 = 0 := by
    rcases fin_N0 t with rfl | rfl | rfl | rfl | rfl | rfl | rfl | rfl | rfl | rfl | rfl | rfl | rfl | rfl | rfl | rfl <;> decide
  unfold iblk
  rw [View.read_apply]
  show V m c main_arg1 _ = m (c.tc.loc main_arg1) _
  unfold V
  congr 1
  funext a
  apply Fin.ext
  match a with
  | ⟨0, _⟩ => show win0_1.index t 0 * 1 + 1 * 0 = b.val; rw [hi.1]; omega
  | ⟨1, _⟩ => show win0_1.index t 1 * 1 + 1 * 0 = 0; rw [hi.2.1]
  | ⟨2, _⟩ => show win0_1.index t 2 * 512 + 1 * r.val = r.val; rw [hi.2.2.1]; omega
  | ⟨3, _⟩ => show win0_1.index t 3 * 512 + 1 * l.val = l.val; rw [hi.2.2.2]; omega

end Cert.KernelIdeal.Value

end
-- ==== Proof.Score.lean ====
/- The result over the real numbers: the distance between the thinned edges of two stacks of sixteen images, and between their
   directions. -/
module

public import proofs.«01_k».proof.Proof.Model

@[expose] public section

noncomputable section

namespace Cert.Canny

/-- The thinned edges of an image -/
def edges (f : Img) : Img := thinK (gradX (blur f)) (gradY (blur f)) (mag (gradX (blur f)) (gradY (blur f)))
/-- and its directions in degrees. -/
def dirs (f : Img) : Img := fun r c => oriR (gradX (blur f) r c) (gradY (blur f) r c)

/-- The distance between two images, column by column. -/
def gap (a b : Img) : ℝ := ∑ c : Fin 512, ∑ r : Fin 512, |a r c - b r c|

/-- The same row by row. -/
theorem gap_rows (a b : Img) : gap a b = ∑ r : Fin 512, ∑ c : Fin 512, |a r c - b r c| := Finset.sum_comm

/-- The result on two stacks of images. -/
def score (X Y : Fin 16 → Img) : ℝ :=
  (∑ b, gap (edges (X b)) (edges (Y b)) + ∑ b, gap (dirs (X b)) (dirs (Y b))) / 262144

end Cert.Canny

end
-- ==== Proof.KernelValue.lean ====
/- The kernel's result over the real numbers. -/
module

public import proofs.«01_k».proof.Proof.KernelPlanes
public import proofs.«01_k».proof.Proof.KernelRun
public import proofs.«01_k».proof.Proof.Score

@[expose] public section

set_option maxRecDepth 16384

noncomputable section

namespace Cert.KernelIdeal.Value

open Idealize.ShloMosaic Idealize.ShloMosaic.TcCoe Idealize.SL.Sem
open Cert.KernelIdeal Cert.KernelIdeal.Gen Cert.Canny

/-- The edges of a block -/
theorem rep_edges (v : Vec Ideal S1x1x512x512 .f32) (f : Img) (hf : Clipped f)
    (h : ∀ r c : Fin 512, v (ix4 0 0 r c) = ((f r c : ℝ) : EReal)) : Rep 1 (thin v) (edges f) :=
  have hb := rep_blur (rep_pad v f hf h) hf
  have hc : Clipped (Canny.blur f) := clip_clipped _
  have hx := rep_gradX hb hc
  have hy := rep_gradY hb hc
  rep_thin hx hy (rep_magn hx hy (by decide)) (clip_clipped _)

/-- and its directions. -/
theorem rep_dirs (v : Vec Ideal S1x1x512x512 .f32) (f : Img) (hf : Clipped f)
    (h : ∀ r c : Fin 512, v (ix4 0 0 r c) = ((f r c : ℝ) : EReal)) : Rep 1 (ori v) (dirs f) :=
  have hb := rep_blur (rep_pad v f hf h) hf
  have hc : Clipped (Canny.blur f) := clip_clipped _
  rep_orient (rep_gradX hb hc) (rep_gradY hb hc)

/-- The column sums of the distance of two planes. -/
theorem colSum_at {a b : Plane Ideal} {f g : Img} (ha : Rep 1 a f) (hb : Rep 1 b g) (l : Fin 512) :
    colSum a b (ix2 0 l) = ((∑ r : Fin 512, |f r l - g r l| : ℝ) : EReal) := by
  have e : ∀ (p : Plane Ideal) (u : Img), Rep 1 p u → ∀ (r : Fin 512) (h : 8 + r.val < 528), p (ix2 ⟨8 + r.val, h⟩ l) = ((u r l : ℝ) : EReal) := by
    intro p u hp r h
    refine (hp ⟨8 + r.val, h⟩ l (by show 1 ≤ 8 + r.val; omega) (by have := r.isLt; show 8 + r.val + 1 < 528; omega)).trans ?_
    congr 2
    show ((8 + r.val : ℕ) : ℤ) - 8 = r.val
    omega
  pointwise [colSum]
  simp only [e a f ha, e b g hb, ← EReal.coe_sub]
  rw [← coe_sum]
  exact Finset.sum_congr rfl fun r _ => absf_coe _

/-- The first row of a pair's contribution is the edges', -/
theorem cur_zero (v w : Vec Ideal S1x1x512x512 .f32) (l : Fin 512) : cur v w (ix2 0 l) = colSum (thin v) (thin w) (ix2 0 l) := by
  unfold cur
  generalize colSum (thin v) (thin w) = a
  generalize colSum (ori v) (ori w) = b
  pointwise

/-- the second the directions'. -/
theorem cur_one (v w : Vec Ideal S1x1x512x512 .f32) (l : Fin 512) : cur v w (ix2 1 l) = colSum (ori v) (ori w) (ix2 0 l) := by
  unfold cur
  generalize colSum (thin v) (thin w) = a
  generalize colSum (ori v) (ori w) = b
  pointwise

variable (m : (ℓ : Loc nD τ sig) → Buf (Elt Ideal) ℓ) (c : Dev nD)

/-- The gathered contributions of the points up to `n`. -/
theorem chain_at (s : Fin 2) (l : Fin 512) (g : Fin 16 → ℝ)
    (hg : ∀ (t : Fin cfg0.N) (b : Fin 16), b.val = t.val → cur (iblk m c 0 t) (iblk m c 1 t) (ix2 s l) = ((g b : ℝ) : EReal)) :
    ∀ (n : ℕ) (h : n < cfg0.N) (h' : n + 1 ≤ 16), chain m c n h (ix3 0 s l) = ((∑ b : Fin (n + 1), g (b.castLE h') : ℝ) : EReal)
  | 0, h, h' => by
    have e := hg ⟨0, h⟩ 0 rfl
    unfold chain
    generalize cur (iblk m c 0 ⟨0, h⟩) (iblk m c 1 ⟨0, h⟩) = a at e ⊢
    pointwise
    rw [e, Fin.sum_univ_one]
    rfl
  | n + 1, h, h' => by
    have e := hg ⟨n + 1, h⟩ ⟨n + 1, h'⟩ rfl
    have i := chain_at s l g hg n (Nat.lt_of_succ_lt h) (Nat.le_of_succ_le h')
    unfold chain
    generalize cur (iblk m c 0 ⟨n + 1, h⟩) (iblk m c 1 ⟨n + 1, h⟩) = a at e ⊢
    generalize chain m c n (Nat.lt_of_succ_lt h) = z at i ⊢
    pointwise
    rw [e, i, ← EReal.coe_add]
    exact congrArg Real.toEReal (Fin.sum_univ_castSucc fun b : Fin (n + 1 + 1) => g (b.castLE h')).symm

/-- The kernel's result on arguments of real pixels. -/
theorem tail_at (X Y : Fin 16 → Img) (hX : ∀ b, Clipped (X b)) (hY : ∀ b, Clipped (Y b))
    (h0 : ∀ (b : Fin 16) (r l : Fin 512), m ((c.tc : Thread nD τ).loc main_arg0) (ix4 b 0 r l) = ((X b r l : ℝ) : EReal))
    (h1 : ∀ (b : Fin 16) (r l : Fin 512), m ((c.tc : Thread nD τ).loc main_arg1) (ix4 b 0 r l) = ((Y b r l : ℝ) : EReal)) :
    tail (total m c) ix0 = ((score X Y : ℝ) : EReal) := by
  have p0 : ∀ (t : Fin cfg0.N) (b : Fin 16), b.val = t.val → ∀ r l : Fin 512,
      (iblk m c 0 t : Vec Ideal S1x1x512x512 .f32) (ix4 0 0 r l) = ((X b r l : ℝ) : EReal) :=
    fun t b hb r l => (iblk0_apply m c t b hb r l).trans (h0 b r l)
  have p1 : ∀ (t : Fin cfg0.N) (b : Fin 16), b.val = t.val → ∀ r l : Fin 512,
      (iblk m c 1 t : Vec Ideal S1x1x512x512 .f32) (ix4 0 0 r l) = ((Y b r l : ℝ) : EReal) :=
    fun t b hb r l => (iblk1_apply m c t b hb r l).trans (h1 b r l)
  have e0 : ∀ l : Fin 512, total m c (ix3 0 0 l) = ((∑ b, ∑ r : Fin 512, |edges (X b) r l - edges (Y b) r l| : ℝ) : EReal) := fun l =>
    chain_at m c 0 l (fun b => ∑ r : Fin 512, |edges (X b) r l - edges (Y b) r l|) (fun t b hb =>
      (cur_zero _ _ l).trans (colSum_at (rep_edges _ _ (hX b) (p0 t b hb)) (rep_edges _ _ (hY b) (p1 t b hb)) l)) 15 _ (le_refl _)
  have e1 : ∀ l : Fin 512, total m c (ix3 0 1 l) = ((∑ b, ∑ r : Fin 512, |dirs (X b) r l - dirs (Y b) r l| : ℝ) : EReal) := fun l =>
    chain_at m c 1 l (fun b => ∑ r : Fin 512, |dirs (X b) r l - dirs (Y b) r l|) (fun t b hb =>
      (cur_one _ _ l).trans (colSum_at (rep_dirs _ _ (hX b) (p0 t b hb)) (rep_dirs _ _ (hY b) (p1 t b hb)) l)) 15 _ (le_refl _)
  generalize total m c = o at e0 e1 ⊢
  pointwise [tail]
  rw [lit_count, Fin.sum_univ_one, Fin.sum_univ_two]
  simp only [e0, e1, coe_sum, ← EReal.coe_add, Ideal.div_coe (show (262144 : ℝ) ≠ 0 by norm_num), ← EReal.coe_mul]
  refine congrArg Real.toEReal ?_
  unfold score gap
  rw [Finset.sum_comm, Finset.sum_comm (s := (Finset.univ : Finset (Fin 512)))]
  ring

end Cert.KernelIdeal.Value

end
-- ==== Proof.ReferenceOps.lean ====
/- The reference program's operations as functions of one image array, written once: the blur, the two derivatives, the
   magnitude, the rounded direction, the thinned magnitude, and the number made of two images. `run_ops` reads the
   program's result as that number of its two arguments. -/
module

public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo

variable {F : FTy → Type} [FloatOps F]

/-- The sixteen images of one argument. -/
abbrev Im (F : FTy → Type) [FloatOps F] : Type := FVec F S16x1x512x512 .f32
/-- A whole number at each pixel. -/
abbrev Ix : Type := IVec S16x1x512x512 32

/-- A number given by its word. -/
def num (w : BitVec 32) : FVec F S_ .f32 := constant S_ .f32 w
/-- A number at every pixel. -/
def lit (w : BitVec 32) : Im F := broadcastInDim S16x1x512x512 ![] bcast_S_S16x1x512x512 (num w)
/-- A whole number at every pixel. -/
def ilit (w : BitVec 32) : Ix := broadcastInDim S16x1x512x512 ![] bcast_S_S16x1x512x512 (constantI S_ 32 w)

/-- A weight of the blur, the sum of five numbers. -/
def weight (a b c d e : BitVec 32) : FVec F S_ .f32 := addf (addf (addf (addf (num a) (num b)) (num c)) (num d)) (num e)
/-- The weights of the blur, by the row's and the column's distance from the centre. -/
def w00 : FVec F S_ .f32 := weight 0x3E25FE48#32 0x3158551D#32 0x24AAE23D#32 0x17B500C3#32 0x0A800000#32
@[inherit_doc w00] def w01 : FVec F S_ .f32 := weight 0x3DC95C2B#32 0x317ACD85#32 0x24CD6A8D#32 0x9814EEA2#32 0x8BC80000#32
@[inherit_doc w00] def w11 : FVec F S_ .f32 := weight 0x3D744317#32 0x3093C9E6#32 0xA3F0BF8A#32 0x1709BE2C#32 0x0AC80000#32
@[inherit_doc w00] def w02 : FVec F S_ .f32 := weight 0x3CB3B7CE#32 0x2FF07155#32 0xA2982750#32 0x16335DBC#32 0x89C00000#32
@[inherit_doc w00] def w12 : FVec F S_ .f32 := weight 0x3C5A024A#32 0x2EA19856#32 0xA17B70F6#32 0x145F7AD2#32 0x88000000#32
@[inherit_doc w00] def w22 : FVec F S_ .f32 := weight 0x3B4293D6#32 0xAE3BDBF2#32 0x213E7FA0#32 0x948AE93A#32 0x07800000#32

/-- The images inside a ring of two zeros -/
def ring2 (x : Im F) : FVec F S16x1x516x516 .f32 :=
  pad S16x1x516x516 ![0, 0, 2, 2] ![0, 0, 2, 2] ![0, 0, 0, 0] x (num 0x00000000#32) pads_S16x1x512x512_S16x1x516x516_000_000_220_220 h_S_
/-- and of one. -/
def ring1 (x : Im F) : FVec F S16x1x514x514 .f32 :=
  pad S16x1x514x514 ![0, 0, 1, 1] ![0, 0, 1, 1] ![0, 0, 0, 0] x (num 0x00000000#32) pads_S16x1x512x512_S16x1x514x514_000_000_110_110 h_S_

/-- One term of a stencil: the ringed images moved by `i` rows and `j` columns, times a weight. -/
def tap {n : ℕ} (w : FVec F S_ .f32) (p : FVec F ⟨4, ![16, 1, n, n]⟩ .f32) (i j : ℕ) (h : Shape.Slices ⟨4, ![16, 1, n, n]⟩ ![0, 0, i, j] S16x1x512x512) : Im F :=
  mulf (broadcastInDim S16x1x512x512 ![] bcast_S_S16x1x512x512 w) (extractStridedSlice S16x1x512x512 ![0, 0, i, j] p h)

/-- The 25 terms of the blur. -/
def blurTaps (p : FVec F S16x1x516x516 .f32) : Im F :=
  addf (addf (addf (addf (addf (addf (addf (addf (addf (addf (addf (addf (addf (addf (addf (addf (addf (addf (addf (addf (addf (addf (addf (addf (tap w22 p 0 0 slices_S16x1x516x516_S16x1x512x512_0_0_0_0)
    (tap w12 p 0 1 slices_S16x1x516x516_S16x1x512x512_0_0_0_1))
    (tap w02 p 0 2 slices_S16x1x516x516_S16x1x512x512_0_0_0_2))
    (tap w12 p 0 3 slices_S16x1x516x516_S16x1x512x512_0_0_0_3))
    (tap w22 p 0 4 slices_S16x1x516x516_S16x1x512x512_0_0_0_4))
    (tap w12 p 1 0 slices_S16x1x516x516_S16x1x512x512_0_0_1_0))
    (tap w11 p 1 1 slices_S16x1x516x516_S16x1x512x512_0_0_1_1))
    (tap w01 p 1 2 slices_S16x1x516x516_S16x1x512x512_0_0_1_2))
    (tap w11 p 1 3 slices_S16x1x516x516_S16x1x512x512_0_0_1_3))
    (tap w12 p 1 4 slices_S16x1x516x516_S16x1x512x512_0_0_1_4))
    (tap w02 p 2 0 slices_S16x1x516x516_S16x1x512x512_0_0_2_0))
    (tap w01 p 2 1 slices_S16x1x516x516_S16x1x512x512_0_0_2_1))
    (tap w00 p 2 2 slices_S16x1x516x516_S16x1x512x512_0_0_2_2))
    (tap w01 p 2 3 slices_S16x1x516x516_S16x1x512x512_0_0_2_3))
    (tap w02 p 2 4 slices_S16x1x516x516_S16x1x512x512_0_0_2_4))
    (tap w12 p 3 0 slices_S16x1x516x516_S16x1x512x512_0_0_3_0))
    (tap w11 p 3 1 slices_S16x1x516x516_S16x1x512x512_0_0_3_1))
    (tap w01 p 3 2 slices_S16x1x516x516_S16x1x512x512_0_0_3_2))
    (tap w11 p 3 3 slices_S16x1x516x516_S16x1x512x512_0_0_3_3))
    (tap w12 p 3 4 slices_S16x1x516x516_S16x1x512x512_0_0_3_4))
    (tap w22 p 4 0 slices_S16x1x516x516_S16x1x512x512_0_0_4_0))
    (tap w12 p 4 1 slices_S16x1x516x516_S16x1x512x512_0_0_4_1))
    (tap w02 p 4 2 slices_S16x1x516x516_S16x1x512x512_0_0_4_2))
    (tap w12 p 4 3 slices_S16x1x516x516_S16x1x512x512_0_0_4_3))
    (tap w22 p 4 4 slices_S16x1x516x516_S16x1x512x512_0_0_4_4)
/-- The six terms of the horizontal derivative -/
def gradXTaps (p : FVec F S16x1x514x514 .f32) : Im F :=
  addf (addf (addf (addf (addf (tap (num 0xBF800000#32) p 0 0 slices_S16x1x514x514_S16x1x512x512_0_0_0_0)
    (tap (num 0x3F800000#32) p 0 2 slices_S16x1x514x514_S16x1x512x512_0_0_0_2))
    (tap (num 0xC0000000#32) p 1 0 slices_S16x1x514x514_S16x1x512x512_0_0_1_0))
    (tap (num 0x40000000#32) p 1 2 slices_S16x1x514x514_S16x1x512x512_0_0_1_2))
    (tap (num 0xBF800000#32) p 2 0 slices_S16x1x514x514_S16x1x512x512_0_0_2_0))
    (tap (num 0x3F800000#32) p 2 2 slices_S16x1x514x514_S16x1x512x512_0_0_2_2)
/-- and of the vertical one. -/
def gradYTaps (p : FVec F S16x1x514x514 .f32) : Im F :=
  addf (addf (addf (addf (addf (tap (num 0xBF800000#32) p 0 0 slices_S16x1x514x514_S16x1x512x512_0_0_0_0)
    (tap (num 0xC0000000#32) p 0 1 slices_S16x1x514x514_S16x1x512x512_0_0_0_1))
    (tap (num 0xBF800000#32) p 0 2 slices_S16x1x514x514_S16x1x512x512_0_0_0_2))
    (tap (num 0x3F800000#32) p 2 0 slices_S16x1x514x514_S16x1x512x512_0_0_2_0))
    (tap (num 0x40000000#32) p 2 1 slices_S16x1x514x514_S16x1x512x512_0_0_2_1))
    (tap (num 0x3F800000#32) p 2 2 slices_S16x1x514x514_S16x1x512x512_0_0_2_2)
/-- The eight differences between a pixel and its neighbours. -/
def diffTaps (p : FVec F S16x1x514x514 .f32) : FVec F S16x8x512x512 .f32 :=
  concatenate S16x8x512x512 1 [⟨S16x1x512x512, (addf (tap (num 0x3F800000#32) p 1 1 slices_S16x1x514x514_S16x1x512x512_0_0_1_1) (tap (num 0xBF800000#32) p 1 2 slices_S16x1x514x514_S16x1x512x512_0_0_1_2))⟩,
     ⟨S16x1x512x512, (addf (tap (num 0xBF800000#32) p 0 2 slices_S16x1x514x514_S16x1x512x512_0_0_0_2) (tap (num 0x3F800000#32) p 1 1 slices_S16x1x514x514_S16x1x512x512_0_0_1_1))⟩,
     ⟨S16x1x512x512, (addf (tap (num 0xBF800000#32) p 0 1 slices_S16x1x514x514_S16x1x512x512_0_0_0_1) (tap (num 0x3F800000#32) p 1 1 slices_S16x1x514x514_S16x1x512x512_0_0_1_1))⟩,
     ⟨S16x1x512x512, (addf (tap (num 0xBF800000#32) p 0 0 slices_S16x1x514x514_S16x1x512x512_0_0_0_0) (tap (num 0x3F800000#32) p 1 1 slices_S16x1x514x514_S16x1x512x512_0_0_1_1))⟩,
     ⟨S16x1x512x512, (addf (tap (num 0xBF800000#32) p 1 0 slices_S16x1x514x514_S16x1x512x512_0_0_1_0) (tap (num 0x3F800000#32) p 1 1 slices_S16x1x514x514_S16x1x512x512_0_0_1_1))⟩,
     ⟨S16x1x512x512, (addf (tap (num 0x3F800000#32) p 1 1 slices_S16x1x514x514_S16x1x512x512_0_0_1_1) (tap (num 0xBF800000#32) p 2 0 slices_S16x1x514x514_S16x1x512x512_0_0_2_0))⟩,
     ⟨S16x1x512x512, (addf (tap (num 0x3F800000#32) p 1 1 slices_S16x1x514x514_S16x1x512x512_0_0_1_1) (tap (num 0xBF800000#32) p 2 1 slices_S16x1x514x514_S16x1x512x512_0_0_2_1))⟩,
     ⟨S16x1x512x512, (addf (tap (num 0x3F800000#32) p 1 1 slices_S16x1x514x514_S16x1x512x512_0_0_1_1) (tap (num 0xBF800000#32) p 2 2 slices_S16x1x514x514_S16x1x512x512_0_0_2_2))⟩]
    concatenates_S16x1x512x512_S16x1x512x512_S16x1x512x512_S16x1x512x512_S16x1x512x512_S16x1x512x512_S16x1x512x512_S16x1x512x512_S16x8x512x512_d1

/-- The blurred images. -/
def blur (x : Im F) : Im F := blurTaps (ring2 x)
/-- The two derivatives of an image: of the blurred one. -/
def gx (x : Im F) : Im F := gradXTaps (ring1 (blur x))
@[inherit_doc gx] def gy (x : Im F) : Im F := gradYTaps (ring1 (blur x))
/-- The magnitude of the gradient. -/
def magn (x : Im F) : Im F := Host.sqrt (addf (addf (mulf (gx x) (gx x)) (mulf (gy x) (gy x))) (lit 0x2B8CBCCC#32))
/-- The direction in degrees, a multiple of 45. -/
def orient (x : Im F) : Im F :=
  mulf (Host.roundeven (Host.divf (addf (mulf (Host.atan2 (gy x) (gx x)) (lit 0x42652EE1#32)) (lit 0x43340000#32)) (lit 0x42340000#32)))
    (lit 0x42340000#32)

/-- The divisor 8, with the 1 that would stand for a divisor 0. -/
def eight : IVec S_ 32 := select (cmpi .eq (id (constantI S_ 32 8#32)) (constantI S_ 32 0#32)) (constantI S_ 32 1#32) (id (constantI S_ 32 8#32))
/-- The remainder by it at each pixel, of the dividend's sign. -/
def rem8 (a : Ix) : Ix := Host.remsi a (broadcastInDim S16x1x512x512 ![] bcast_S_S16x1x512x512 eight)
/-- The remainder of the divisor's sign. -/
def mod8 (a : Ix) : Ix :=
  select (andi (cmpi .ne (cmpi .slt (rem8 a) (ilit 0#32)) (broadcastInDim S16x1x512x512 ![] bcast_S_S16x1x512x512 (cmpi .slt eight (constantI S_ 32 0#32))))
      (cmpi .ne (rem8 a) (ilit 0#32)))
    (addi (rem8 a) (broadcastInDim S16x1x512x512 ![] bcast_S_S16x1x512x512 eight)) (rem8 a)
/-- The direction's number among the eight -/
def idxPos (x : Im F) : Ix := mod8 (fptosi 32 (Host.divf (orient x) (lit 0x42340000#32)))
/-- and its opposite's. -/
def idxNeg (x : Im F) : Ix := mod8 (addi (idxPos x) (ilit 4#32))
/-- The number a selection reads, a negative one counted from the end. -/
def look (i : Ix) : IVec S16x1x512x512x1 32 :=
  shapeCast _ (select (cmpi .slt i (ilit 0#32)) (addi i (ilit 8#32)) i) shapeCasts_S16x1x512x512_S16x1x512x512x1
/-- Whether that number is one of the eight. -/
def valid (l : IVec S16x1x512x512x1 32) : IVec S16x1x512x512 1 :=
  Host.reduce IntOp.andi
    (andi (cmpi .sge l (broadcastInDim S16x1x512x512x1 ![] bcast_S_S16x1x512x512x1 (constantI S_ 32 0#32)))
      (cmpi .sle l (broadcastInDim S16x1x512x512x1 ![0, 1, 2, 3, 4] bcast_S1x1x1x1x1_S16x1x512x512x1_0_1_2_3_4
        (broadcastInDim S1x1x1x1x1 ![4] bcast_S1_S1x1x1x1x1_4 (constantI S1 32 7#32)))))
    (constantI S_ 1 1#1) reducesTo_S16x1x512x512x1_S16x1x512x512_d4 h_S_
/-- The differences in the directions numbered `i`. -/
def take (d : FVec F S16x8x512x512 .f32) (i : Ix) : Im F :=
  select (valid (look i)) (Host.gather gather_S16x8x512x512_S16x1x512x512x1_S16x1x512x512_n_1_023_023_1_4_1111 d (look i)) (lit 0x7FC00000#32)
/-- The thinned magnitude. -/
def thin (x : Im F) : Im F :=
  mulf (magn x) (uitofp .f32 (cmpf .ogt
    (minimumf (take (diffTaps (ring1 (magn x))) (idxPos x)) (take (diffTaps (ring1 (magn x))) (idxNeg x))) (lit 0x00000000#32)))

/-- The mean absolute difference of two images, added over the sixteen. -/
def apart (a b : Im F) : FVec F S_ .f32 :=
  Host.reduceAdd (Host.divf (Host.reduceAdd (Host.absf (subf a b)) (num 0x00000000#32) reducesTo_S16x1x512x512_S16_d1_2_3 h_S_)
    (broadcastInDim S16 ![] bcast_S_S16 (num 0x48800000#32))) (num 0x00000000#32) reducesTo_S16_S_d0 h_S_
/-- The result. -/
def score (x y : Im F) : FVec F S_ .f32 := addf (apart (thin x) (thin y)) (apart (orient x) (orient y))

section Match
variable (V0 : Valuation τ sig (Elt F))

/-- The printed blur of the first argument. -/
theorem blur_X : res_main_v199 V0 = blur (V0 (Proc.devRef .tc main_arg0)) := rfl
/-- The printed blur of the second argument. -/
theorem blur_Y : res_main_v535 V0 = blur (V0 (Proc.devRef .tc main_arg1)) := rfl
/-- The printed horizontal derivative of the first argument. -/
theorem gx_X : res_main_v223 V0 = gx (V0 (Proc.devRef .tc main_arg0)) := congrArg (fun b => gradXTaps (ring1 b)) (blur_X V0)
/-- The printed horizontal derivative of the second argument. -/
theorem gx_Y : res_main_v559 V0 = gx (V0 (Proc.devRef .tc main_arg1)) := congrArg (fun b => gradXTaps (ring1 b)) (blur_Y V0)
/-- The printed vertical derivative of the first argument. -/
theorem gy_X : res_main_v247 V0 = gy (V0 (Proc.devRef .tc main_arg0)) := congrArg (fun b => gradYTaps (ring1 b)) (blur_X V0)
/-- The printed vertical derivative of the second argument. -/
theorem gy_Y : res_main_v583 V0 = gy (V0 (Proc.devRef .tc main_arg1)) := congrArg (fun b => gradYTaps (ring1 b)) (blur_Y V0)
/-- The printed gradient magnitude of the first argument. -/
theorem magn_X : res_main_v253 V0 = magn (V0 (Proc.devRef .tc main_arg0)) := by unfold res_main_v253; rw [gx_X, gy_X]; rfl
/-- The printed gradient magnitude of the second argument. -/
theorem magn_Y : res_main_v589 V0 = magn (V0 (Proc.devRef .tc main_arg1)) := by unfold res_main_v589; rw [gx_Y, gy_Y]; rfl
/-- The printed directions of the first argument. -/
theorem orient_X : res_main_v263 V0 = orient (V0 (Proc.devRef .tc main_arg0)) := by unfold res_main_v263; rw [gx_X, gy_X]; rfl
/-- The printed directions of the second argument. -/
theorem orient_Y : res_main_v599 V0 = orient (V0 (Proc.devRef .tc main_arg1)) := by unfold res_main_v599; rw [gx_Y, gy_Y]; rfl
/-- The printed index of the neighbour ahead of the first argument. -/
theorem pos_X : res_main_v267 V0 = idxPos (V0 (Proc.devRef .tc main_arg0)) := by
  unfold res_main_v267 res_main_call1_v4; rw [orient_X]; rfl
/-- The printed index of the neighbour ahead of the second argument. -/
theorem pos_Y : res_main_v603 V0 = idxPos (V0 (Proc.devRef .tc main_arg1)) := by
  unfold res_main_v603 res_main_call6_v4; rw [orient_Y]; rfl
/-- The printed index of the neighbour behind of the first argument. -/
theorem neg_X : res_main_v270 V0 = idxNeg (V0 (Proc.devRef .tc main_arg0)) := by
  unfold res_main_v270 res_main_call2_v4; rw [pos_X]; rfl
/-- The printed index of the neighbour behind of the second argument. -/
theorem neg_Y : res_main_v606 V0 = idxNeg (V0 (Proc.devRef .tc main_arg1)) := by
  unfold res_main_v606 res_main_call7_v4; rw [pos_Y]; rfl
/-- The printed eight differences of the first argument. -/
theorem diff_X : res_main_v328 V0 = diffTaps (ring1 (magn (V0 (Proc.devRef .tc main_arg0)))) :=
  congrArg (fun b => diffTaps (ring1 b)) (magn_X V0)
/-- The printed eight differences of the second argument. -/
theorem diff_Y : res_main_v664 V0 = diffTaps (ring1 (magn (V0 (Proc.devRef .tc main_arg1)))) :=
  congrArg (fun b => diffTaps (ring1 b)) (magn_Y V0)
/-- The printed index looked up ahead of the first argument. -/
theorem lookPos_X : res_main_call3_v5 V0 = look (idxPos (V0 (Proc.devRef .tc main_arg0))) := congrArg look (pos_X V0)
/-- The printed index looked up behind of the first argument. -/
theorem lookNeg_X : res_main_call4_v5 V0 = look (idxNeg (V0 (Proc.devRef .tc main_arg0))) := congrArg look (neg_X V0)
/-- The printed index looked up ahead of the second argument. -/
theorem lookPos_Y : res_main_call8_v5 V0 = look (idxPos (V0 (Proc.devRef .tc main_arg1))) := congrArg look (pos_Y V0)
/-- The printed index looked up behind of the second argument. -/
theorem lookNeg_Y : res_main_call9_v5 V0 = look (idxNeg (V0 (Proc.devRef .tc main_arg1))) := congrArg look (neg_Y V0)

end Match

/-- Every run of the reference program leaves `score` of its two arguments, and the arguments as they were. -/
theorem run_ops (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v684)
        = score (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      rw [magn_X, magn_Y, orient_X, orient_Y, diff_X, diff_Y, lookPos_X, lookNeg_X, lookPos_Y, lookNeg_Y]
      rfl), (h c).2⟩) (run m ρ)

end Cert.ReferenceIdeal.Value

end
-- ==== Proof.ReferencePlanes.lean ====
/- The reference's arrays over the real numbers: each image of an array holds the values of an image of real numbers. The
   stencils over the ringed arrays are the blur and the two derivatives; the magnitude and the direction follow. -/
module

public import proofs.«01_k».proof.Proof.ReferenceOps
public import proofs.«01_k».proof.Proof.Consts
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.Canny

/-- Image `b` of the array `a` holds the image `g`. -/
def Rep (b : Fin 16) (a : Im Ideal) (g : Img) : Prop :=
  ∀ r c : Fin 512, a (ix4 b 0 r c) = ((g (r.val : ℤ) (c.val : ℤ) : ℝ) : EReal)

variable {b : Fin 16} {a a' : Im Ideal} {f g : Img}

/-- The image may be replaced by one that agrees inside. -/
theorem Rep.congr (h : Rep b a g) (hg : ∀ r c, inside r c → g r c = f r c) : Rep b a f :=
  fun r c => by rw [h r c, hg _ _ (by unfold inside; omega)]

/-- Sums are taken pixel by pixel. -/
theorem rep_addf (h : Rep b a f) (h' : Rep b a' g) : Rep b (addf a a') (fun r c => f r c + g r c) := by
  intro r c
  pointwise
  rw [h r c, h' r c, EReal.coe_add]

/-- A term of a stencil over the images inside a ring of two zeros -/
theorem rep_tap2 {w : FVec Ideal S_ .f32} {ω : ℝ} (hw : w ix0 = (ω : EReal)) {i j : ℕ} (di dj : ℤ) (hi : (i : ℤ) = di + 2)
    (hj : (j : ℤ) = dj + 2) {hs : Shape.Slices S16x1x516x516 ![0, 0, i, j] S16x1x512x512} (h : Rep b a f) (hf : Clipped f) :
    Rep b (tap w (ring2 a) i j hs) (fun r c => ω * f (r + di) (c + dj)) := by
  intro r c
  pointwise [tap, ring2, num]
  rw [hw, EReal.coe_mul]
  congr 1
  split_ifs with hin
  · rw [h]
    congr 2 <;> simp only <;> omega
  · rw [hf _ _ (by unfold inside; omega), EReal.coe_zero]

/-- and of one. -/
theorem rep_tap1 {w : FVec Ideal S_ .f32} {ω : ℝ} (hw : w ix0 = (ω : EReal)) {i j : ℕ} (di dj : ℤ) (hi : (i : ℤ) = di + 1)
    (hj : (j : ℤ) = dj + 1) {hs : Shape.Slices S16x1x514x514 ![0, 0, i, j] S16x1x512x512} (h : Rep b a f) (hf : Clipped f) :
    Rep b (tap w (ring1 a) i j hs) (fun r c => ω * f (r + di) (c + dj)) := by
  intro r c
  pointwise [tap, ring1, num]
  rw [hw, EReal.coe_mul]
  congr 1
  split_ifs with hin
  · rw [h]
    congr 2 <;> simp only <;> omega
  · rw [hf _ _ (by unfold inside; omega), EReal.coe_zero]

/-- The weights of the blur: the middle one, -/
theorem at_w00 : (w00 : FVec Ideal S_ .f32) ix0 = ((G0 * G0 : ℝ) : EReal) := weight00
/-- beside it, -/
theorem at_w01 : (w01 : FVec Ideal S_ .f32) ix0 = ((G0 * G1 : ℝ) : EReal) := weight01
/-- diagonally beside it, -/
theorem at_w11 : (w11 : FVec Ideal S_ .f32) ix0 = ((G1 * G1 : ℝ) : EReal) := weight11
/-- two steps from it, -/
theorem at_w02 : (w02 : FVec Ideal S_ .f32) ix0 = ((G0 * G2 : ℝ) : EReal) := weight02
/-- a step and two steps -/
theorem at_w12 : (w12 : FVec Ideal S_ .f32) ix0 = ((G1 * G2 : ℝ) : EReal) := weight12
/-- and two steps on each axis. -/
theorem at_w22 : (w22 : FVec Ideal S_ .f32) ix0 = ((G2 * G2 : ℝ) : EReal) := weight22

/-- The word of 1. -/
theorem lit_one : Ideal.ofBits .f32 0x3F800000#32 = (((1 : ℝ)) : EReal) := by
  simp [Ideal.ofBits, Ideal.ieee, -EReal.coe_mul]; norm_num

/-- The blurred image. -/
theorem rep_blur (h : Rep b a f) (hf : Clipped f) : Rep b (blur a) (Canny.blur f) :=
  Rep.congr (g := _)
    ((rep_addf (rep_addf (rep_addf (rep_addf (rep_addf (rep_addf (rep_addf (rep_addf (rep_addf (rep_addf (rep_addf (rep_addf (rep_addf (rep_addf (rep_addf (rep_addf (rep_addf (rep_addf (rep_addf (rep_addf (rep_addf (rep_addf (rep_addf (rep_addf (rep_tap2 at_w22 (-2) (-2) rfl rfl h hf)
      (rep_tap2 at_w12 (-2) (-1) rfl rfl h hf))
      (rep_tap2 at_w02 (-2) (0) rfl rfl h hf))
      (rep_tap2 at_w12 (-2) (1) rfl rfl h hf))
      (rep_tap2 at_w22 (-2) (2) rfl rfl h hf))
      (rep_tap2 at_w12 (-1) (-2) rfl rfl h hf))
      (rep_tap2 at_w11 (-1) (-1) rfl rfl h hf))
      (rep_tap2 at_w01 (-1) (0) rfl rfl h hf))
      (rep_tap2 at_w11 (-1) (1) rfl rfl h hf))
      (rep_tap2 at_w12 (-1) (2) rfl rfl h hf))
      (rep_tap2 at_w02 (0) (-2) rfl rfl h hf))
      (rep_tap2 at_w01 (0) (-1) rfl rfl h hf))
      (rep_tap2 at_w00 (0) (0) rfl rfl h hf))
      (rep_tap2 at_w01 (0) (1) rfl rfl h hf))
      (rep_tap2 at_w02 (0) (2) rfl rfl h hf))
      (rep_tap2 at_w12 (1) (-2) rfl rfl h hf))
      (rep_tap2 at_w11 (1) (-1) rfl rfl h hf))
      (rep_tap2 at_w01 (1) (0) rfl rfl h hf))
      (rep_tap2 at_w11 (1) (1) rfl rfl h hf))
      (rep_tap2 at_w12 (1) (2) rfl rfl h hf))
      (rep_tap2 at_w22 (2) (-2) rfl rfl h hf))
      (rep_tap2 at_w12 (2) (-1) rfl rfl h hf))
      (rep_tap2 at_w02 (2) (0) rfl rfl h hf))
      (rep_tap2 at_w12 (2) (1) rfl rfl h hf))
      (rep_tap2 at_w22 (2) (2) rfl rfl h hf))) fun r c hin => by
    unfold Canny.blur
    rw [clip_in _ hin]
    unfold colB rowB
    simp only [add_zero, ← sub_eq_add_neg]
    ring

/-- The two derivatives. -/
theorem rep_gx (h : Rep b a f) (hf : Clipped f) : Rep b (gradXTaps (ring1 a)) (gradX f) :=
  Rep.congr (g := _)
    ((rep_addf (rep_addf (rep_addf (rep_addf (rep_addf (rep_tap1 lit_negone (-1) (-1) rfl rfl h hf)
      (rep_tap1 lit_one (-1) (1) rfl rfl h hf))
      (rep_tap1 lit_negtwo (0) (-1) rfl rfl h hf))
      (rep_tap1 lit_two (0) (1) rfl rfl h hf))
      (rep_tap1 lit_negone (1) (-1) rfl rfl h hf))
      (rep_tap1 lit_one (1) (1) rfl rfl h hf))) fun r c _ => by
    unfold gradX
    simp only [add_zero, ← sub_eq_add_neg]
    ring

@[inherit_doc rep_gx] theorem rep_gy (h : Rep b a f) (hf : Clipped f) : Rep b (gradYTaps (ring1 a)) (gradY f) :=
  Rep.congr (g := _)
    ((rep_addf (rep_addf (rep_addf (rep_addf (rep_addf (rep_tap1 lit_negone (-1) (-1) rfl rfl h hf)
      (rep_tap1 lit_negtwo (-1) (0) rfl rfl h hf))
      (rep_tap1 lit_negone (-1) (1) rfl rfl h hf))
      (rep_tap1 lit_one (1) (-1) rfl rfl h hf))
      (rep_tap1 lit_two (1) (0) rfl rfl h hf))
      (rep_tap1 lit_one (1) (1) rfl rfl h hf))) fun r c _ => by
    unfold gradY
    simp only [add_zero, ← sub_eq_add_neg]
    ring

/-- The derivatives of an image -/
theorem rep_gradX (h : Rep b a f) (hf : Clipped f) : Rep b (gx a) (gradX (Canny.blur f)) := rep_gx (rep_blur h hf) (clip_clipped _)
@[inherit_doc rep_gradX] theorem rep_gradY (h : Rep b a f) (hf : Clipped f) : Rep b (gy a) (gradY (Canny.blur f)) :=
  rep_gy (rep_blur h hf) (clip_clipped _)

/-- its magnitude -/
theorem rep_magn (h : Rep b a f) (hf : Clipped f) :
    Rep b (magn a) (mag (gradX (Canny.blur f)) (gradY (Canny.blur f))) := by
  intro r c
  have hin : inside (r.val : ℤ) (c.val : ℤ) := by unfold inside; omega
  have : (0 : ℝ) ≤ EPS := by unfold EPS; norm_num
  unfold mag
  rw [clip_in _ hin]
  pointwise [magn, lit, num]
  rw [rep_gradX h hf r c, rep_gradY h hf r c, lit_eps, ← EReal.coe_mul, ← EReal.coe_mul, ← EReal.coe_add, ← EReal.coe_add,
    Ideal.sqrt_coe, if_neg]
  rw [not_lt]
  nlinarith [mul_self_nonneg (gradX (Canny.blur f) (r.val : ℤ) (c.val : ℤ)), mul_self_nonneg (gradY (Canny.blur f) (r.val : ℤ) (c.val : ℤ))]

/-- and its direction, a number of steps of 45 degrees. -/
theorem rep_orient (h : Rep b a f) (hf : Clipped f) :
    Rep b (orient a) (fun r c => ((bin (gradX (Canny.blur f) r c) (gradY (Canny.blur f) r c) : ℤ) : ℝ) * 45) := by
  intro r c
  pointwise [orient, lit, num]
  rw [rep_gradX h hf r c, rep_gradY h hf r c, lit_deg, lit_h180, lit_h45]
  have e : ∀ x y : ℝ, Ideal.atan2 (y : EReal) (x : EReal) = ((angle y x : ℝ) : EReal) := fun _ _ => rfl
  rw [e, ← EReal.coe_mul, ← EReal.coe_add, Ideal.div_coe (by norm_num), ← EReal.coe_mul, Ideal.liftRound_coe, ← EReal.coe_mul]
  unfold bin turns
  rw [div_eq_mul_one_div (angle _ _ * DEG + 180) (45 : ℝ)]

end Cert.ReferenceIdeal.Value

end
-- ==== Proof.ReferenceThin.lean ====
/- The reference's thinned magnitude over the real numbers. Where each pixel's direction is decided, its number among the eight
   is a small whole number, the selection reads the difference of that number, and the product with the test is `thinR`. -/
module

public import proofs.«01_k».proof.Proof.ReferencePlanes
public import Idealize.ShloMosaic.Lib.StableHlo.Predicate

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.Canny

variable {b : Fin 16} {a : Im Ideal} {f g : Img}

/-- The remainder by eight of a small number. -/
theorem mod8_small (i : Ix) (b : Fin 16) (r c : Fin 512) {n : ℕ} (hn : n ≤ 11) (h : i (ix4 b 0 r c) = BitVec.ofNat 32 n) :
    mod8 i (ix4 b 0 r c) = BitVec.ofNat 32 (n % 8) := by
  pointwise [mod8, rem8, eight, ilit]
  rw [h]
  interval_cases n <;> rfl

/-- A small number converted to a whole one. -/
theorem fptosi_small {n : ℕ} (hn : n ≤ 8) : Ideal.fptosi 32 (((n : ℝ)) : EReal) = BitVec.ofNat 32 n := by
  have h0 : (0 : ℝ) ≤ (n : ℝ) := Nat.cast_nonneg n
  unfold Ideal.fptosi
  show BitVec.ofInt 32 (max _ (min _ (if (0 : ℝ) ≤ (n : ℝ) then ⌊(n : ℝ)⌋ else ⌈(n : ℝ)⌉))) = _
  rw [if_pos h0, Int.floor_natCast]
  interval_cases n <;> rfl

/-- The number of a pixel's direction -/
theorem idxPos_at (h : Rep b a f) (hf : Clipped f) (r c : Fin 512) {n : ℕ} (hn : n ≤ 8)
    (hb : bin (gradX (Canny.blur f) r c) (gradY (Canny.blur f) r c) = n) :
    idxPos a (ix4 b 0 r c) = BitVec.ofNat 32 (n % 8) := by
  refine mod8_small _ b r c (by omega) ?_
  pointwise [lit, num]
  rw [rep_orient h hf r c]
  simp only [hb]
  rw [lit_h45, Ideal.div_coe (by norm_num), ← EReal.coe_mul]
  refine Eq.trans (congrArg _ (congrArg _ ?_)) (fptosi_small hn)
  push_cast
  ring

/-- and of its opposite. -/
theorem idxNeg_at (h : Rep b a f) (hf : Clipped f) (r c : Fin 512) {n : ℕ} (hn : n ≤ 8)
    (hb : bin (gradX (Canny.blur f) r c) (gradY (Canny.blur f) r c) = n) :
    idxNeg a (ix4 b 0 r c) = BitVec.ofNat 32 ((n % 8 + 4) % 8) := by
  refine mod8_small _ b r c (by omega) ?_
  pointwise [ilit]
  rw [idxPos_at h hf r c hn hb]
  interval_cases n <;> rfl

/-- A number below eight is looked up as it is. -/
theorem look_small (i : Ix) (b : Fin 16) (r c : Fin 512) {k : ℕ} (hk : k < 8) (h : i (ix4 b 0 r c) = BitVec.ofNat 32 k) :
    look i (ix5 b 0 r c 0) = BitVec.ofNat 32 k := by
  pointwise [look, ilit]
  rw [h]
  interval_cases k <;> rfl

/-- If all numbers are below eight, all are valid. -/
theorem valid_all (i : Ix) (h : ∀ b r c, ∃ k < 8, i (ix4 b 0 r c) = BitVec.ofNat 32 k) (j : S16x1x512x512.Idx) :
    valid (look i) j = 1#1 := by
  have e : ∀ q : S16x1x512x512x1.Idx,
      andi (cmpi .sge (look i) (broadcastInDim S16x1x512x512x1 ![] bcast_S_S16x1x512x512x1 (constantI S_ 32 0#32)))
        (cmpi .sle (look i) (broadcastInDim S16x1x512x512x1 ![0, 1, 2, 3, 4] bcast_S1x1x1x1x1_S16x1x512x512x1_0_1_2_3_4
          (broadcastInDim S1x1x1x1x1 ![4] bcast_S1_S1x1x1x1x1_4 (constantI S1 32 7#32)))) q = 1#1 := by
    have e0 : ∀ (b : Fin 16) (r c : Fin 512), IntOp.andi (IntOp.cmpi .sge (look i (ix5 b 0 r c 0)) 0#32)
        (IntOp.cmpi .sle (look i (ix5 b 0 r c 0)) 7#32) = 1#1 := fun b r c => by
      obtain ⟨k, hk, hi⟩ := h b r c
      rw [look_small i b r c hk hi]
      interval_cases k <;> rfl
    have e1 : ∀ (b : Fin 16) (u : Fin 1) (r c : Fin 512) (v : Fin 1), IntOp.andi (IntOp.cmpi .sge (look i (ix5 b u r c v)) 0#32)
        (IntOp.cmpi .sle (look i (ix5 b u r c v)) 7#32) = 1#1 := fun b u r c v => by
      rw [Subsingleton.elim u 0, Subsingleton.elim v 0]; exact e0 b r c
    intro q
    exact (congrArg _ (eq_ix5 q)).trans (e1 (q 0) (q 1) (q 2) (q 3) (q 4))
  unfold valid Host.reduce
  generalize List.filter _ _ = l
  show List.foldl _ (1#1) l = 1#1
  induction l with
  | nil => rfl
  | cons n l ih => rw [List.foldl_cons, e]; exact ih

/-- What a selection reads: the array at the looked-up number. -/
theorem gather_at (d : FVec Ideal S16x8x512x512 .f32) (l : IVec S16x1x512x512x1 32) (b : Fin 16) (r c : Fin 512) (k : Fin 8)
    (h : l (ix5 b 0 r c 0) = BitVec.ofNat 32 k.val) :
    Host.gather gather_S16x8x512x512_S16x1x512x512x1_S16x1x512x512_n_1_023_023_1_4_1111 d l (ix4 b 0 r c) = d (ix4 b k r c) := by
  have hs : ∀ x : Fin 1, GatherDims.siIdx gather_S16x8x512x512_S16x1x512x512x1_S16x1x512x512_n_1_023_023_1_4_1111 (ix4 b 0 r c) x
      = ix5 b 0 r c x := by
    intro x
    funext u
    match u with
    | ⟨0, _⟩ => rfl
    | ⟨1, _⟩ => rfl
    | ⟨2, _⟩ => rfl
    | ⟨3, _⟩ => rfl
    | ⟨4, _⟩ => rfl
  unfold Host.gather
  congr 1
  funext u
  apply Fin.ext
  match u with
  | ⟨0, _⟩ => exact (show 0 + b.val + 0 = b.val by omega)
  | ⟨2, _⟩ => exact (show 0 + r.val + 0 = r.val by omega)
  | ⟨3, _⟩ => exact (show 0 + c.val + 0 = c.val by omega)
  | ⟨1, _⟩ =>
    show min (l (GatherDims.siIdx gather_S16x8x512x512_S16x1x512x512x1_S16x1x512x512_n_1_023_023_1_4_1111 (ix4 b 0 r c) (0 : Fin 1))).toInt.toNat 7 + 0 + 0 = k.val
    rw [hs, h]
    clear hs h
    revert k
    decide

/-- The differences from the eight neighbours. -/
theorem diff_at (h : Rep b a f) (hf : Clipped f) (i : Fin 8) (r c : Fin 512) :
    diffTaps (ring1 a) (ix4 b i r c) = ((diff f i r c : ℝ) : EReal) := by
  have t := fun {w : FVec Ideal S_ .f32} {ω : ℝ} (hw : w ix0 = (ω : EReal)) {i j : ℕ} (di dj : ℤ) (hi : (i : ℤ) = di + 1)
    (hj : (j : ℤ) = dj + 1) (hs : Shape.Slices S16x1x514x514 ![0, 0, i, j] S16x1x512x512) =>
      rep_tap1 hw di dj hi hj (hs := hs) h hf r c
  have one := t (w := num 0x3F800000#32) lit_one 0 0 (i := 1) (j := 1) rfl rfl slices_S16x1x514x514_S16x1x512x512_0_0_1_1
  have d0 := t (w := num 0xBF800000#32) lit_negone 0 1 (i := 1) (j := 2) rfl rfl slices_S16x1x514x514_S16x1x512x512_0_0_1_2
  have d1 := t (w := num 0xBF800000#32) lit_negone (-1) 1 (i := 0) (j := 2) rfl rfl slices_S16x1x514x514_S16x1x512x512_0_0_0_2
  have d2 := t (w := num 0xBF800000#32) lit_negone (-1) 0 (i := 0) (j := 1) rfl rfl slices_S16x1x514x514_S16x1x512x512_0_0_0_1
  have d3 := t (w := num 0xBF800000#32) lit_negone (-1) (-1) (i := 0) (j := 0) rfl rfl slices_S16x1x514x514_S16x1x512x512_0_0_0_0
  have d4 := t (w := num 0xBF800000#32) lit_negone 0 (-1) (i := 1) (j := 0) rfl rfl slices_S16x1x514x514_S16x1x512x512_0_0_1_0
  have d5 := t (w := num 0xBF800000#32) lit_negone 1 (-1) (i := 2) (j := 0) rfl rfl slices_S16x1x514x514_S16x1x512x512_0_0_2_0
  have d6 := t (w := num 0xBF800000#32) lit_negone 1 0 (i := 2) (j := 1) rfl rfl slices_S16x1x514x514_S16x1x512x512_0_0_2_1
  have d7 := t (w := num 0xBF800000#32) lit_negone 1 1 (i := 2) (j := 2) rfl rfl slices_S16x1x514x514_S16x1x512x512_0_0_2_2
  pointwise [diffTaps]
  match i with
  | ⟨0, _⟩ => exact (congrArg₂ (· + ·) one d0).trans ((EReal.coe_add _ _).symm.trans (congrArg Real.toEReal (by simp [diff, dr, dc, ← sub_eq_add_neg])))
  | ⟨1, _⟩ => exact (congrArg₂ (· + ·) d1 one).trans ((EReal.coe_add _ _).symm.trans (congrArg Real.toEReal (by simp [diff, dr, dc, ← sub_eq_add_neg]; ring)))
  | ⟨2, _⟩ => exact (congrArg₂ (· + ·) d2 one).trans ((EReal.coe_add _ _).symm.trans (congrArg Real.toEReal (by simp [diff, dr, dc, ← sub_eq_add_neg]; ring)))
  | ⟨3, _⟩ => exact (congrArg₂ (· + ·) d3 one).trans ((EReal.coe_add _ _).symm.trans (congrArg Real.toEReal (by simp [diff, dr, dc, ← sub_eq_add_neg]; ring)))
  | ⟨4, _⟩ => exact (congrArg₂ (· + ·) d4 one).trans ((EReal.coe_add _ _).symm.trans (congrArg Real.toEReal (by simp [diff, dr, dc, ← sub_eq_add_neg]; ring)))
  | ⟨5, _⟩ => exact (congrArg₂ (· + ·) one d5).trans ((EReal.coe_add _ _).symm.trans (congrArg Real.toEReal (by simp [diff, dr, dc, ← sub_eq_add_neg])))
  | ⟨6, _⟩ => exact (congrArg₂ (· + ·) one d6).trans ((EReal.coe_add _ _).symm.trans (congrArg Real.toEReal (by simp [diff, dr, dc, ← sub_eq_add_neg])))
  | ⟨7, _⟩ => exact (congrArg₂ (· + ·) one d7).trans ((EReal.coe_add _ _).symm.trans (congrArg Real.toEReal (by simp [diff, dr, dc, ← sub_eq_add_neg])))

/-- A choice at each pixel. -/
theorem select_apply (p : IVec S16x1x512x512 1) (x y : Im Ideal) (j : S16x1x512x512.Idx) :
    select p x y j = Scalar.select (p j) (x j) (y j) := rfl

/-- The product of a magnitude with the test that two differences are positive. -/
theorem test_apply (m p q : Im Ideal) (j : S16x1x512x512.Idx) :
    mulf m (uitofp .f32 (cmpf .ogt (minimumf p q) (lit 0x00000000#32))) j
      = m j * FloatOps.uitofp .f32 (BitVec.ofBool (decide (0 < min (p j) (q j)))) := by
  rw [eq_ix4 j]
  pointwise [lit, num]

/-- A selection of one of the differences. -/
theorem take_at (h : Rep b a f) (hf : Clipped f) (i : Ix) (hi : ∀ b r c, ∃ k < 8, i (ix4 b 0 r c) = BitVec.ofNat 32 k)
    (k : Fin 8) (r c : Fin 512) (hk : i (ix4 b 0 r c) = BitVec.ofNat 32 k.val) :
    take (diffTaps (ring1 a)) i (ix4 b 0 r c) = ((diff f k r c : ℝ) : EReal) := by
  unfold take
  rw [select_apply, valid_all i hi, gather_at _ _ b r c k (look_small i b r c k.isLt hk), diff_at h hf]
  exact if_pos rfl

/-- The thinned magnitude of an image, if every pixel's direction is decided in all sixteen. -/
theorem rep_thin (x : Im Ideal) (f : Fin 16 → Img) (h : ∀ b, Rep b x (f b)) (hf : ∀ b, Clipped (f b))
    (hd : ∀ (b : Fin 16) (r c : Fin 512), Decided (corner r c) (gradX (Canny.blur (f b)) r c) (gradY (Canny.blur (f b)) r c)) (b : Fin 16) :
    Rep b (thin x) (thinK (gradX (Canny.blur (f b))) (gradY (Canny.blur (f b)))
      (mag (gradX (Canny.blur (f b))) (gradY (Canny.blur (f b))))) := by
  have hn : ∀ (b : Fin 16) (r c : Fin 512), ∃ n : ℕ, n ≤ 8 ∧ bin (gradX (Canny.blur (f b)) r c) (gradY (Canny.blur (f b)) r c) = n := by
    intro b r c
    obtain ⟨h0, h8⟩ := bin_range (hd b r c)
    exact ⟨(bin (gradX (Canny.blur (f b)) r c) (gradY (Canny.blur (f b)) r c)).toNat, by omega, by omega⟩
  have hp : ∀ b r c, ∃ k < 8, idxPos x (ix4 b 0 r c) = BitVec.ofNat 32 k := fun b r c => by
    obtain ⟨n, h8, e⟩ := hn b r c
    exact ⟨_, by omega, idxPos_at (h b) (hf b) r c h8 e⟩
  have hg : ∀ b r c, ∃ k < 8, idxNeg x (ix4 b 0 r c) = BitVec.ofNat 32 k := fun b r c => by
    obtain ⟨n, h8, e⟩ := hn b r c
    exact ⟨_, by omega, idxNeg_at (h b) (hf b) r c h8 e⟩
  intro r c
  obtain ⟨n, h8, e⟩ := hn b r c
  have hin : inside (r.val : ℤ) (c.val : ℤ) := by unfold inside; omega
  have hm := rep_magn (h b) (hf b)
  have ep := take_at hm (clip_clipped _) _ hp ⟨n % 8, by omega⟩ r c (idxPos_at (h b) (hf b) r c h8 e)
  have en := take_at hm (clip_clipped _) _ hg (⟨n % 8, by omega⟩ + 4) r c
    ((idxNeg_at (h b) (hf b) r c h8 e).trans (congrArg _ (by rw [Fin.val_add]; rfl)))
  rw [← thin_agree _ _ hin (hd b r c) ⟨n % 8, by omega⟩ (by rw [e]; push_cast; rfl)]
  unfold thin
  rw [test_apply, hm r c, ep, en, ← EReal.coe_strictMono.monotone.map_min]
  unfold thinR
  rw [EReal.coe_mul]
  refine congrArg₂ (· * ·) rfl ?_
  by_cases hc : 0 < min (diff (mag (gradX (Canny.blur (f b))) (gradY (Canny.blur (f b)))) ⟨n % 8, by omega⟩ r c)
      (diff (mag (gradX (Canny.blur (f b))) (gradY (Canny.blur (f b)))) (⟨n % 8, by omega⟩ + 4) r c)
  · rw [if_pos hc, decide_eq_true (EReal.coe_pos.2 hc)]
    exact congrArg Real.toEReal (show ((1 : ℕ) : ℝ) = 1 by norm_num)
  · rw [if_neg hc, decide_eq_false (fun h => hc (EReal.coe_pos.1 h))]
    exact congrArg Real.toEReal (show ((0 : ℕ) : ℝ) = 0 by norm_num)

end Cert.ReferenceIdeal.Value

end
-- ==== Proof.PredicateOps.lean ====
/- The precondition as the same operations the reference is made of: pixel by pixel, the image is finite there, its gradient's
   slope is off two narrow ranges, and the gradient does not point due left, nor vanish in two of the corners. -/
module

public import proofs.«01_k».proof.Proof.ReferenceOps
public import proofs.«01_k».proof.Pre_directions_decided

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo

/-- The shapes' facts the precondition's operations take are the reference's. -/
instance preFacts : Cert.Pre_directions_decided.Facts where
  pads_S16x1x512x512_S16x1x516x516_000_000_220_220 := Cert.ReferenceIdeal.Gen.pads_S16x1x512x512_S16x1x516x516_000_000_220_220
  h_S_ := Cert.ReferenceIdeal.Gen.h_S_
  slices_S16x1x516x516_S16x1x512x512_0_0_0_0 := Cert.ReferenceIdeal.Gen.slices_S16x1x516x516_S16x1x512x512_0_0_0_0
  bcast_S_S16x1x512x512 := Cert.ReferenceIdeal.Gen.bcast_S_S16x1x512x512
  slices_S16x1x516x516_S16x1x512x512_0_0_0_1 := Cert.ReferenceIdeal.Gen.slices_S16x1x516x516_S16x1x512x512_0_0_0_1
  slices_S16x1x516x516_S16x1x512x512_0_0_0_2 := Cert.ReferenceIdeal.Gen.slices_S16x1x516x516_S16x1x512x512_0_0_0_2
  slices_S16x1x516x516_S16x1x512x512_0_0_0_3 := Cert.ReferenceIdeal.Gen.slices_S16x1x516x516_S16x1x512x512_0_0_0_3
  slices_S16x1x516x516_S16x1x512x512_0_0_0_4 := Cert.ReferenceIdeal.Gen.slices_S16x1x516x516_S16x1x512x512_0_0_0_4
  slices_S16x1x516x516_S16x1x512x512_0_0_1_0 := Cert.ReferenceIdeal.Gen.slices_S16x1x516x516_S16x1x512x512_0_0_1_0
  slices_S16x1x516x516_S16x1x512x512_0_0_1_1 := Cert.ReferenceIdeal.Gen.slices_S16x1x516x516_S16x1x512x512_0_0_1_1
  slices_S16x1x516x516_S16x1x512x512_0_0_1_2 := Cert.ReferenceIdeal.Gen.slices_S16x1x516x516_S16x1x512x512_0_0_1_2
  slices_S16x1x516x516_S16x1x512x512_0_0_1_3 := Cert.ReferenceIdeal.Gen.slices_S16x1x516x516_S16x1x512x512_0_0_1_3
  slices_S16x1x516x516_S16x1x512x512_0_0_1_4 := Cert.ReferenceIdeal.Gen.slices_S16x1x516x516_S16x1x512x512_0_0_1_4
  slices_S16x1x516x516_S16x1x512x512_0_0_2_0 := Cert.ReferenceIdeal.Gen.slices_S16x1x516x516_S16x1x512x512_0_0_2_0
  slices_S16x1x516x516_S16x1x512x512_0_0_2_1 := Cert.ReferenceIdeal.Gen.slices_S16x1x516x516_S16x1x512x512_0_0_2_1
  slices_S16x1x516x516_S16x1x512x512_0_0_2_2 := Cert.ReferenceIdeal.Gen.slices_S16x1x516x516_S16x1x512x512_0_0_2_2
  slices_S16x1x516x516_S16x1x512x512_0_0_2_3 := Cert.ReferenceIdeal.Gen.slices_S16x1x516x516_S16x1x512x512_0_0_2_3
  slices_S16x1x516x516_S16x1x512x512_0_0_2_4 := Cert.ReferenceIdeal.Gen.slices_S16x1x516x516_S16x1x512x512_0_0_2_4
  slices_S16x1x516x516_S16x1x512x512_0_0_3_0 := Cert.ReferenceIdeal.Gen.slices_S16x1x516x516_S16x1x512x512_0_0_3_0
  slices_S16x1x516x516_S16x1x512x512_0_0_3_1 := Cert.ReferenceIdeal.Gen.slices_S16x1x516x516_S16x1x512x512_0_0_3_1
  slices_S16x1x516x516_S16x1x512x512_0_0_3_2 := Cert.ReferenceIdeal.Gen.slices_S16x1x516x516_S16x1x512x512_0_0_3_2
  slices_S16x1x516x516_S16x1x512x512_0_0_3_3 := Cert.ReferenceIdeal.Gen.slices_S16x1x516x516_S16x1x512x512_0_0_3_3
  slices_S16x1x516x516_S16x1x512x512_0_0_3_4 := Cert.ReferenceIdeal.Gen.slices_S16x1x516x516_S16x1x512x512_0_0_3_4
  slices_S16x1x516x516_S16x1x512x512_0_0_4_0 := Cert.ReferenceIdeal.Gen.slices_S16x1x516x516_S16x1x512x512_0_0_4_0
  slices_S16x1x516x516_S16x1x512x512_0_0_4_1 := Cert.ReferenceIdeal.Gen.slices_S16x1x516x516_S16x1x512x512_0_0_4_1
  slices_S16x1x516x516_S16x1x512x512_0_0_4_2 := Cert.ReferenceIdeal.Gen.slices_S16x1x516x516_S16x1x512x512_0_0_4_2
  slices_S16x1x516x516_S16x1x512x512_0_0_4_3 := Cert.ReferenceIdeal.Gen.slices_S16x1x516x516_S16x1x512x512_0_0_4_3
  slices_S16x1x516x516_S16x1x512x512_0_0_4_4 := Cert.ReferenceIdeal.Gen.slices_S16x1x516x516_S16x1x512x512_0_0_4_4
  pads_S16x1x512x512_S16x1x514x514_000_000_110_110 := Cert.ReferenceIdeal.Gen.pads_S16x1x512x512_S16x1x514x514_000_000_110_110
  slices_S16x1x514x514_S16x1x512x512_0_0_0_0 := Cert.ReferenceIdeal.Gen.slices_S16x1x514x514_S16x1x512x512_0_0_0_0
  slices_S16x1x514x514_S16x1x512x512_0_0_0_2 := Cert.ReferenceIdeal.Gen.slices_S16x1x514x514_S16x1x512x512_0_0_0_2
  slices_S16x1x514x514_S16x1x512x512_0_0_1_0 := Cert.ReferenceIdeal.Gen.slices_S16x1x514x514_S16x1x512x512_0_0_1_0
  slices_S16x1x514x514_S16x1x512x512_0_0_1_2 := Cert.ReferenceIdeal.Gen.slices_S16x1x514x514_S16x1x512x512_0_0_1_2
  slices_S16x1x514x514_S16x1x512x512_0_0_2_0 := Cert.ReferenceIdeal.Gen.slices_S16x1x514x514_S16x1x512x512_0_0_2_0
  slices_S16x1x514x514_S16x1x512x512_0_0_2_2 := Cert.ReferenceIdeal.Gen.slices_S16x1x514x514_S16x1x512x512_0_0_2_2
  slices_S16x1x514x514_S16x1x512x512_0_0_0_1 := Cert.ReferenceIdeal.Gen.slices_S16x1x514x514_S16x1x512x512_0_0_0_1
  slices_S16x1x514x514_S16x1x512x512_0_0_2_1 := Cert.ReferenceIdeal.Gen.slices_S16x1x514x514_S16x1x512x512_0_0_2_1

variable {F : FTy → Type} [FloatOps F]

/-- The size of the vertical derivative is at most the slope `lo` times the horizontal one's, or at least `hi` times. -/
def off (x : Im F) (lo hi : BitVec 32) : IVec S16x1x512x512 1 :=
  ori (cmpf .ole (Host.absf (gy x)) (mulf (lit lo) (Host.absf (gx x)))) (cmpf .oge (Host.absf (gy x)) (mulf (lit hi) (Host.absf (gx x))))
/-- The top right and the bottom left pixel. -/
def corners : IVec S16x1x512x512 1 :=
  ori (andi (cmpi .eq (iotaInDim S16x1x512x512 32 2) (ilit 0#32)) (cmpi .eq (iotaInDim S16x1x512x512 32 3) (ilit 511#32)))
    (andi (cmpi .eq (iotaInDim S16x1x512x512 32 2) (ilit 511#32)) (cmpi .eq (iotaInDim S16x1x512x512 32 3) (ilit 0#32)))
/-- The gradient does not point due left, and where it vanishes the pixel is neither of those two. -/
def turned (x : Im F) : IVec S16x1x512x512 1 :=
  ori (ori (cmpf .une (gy x) (lit 0x00000000#32)) (cmpf .ogt (gx x) (lit 0x00000000#32)))
    (andi (cmpf .oeq (gx x) (lit 0x00000000#32)) (noti corners))
/-- The pixel is finite. -/
def finite (x : Im F) : IVec S16x1x512x512 1 := cmpf .olt (Host.absf x) (lit 0x7F800000#32)
/-- The precondition on one image. -/
def decided (x : Im F) : IVec S16x1x512x512 1 :=
  andi (andi (andi (finite x) (off x 0x3ED413CC#32 0x3ED413CF#32)) (off x 0x401A8279#32 0x401A827B#32)) (turned x)

/-- The precondition holds of both images. -/
theorem pre_eq (x y : Im F) : Cert.Pre_directions_decided.fn x y = andi (decided x) (decided y) := rfl

end Cert.ReferenceIdeal.Value

end
-- ==== Proof.Predicate.lean ====
/- What the precondition says over the real numbers: every pixel is a real number, and every pixel's gradient satisfies
   `Decided`. -/
module

public import proofs.«01_k».proof.Proof.PredicateOps
public import proofs.«01_k».proof.Proof.ReferencePlanes
public import Idealize.ShloMosaic.Lib.StableHlo.Predicate

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.Canny

/-- Image `b` of an array as an image of real numbers. -/
def img (x : Im Ideal) (b : Fin 16) : Img := fun r c =>
  if h : inside r c then (x (ix4 b 0 ⟨r.toNat, by unfold inside at h; omega⟩ ⟨c.toNat, by unfold inside at h; omega⟩)).toReal else 0

/-- It is zero outside. -/
theorem img_clipped (x : Im Ideal) (b : Fin 16) : Clipped (img x b) := fun _ _ h => dif_neg h

/-- The conjunction of two bits, -/
theorem andi_one (p q : BitVec 1) : IntOp.andi p q = 1#1 ↔ p = 1#1 ∧ q = 1#1 := by
  revert p q; decide

/-- their disjunction -/
theorem ori_one (p q : BitVec 1) : IntOp.ori p q = 1#1 ↔ p = 1#1 ∨ q = 1#1 := by
  revert p q; decide

/-- and the negation of one, read as propositions. -/
theorem not_one (p : BitVec 1) : ~~~p = 1#1 ↔ ¬p = 1#1 := by
  revert p; decide

/-- The word of infinity. -/
theorem lit_inf : Ideal.ofBits .f32 0x7F800000#32 = ⊤ := by
  simp [Ideal.ofBits, Ideal.ieee]

/-- A number of finite size is real. -/
theorem coe_of_absf_lt (v : EReal) (h : FloatOps.absf (F := Ideal) (φ := .f32) v < ⊤) : v = ((v.toReal : ℝ) : EReal) := by
  induction v with
  | bot => exact absurd h (by show ¬max (⊥ : EReal) (-⊥) < ⊤; simp)
  | top => exact absurd h (by show ¬max (⊤ : EReal) (-⊤) < ⊤; simp)
  | coe r => rfl

/-- Two small words are compared as the numbers they hold. -/
theorem word_eq (n k : ℕ) (hn : n < 512) (hk : k < 512) : IntOp.cmpi .eq (BitVec.ofNat 32 n) (BitVec.ofNat 32 k) = 1#1 ↔ n = k := by
  rw [Predicate.cmpi_eq_iff]
  constructor
  · intro h
    have := congrArg BitVec.toNat h
    simp only [BitVec.toNat_ofNat] at this
    omega
  · rintro rfl; rfl

/-- Pixels are finite where the precondition holds. -/
theorem finite_at (x : Im Ideal) (b : Fin 16) (r c : Fin 512) (h : decided x (ix4 b 0 r c) = 1#1) :
    x (ix4 b 0 r c) = ((img x b r c : ℝ) : EReal) := by
  pointwise [decided, finite, corners, off, turned, ilit, lit, num] at h
  simp only [andi_one, Predicate.ofBool_eq_one_iff, decide_eq_true_eq, lit_inf] at h
  refine (coe_of_absf_lt _ h.1.1.1).trans ?_
  unfold img
  rw [dif_pos (show inside (r.val : ℤ) (c.val : ℤ) by unfold inside; omega)]
  rfl

/-- So every image is one of real numbers. -/
theorem rep_img (x : Im Ideal) (h : ∀ b r c, decided x (ix4 b 0 r c) = 1#1) (b : Fin 16) : Rep b x (img x b) :=
  fun r c => finite_at x b r c (h b r c)

/-- Every pixel's direction is decided. -/
theorem decided_at (x : Im Ideal) (h : ∀ b r c, decided x (ix4 b 0 r c) = 1#1) (b : Fin 16) (r c : Fin 512) :
    Decided (corner r c) (gradX (Canny.blur (img x b)) r c) (gradY (Canny.blur (img x b)) r c) := by
  have k := h b r c
  have hx := rep_gradX (rep_img x h b) (img_clipped x b) r c
  have hy := rep_gradY (rep_img x h b) (img_clipped x b) r c
  pointwise [decided, finite, corners, off, turned, ilit, lit, num] at k
  simp only [andi_one, ori_one, not_one, Predicate.ofBool_eq_one_iff, decide_eq_true_eq, hx, hy, absf_coe, lit_b1, lit_a1, lit_b2,
    lit_a2, ← EReal.coe_mul, EReal.coe_le_coe_iff, word_eq _ 0 (Fin.isLt _) (by norm_num), word_eq _ 511 (Fin.isLt _) (by norm_num),
    ne_eq, EReal.coe_eq_zero, EReal.coe_pos] at k
  obtain ⟨⟨⟨-, k1⟩, k2⟩, k3⟩ := k
  refine ⟨k1, k2, ?_⟩
  rcases k3 with (k3 | k3) | ⟨k3, k4⟩
  · exact Or.inl k3
  · exact Or.inr (Or.inl k3)
  · refine Or.inr (Or.inr ⟨k3, fun hc => k4 ?_⟩)
    unfold corner at hc
    omega

end Cert.ReferenceIdeal.Value

end
-- ==== Proof.ReferenceValue.lean ====
/- The reference's result over the real numbers. -/
module

public import proofs.«01_k».proof.Proof.ReferenceThin
public import proofs.«01_k».proof.Proof.Predicate
public import proofs.«01_k».proof.Proof.Score

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.Canny

/-- The indices of an array that lie in image `b` are its pixels. -/
theorem fiber (h : S16x1x512x512.ReducesTo [1, 2, 3] S16) (b : Fin 16) (i : S16x1x512x512.Idx) :
    h.drop i = ix1 b ↔ ∃ k : Fin 512 × Fin 512, ix4 b (0 : Fin 1) k.1 k.2 = i := by
  constructor
  · intro e
    refine ⟨(i 2, i 3), ?_⟩
    funext a; apply Fin.ext
    match a with
    | ⟨0, _⟩ => exact (congrArg Fin.val (congrFun e (0 : Fin 1))).symm
    | ⟨1, _⟩ => exact (Nat.lt_one_iff.1 (i 1).isLt).symm
    | ⟨2, _⟩ => rfl
    | ⟨3, _⟩ => rfl
  · rintro ⟨k, rfl⟩
    funext u
    apply Fin.ext
    match u with
    | ⟨0, _⟩ => rfl

/-- A sum over image `b`. -/
theorem sum_image (h : S16x1x512x512.ReducesTo [1, 2, 3] S16) (x : S16x1x512x512.Idx → EReal) (b : Fin 16) :
    Ideal.hostReduceAdd h x 0 (ix1 b) = ∑ r : Fin 512, ∑ c : Fin 512, x (ix4 b 0 r c) := by
  unfold Ideal.hostReduceAdd
  rw [zero_add]
  refine (Finset.sum_filter_eq_sum_of_fiber _ (fun k : Fin 512 × Fin 512 => ix4 b (0 : Fin 1) k.1 k.2)
    (fun _ _ e => Prod.ext (congrFun e 2) (congrFun e 3)) (fiber h b) x).trans ?_
  simp only [Fintype.sum_prod_type]

/-- The distance of two arrays, added over the images. -/
theorem apart_at {x y : Im Ideal} {f g : Fin 16 → Img} (hx : ∀ b, Rep b x (f b)) (hy : ∀ b, Rep b y (g b)) :
    apart x y ix0 = (((∑ b, gap (f b) (g b)) / 262144 : ℝ) : EReal) := by
  have e : ∀ b r c, Host.absf (subf x y) (ix4 b 0 r c) = ((|f b (r.val : ℤ) (c.val : ℤ) - g b (r.val : ℤ) (c.val : ℤ)| : ℝ) : EReal) := by
    intro b r c
    pointwise
    rw [hx b r c, hy b r c, ← EReal.coe_sub, absf_coe]
  pointwise [apart, num]
  rw [lit_count]
  simp only [sum_image, e, coe_sum, Ideal.div_coe (show (262144 : ℝ) ≠ 0 by norm_num), ← EReal.coe_mul]
  congr 1
  rw [Finset.sum_div]
  refine Finset.sum_congr rfl fun b _ => ?_
  rw [gap_rows]
  ring

/-- The reference's result where every pixel's direction is decided. -/
theorem score_at (x y : Im Ideal) (hx : ∀ b r c, decided x (ix4 b 0 r c) = 1#1) (hy : ∀ b r c, decided y (ix4 b 0 r c) = 1#1) :
    score x y ix0 = ((Canny.score (img x) (img y) : ℝ) : EReal) := by
  have t : ∀ (x : Im Ideal), (∀ b r c, decided x (ix4 b 0 r c) = 1#1) → ∀ b, Rep b (thin x) (edges (img x b)) := fun x hx =>
    rep_thin x (img x) (rep_img x hx) (img_clipped x) (decided_at x hx)
  have o : ∀ (x : Im Ideal), (∀ b r c, decided x (ix4 b 0 r c) = 1#1) → ∀ b, Rep b (orient x) (dirs (img x b)) := fun x hx b r c =>
    (rep_orient (rep_img x hx b) (img_clipped x b) r c).trans (congrArg Real.toEReal (ori_agree (decided_at x hx b r c)))
  show apart (thin x) (thin y) ix0 + apart (orient x) (orient y) ix0 = _
  rw [apart_at (t x hx) (t y hy), apart_at (o x hx) (o y hy), ← EReal.coe_add]
  unfold Canny.score
  rw [add_div]

end Cert.ReferenceIdeal.Value

end
-- ==== Proof.Equation.lean ====
/- The equation: the kernel's result and the reference's are the same real number. -/
module

public import proofs.«01_k».proof.Proof.KernelValue
public import proofs.«01_k».proof.Proof.ReferenceValue

@[expose] public section

set_option maxRecDepth 16384

noncomputable section

namespace Cert.Proof

open Idealize.ShloMosaic Cert.ReferenceIdeal.Value

/-- Under the precondition every pixel of both arguments is decided. -/
theorem decided_of_pre {x y : Im Ideal} (h : Cert.Pre_directions_decided.fn (F := Ideal) x y = fun _ => 1#1) :
    (∀ b r c, decided x (ix4 b 0 r c) = 1#1) ∧ ∀ b r c, decided y (ix4 b 0 r c) = 1#1 := by
  have e : ∀ b r c, IntOp.andi (decided x (ix4 b 0 r c)) (decided y (ix4 b 0 r c)) = 1#1 := fun b r c =>
    congrFun ((pre_eq x y).symm.trans h) (ix4 b 0 r c)
  exact ⟨fun b r c => ((andi_one _ _).1 (e b r c)).1, fun b r c => ((andi_one _ _).1 (e b r c)).2⟩

/-- The kernel's result on two arguments that meet the precondition is the reference's. -/
theorem kernel_eq_reference (m : (ℓ : Loc Cert.KernelIdeal.nD Cert.KernelIdeal.τ Cert.KernelIdeal.sig) → Buf (Elt Ideal) ℓ)
    (c : Dev Cert.KernelIdeal.nD) (x y : Im Ideal)
    (hx : m ((c.tc : Thread Cert.KernelIdeal.nD Cert.KernelIdeal.τ).loc Cert.KernelIdeal.main_arg0) = x)
    (hy : m ((c.tc : Thread Cert.KernelIdeal.nD Cert.KernelIdeal.τ).loc Cert.KernelIdeal.main_arg1) = y)
    (h : Cert.Pre_directions_decided.fn (F := Ideal) x y = fun _ => 1#1) :
    Cert.KernelIdeal.Value.tail (Cert.KernelIdeal.Value.total m c) = score x y := by
  obtain ⟨dx, dy⟩ := decided_of_pre h
  funext i
  obtain rfl : i = ix0 := funext fun a => Fin.elim0 a
  exact (Cert.KernelIdeal.Value.tail_at m c (img x) (img y) (img_clipped x) (img_clipped y)
    (fun b r l => (congrFun hx _).trans (rep_img x dx b r l)) (fun b r l => (congrFun hy _).trans (rep_img y dy b r l))).trans
    (score_at x y dx dy).symm

end Cert.Proof

end
-- ==== Proof.lean ====
/- The claims about the kernel, assembled: the three frames, with and without the precondition; the named constants and the
   sign word; and the kernel's result against the reference's. -/
module

public import proofs.«01_k».proof.Defs
public import proofs.«01_k».proof.Proof.Gen.Kernel.Frame
public import proofs.«01_k».proof.Proof.Gen.KernelIdeal.Frame
public import proofs.«01_k».proof.Proof.Equation
public import Idealize.ShloMosaic.Adequacy
public import Idealize.ShloMosaic.Init

@[expose] public section

noncomputable section

namespace Cert.Proof

open Idealize.ShloMosaic Idealize.SL.Sem

/-- The reference program runs, leaves its arguments as they were, and every counter at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The four rewrites: three named constants and the word of one with a value's sign. -/
theorem preserved : Cert.preserves_Kernel_KernelIdeal :=
  ⟨IdealRules.named_const.statement Cert.KernelIdeal.κ "g0" .f32 0x3ECE2434#32 _ rfl,
    IdealRules.named_const.statement Cert.KernelIdeal.κ "g1" .f32 0x3E7A0FEB#32 _ rfl,
    IdealRules.named_const.statement Cert.KernelIdeal.κ "g2" .f32 0x3D5F2F87#32 _ rfl,
    IdealRules.sign_bit.statement _ _⟩

/-- The kernel and the reference end with the same result. -/
theorem algebraic : Cert.algebraic_KernelIdeal_ReferenceIdeal_pre_directions_decided := fun m ρ m' ρ' hp he =>
  ⟨fun c => Cert.KernelIdeal.Value.tail (Cert.KernelIdeal.Value.total m c), Cert.KernelIdeal.Value.run m ρ,
    (θ_run Cert.ReferenceIdeal.defs _ _).mono (fun r h c => ⟨(h c).1.trans (kernel_eq_reference m c _ _ (he c).1.symm (he c).2.symm
      ((congrArg₂ (Cert.Pre_directions_decided.fn (F := Ideal)) (he c).1 (he c).2).trans (hp c))).symm, (h c).2⟩)
      (Cert.ReferenceIdeal.Value.run_ops (F := Ideal) m' ρ')⟩

/-- All the claims. -/
theorem claim : Cert.Claim :=
  ⟨Cert.Kernel.Gen.facts, Cert.KernelIdeal.Gen.facts, Cert.ReferenceIdeal.Gen.facts, Cert.ReferenceIdeal.Value.preFacts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, preserved, algebraic⟩

end Cert.Proof

end
